-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_format [hPre_in_format : Cert.Pre_in_format.Facts] (m : (ℓ : Loc Cert.KernelIdeal.nD Cert.KernelIdeal.τ Cert.KernelIdeal.sig) → Buf (Elt Ideal) ℓ) : Prop :=
  ∀ c : Dev Cert.KernelIdeal.nD,
    (Cert.Pre_in_format.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_format [hPre_in_format : Cert.Pre_in_format.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_format.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_format [hKernelIdeal : Cert.KernelIdeal.Facts] [hPre_in_format : Cert.Pre_in_format.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_format m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_format [hReferenceIdeal : Cert.ReferenceIdeal.Facts] [hPre_in_format : Cert.Pre_in_format.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_format m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "key_gain" .f32 0x3E38AA3B#32 (((Real.sqrt 64)⁻¹ * (Real.log 2)⁻¹ : ℝ) : EReal)

def algebraic_KernelIdeal_ReferenceIdeal_pre_in_format [hKernelIdeal : Cert.KernelIdeal.Facts] [hReferenceIdeal : Cert.ReferenceIdeal.Facts] [hPre_in_format : Cert.Pre_in_format.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_format m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v4)) (v5 : (c : Dev Cert.KernelIdeal.nD) → Buf (Elt Ideal) ((c.tc : Thread Cert.KernelIdeal.nD Cert.KernelIdeal.τ).loc Cert.KernelIdeal.main_v5)) (v6 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_v5) = v5 c
          ∧ r.2.mem ((c.tc : Thread Cert.KernelIdeal.nD Cert.KernelIdeal.τ).loc Cert.KernelIdeal.main_v6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_format : Cert.Pre_in_format.Facts),
    quiescent_Kernel (hKernel := hKernel)
    ∧ quiescent_KernelIdeal (hKernelIdeal := hKernelIdeal)
    ∧ quiescent_KernelIdeal_pre_in_format (hKernelIdeal := hKernelIdeal) (hPre_in_format := hPre_in_format)
    ∧ quiescent_ReferenceIdeal (hReferenceIdeal := hReferenceIdeal)
    ∧ quiescent_ReferenceIdeal_pre_in_format (hReferenceIdeal := hReferenceIdeal) (hPre_in_format := hPre_in_format)
    ∧ preserves_Kernel_KernelIdeal
    ∧ algebraic_KernelIdeal_ReferenceIdeal_pre_in_format (hKernelIdeal := hKernelIdeal) (hReferenceIdeal := hReferenceIdeal) (hPre_in_format := hPre_in_format)
-- ==== Pre_in_format.lean ====
abbrev S4x512x3072 : Shape := ⟨3, ![4, 512, 3072]⟩
abbrev S4x512x384 : Shape := ⟨3, ![4, 512, 384]⟩
abbrev S_ : Shape := ⟨0, ![]⟩

class Facts : Prop where
  bcast_S_S4x512x3072 : S_.BroadcastsInDim S4x512x3072 (![] : Fin 0 → Fin S4x512x3072.rank)
  reducesTo_S4x512x3072_S_d0_1_2 : S4x512x3072.ReducesTo [0, 1, 2] S_
  h_S_ : 0 < S_.numel
  bcast_S_S4x512x384 : S_.BroadcastsInDim S4x512x384 (![] : Fin 0 → Fin S4x512x384.rank)
  reducesTo_S4x512x384_S_d0_1_2 : S4x512x384.ReducesTo [0, 1, 2] S_

variable [Facts]

def fn_part1 {F : FTy → Type} [FloatOps F] (main_arg2 : FVec F S4x512x384 .bf16) (main_v16 : IVec S_ 1) (main_v17 : FVec F S4x512x384 .bf16) : IVec S_ 1 :=
  let main_cst_4 : FVec F S_ .bf16 := constant S_ .bf16 0x7F7F#16
  let main_v18 : FVec F S4x512x384 .bf16 := broadcastInDim S4x512x384 ![] bcast_S_S4x512x384 main_cst_4
  let main_v19 : IVec S4x512x384 1 := cmpf .ole main_v17 main_v18
  let main_v20 : FVec F S4x512x384 .bf16 := Host.absf main_arg2
  let main_cst_5 : FVec F S_ .bf16 := constant S_ .bf16 0x7F80#16
  let main_v21 : FVec F S4x512x384 .bf16 := broadcastInDim S4x512x384 ![] bcast_S_S4x512x384 main_cst_5
  let main_v22 : IVec S4x512x384 1 := cmpf .oeq main_v20 main_v21
  let main_v23 : IVec S4x512x384 1 := ori main_v19 main_v22
  let main_c_6 : IVec S_ 1 := constantI S_ 1 1#1
  let main_v24 : IVec S_ 1 := (fun x v => Host.reduce IntOp.andi x v reducesTo_S4x512x384_S_d0_1_2 h_S_) main_v23 main_c_6
  let main_v25 : IVec S_ 1 := andi main_v16 main_v24
  main_v25

def fn {F : FTy → Type} [FloatOps F] (main_arg0 : FVec F S4x512x3072 .bf16) (main_arg1 : FVec F S4x512x384 .bf16) (main_arg2 : FVec F S4x512x384 .bf16) : IVec S_ 1 :=
  let main_v0 : FVec F S4x512x3072 .bf16 := Host.absf main_arg0
  let main_cst : FVec F S_ .bf16 := constant S_ .bf16 0x7F7F#16
  let main_v1 : FVec F S4x512x3072 .bf16 := broadcastInDim S4x512x3072 ![] bcast_S_S4x512x3072 main_cst
  let main_v2 : IVec S4x512x3072 1 := cmpf .ole main_v0 main_v1
  let main_v3 : FVec F S4x512x3072 .bf16 := Host.absf main_arg0
  let main_cst_0 : FVec F S_ .bf16 := constant S_ .bf16 0x7F80#16
  let main_v4 : FVec F S4x512x3072 .bf16 := broadcastInDim S4x512x3072 ![] bcast_S_S4x512x3072 main_cst_0
  let main_v5 : IVec S4x512x3072 1 := cmpf .oeq main_v3 main_v4
  let main_v6 : IVec S4x512x3072 1 := ori main_v2 main_v5
  let main_c : IVec S_ 1 := constantI S_ 1 1#1
  let main_v7 : IVec S_ 1 := (fun x v => Host.reduce IntOp.andi x v reducesTo_S4x512x3072_S_d0_1_2 h_S_) main_v6 main_c
  let main_v8 : FVec F S4x512x384 .bf16 := Host.absf main_arg1
  let main_cst_1 : FVec F S_ .bf16 := constant S_ .bf16 0x7F7F#16
  let main_v9 : FVec F S4x512x384 .bf16 := broadcastInDim S4x512x384 ![] bcast_S_S4x512x384 main_cst_1
  let main_v10 : IVec S4x512x384 1 := cmpf .ole main_v8 main_v9
  let main_v11 : FVec F S4x512x384 .bf16 := Host.absf main_arg1
  let main_cst_2 : FVec F S_ .bf16 := constant S_ .bf16 0x7F80#16
  let main_v12 : FVec F S4x512x384 .bf16 := broadcastInDim S4x512x384 ![] bcast_S_S4x512x384 main_cst_2
  let main_v13 : IVec S4x512x384 1 := cmpf .oeq main_v11 main_v12
  let main_v14 : IVec S4x512x384 1 := ori main_v10 main_v13
  let main_c_3 : IVec S_ 1 := constantI S_ 1 1#1
  let main_v15 : IVec S_ 1 := (fun x v => Host.reduce IntOp.andi x v reducesTo_S4x512x384_S_d0_1_2 h_S_) main_v14 main_c_3
  let main_v16 : IVec S_ 1 := andi main_v7 main_v15
  let main_v17 : FVec F S4x512x384 .bf16 := Host.absf main_arg2
  fn_part1 (F := F) main_arg2 main_v16 main_v17
-- ==== Kernel.lean ====
abbrev S4x512x3072 : Shape := ⟨3, ![4, 512, 3072]⟩
abbrev S4x512x384 : Shape := ⟨3, ![4, 512, 384]⟩
abbrev S4x48x64x512 : Shape := ⟨4, ![4, 48, 64, 512]⟩
abbrev S4x2x48x512 : Shape := ⟨4, ![4, 2, 48, 512]⟩
abbrev S4x6x64x512 : Shape := ⟨4, ![4, 6, 64, 512]⟩
abbrev S4x6x2x512 : Shape := ⟨4, ![4, 6, 2, 512]⟩
abbrev S4x6x16x64 : Shape := ⟨4, ![4, 6, 16, 64]⟩
abbrev S1x512x1024 : Shape := ⟨3, ![1, 512, 1024]⟩
abbrev S1x512x128 : Shape := ⟨3, ![1, 512, 128]⟩
abbrev S1x16x64x512 : Shape := ⟨4, ![1, 16, 64, 512]⟩
abbrev S1x2x48x512 : Shape := ⟨4, ![1, 2, 48, 512]⟩
abbrev S1x2x64x512 : Shape := ⟨4, ![1, 2, 64, 512]⟩
abbrev S1x2x2x512 : Shape := ⟨4, ![1, 2, 2, 512]⟩
abbrev S1x2x16x64 : Shape := ⟨4, ![1, 2, 16, 64]⟩
abbrev S2x512x256 : Shape := ⟨3, ![2, 512, 256]⟩
abbrev S2x64x512 : Shape := ⟨3, ![2, 64, 512]⟩
abbrev S2x48x512 : Shape := ⟨3, ![2, 48, 512]⟩
abbrev S512x128 : Shape := ⟨2, ![512, 128]⟩
abbrev S128x512 : Shape := ⟨2, ![128, 512]⟩
abbrev S4x32x512 : Shape := ⟨3, ![4, 32, 512]⟩
abbrev S4x512 : Shape := ⟨2, ![4, 512]⟩
abbrev S4x1x512 : Shape := ⟨3, ![4, 1, 512]⟩
abbrev S64x512 : Shape := ⟨2, ![64, 512]⟩
abbrev S1x1x64x512 : Shape := ⟨4, ![1, 1, 64, 512]⟩
abbrev S2x512 : Shape := ⟨2, ![2, 512]⟩
abbrev S1x1x2x512 : Shape := ⟨4, ![1, 1, 2, 512]⟩
abbrev S256x512 : Shape := ⟨2, ![256, 512]⟩
abbrev S512x256 : Shape := ⟨2, ![512, 256]⟩
abbrev S1x512x256 : Shape := ⟨3, ![1, 512, 256]⟩
abbrev S16x32x128 : Shape := ⟨3, ![16, 32, 128]⟩
abbrev S16x128 : Shape := ⟨2, ![16, 128]⟩
abbrev S16x1x128 : Shape := ⟨3, ![16, 1, 128]⟩
abbrev S1x64x512 : Shape := ⟨3, ![1, 64, 512]⟩
abbrev S16x64 : Shape := ⟨2, ![16, 64]⟩
abbrev S1x1x16x64 : Shape := ⟨4, ![1, 1, 16, 64]⟩
abbrev S1x512 : Shape := ⟨2, ![1, 512]⟩
abbrev S1x1x512 : Shape := ⟨3, ![1, 1, 512]⟩
abbrev S64x256 : Shape := ⟨2, ![64, 256]⟩
abbrev S256x256 : Shape := ⟨2, ![256, 256]⟩
abbrev S256 : Shape := ⟨1, ![256]⟩
abbrev S1x256 : Shape := ⟨2, ![1, 256]⟩
abbrev S4x512x48x64 : Shape := ⟨4, ![4, 512, 48, 64]⟩
abbrev S4x512x48x2 : Shape := ⟨4, ![4, 512, 48, 2]⟩
abbrev S4x512x6x64 : Shape := ⟨4, ![4, 512, 6, 64]⟩
abbrev S4x512x6x2 : Shape := ⟨4, ![4, 512, 6, 2]⟩
abbrev S4x16x6x64 : Shape := ⟨4, ![4, 16, 6, 64]⟩

abbrev nBuf : Space → Nat
  | .hbm => 16
  | .vmem => 23
  | .smem => 0
  | _ => 0

abbrev bufTy : (tb : Table) → Fin (tcTables nBuf tb) → BufTy
  | .hbm, ⟨0, _⟩ => ⟨S4x512x3072, .bf16⟩
  | .hbm, ⟨1, _⟩ => ⟨S4x512x384, .bf16⟩
  | .hbm, ⟨2, _⟩ => ⟨S4x512x384, .bf16⟩
  | .hbm, ⟨3, _⟩ => ⟨S4x512x3072, .bf16⟩
  | .hbm, ⟨4, _⟩ => ⟨S4x48x64x512, .fp8e4m3⟩
  | .hbm, ⟨5, _⟩ => ⟨S4x2x48x512, .i8⟩
  | .hbm, ⟨6, _⟩ => ⟨S4x6x64x512, .fp8e4m3⟩
  | .hbm, ⟨7, _⟩ => ⟨S4x6x2x512, .i8⟩
  | .hbm, ⟨8, _⟩ => ⟨S4x6x64x512, .fp8e4m3⟩
  | .hbm, ⟨9, _⟩ => ⟨S4x6x16x64, .i8⟩
  | .hbm, ⟨10, _⟩ => ⟨S4x512x48x64, .fp8e4m3⟩
  | .hbm, ⟨11, _⟩ => ⟨S4x512x48x2, .i8⟩
  | .hbm, ⟨12, _⟩ => ⟨S4x512x6x64, .fp8e4m3⟩
  | .hbm, ⟨13, _⟩ => ⟨S4x512x6x2, .i8⟩
  | .hbm, ⟨14, _⟩ => ⟨S4x512x6x64, .fp8e4m3⟩
  | .hbm, ⟨15, _⟩ => ⟨S4x16x6x64, .i8⟩
  | .local _ .vmem, ⟨0, _⟩ => ⟨S1x512x1024, .bf16⟩
  | .local _ .vmem, ⟨1, _⟩ => ⟨S1x512x1024, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x16x64x512, .fp8e4m3⟩
  | .local _ .vmem, ⟨9, _⟩ => ⟨S1x16x64x512, .fp8e4m3⟩
  | .local _ .vmem, ⟨10, _⟩ => ⟨S1x2x48x512, .i8⟩
  | .local _ .vmem, ⟨11, _⟩ => ⟨S1x2x48x512, .i8⟩
  | .local _ .vmem, ⟨12, _⟩ => ⟨S1x2x64x512, .fp8e4m3⟩
  | .local _ .vmem, ⟨13, _⟩ => ⟨S1x2x64x512, .fp8e4m3⟩
  | .local _ .vmem, ⟨14, _⟩ => ⟨S1x2x2x512, .i8⟩
  | .local _ .vmem, ⟨15, _⟩ => ⟨S1x2x2x512, .i8⟩
  | .local _ .vmem, ⟨16, _⟩ => ⟨S1x2x64x512, .fp8e4m3⟩
  | .local _ .vmem, ⟨17, _⟩ => ⟨S1x2x64x512, .fp8e4m3⟩
  | .local _ .vmem, ⟨18, _⟩ => ⟨S1x2x16x64, .i8⟩
  | .local _ .vmem, ⟨19, _⟩ => ⟨S1x2x16x64, .i8⟩
  | .local _ .vmem, ⟨20, _⟩ => ⟨S2x512x256, .bf16⟩
  | .local _ .vmem, ⟨21, _⟩ => ⟨S2x64x512, .bf16⟩
  | .local _ .vmem, ⟨22, _⟩ => ⟨S2x48x512, .i32⟩
  | _, _ => ⟨S4x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 3], ![false, false]⟩

@[reducible] def k0_t1_loop : Scf.Loop 32 :=
  let c0_i32_96 : BitVec 32 := 0#32
  let c8_i32_97 : BitVec 32 := 8#32
  let v281 : BitVec 32 := Scalar.addi c0_i32_96 c8_i32_97
  let c1_i32_98 : BitVec 32 := 1#32
  ⟨c0_i32_96, v281, c1_i32_98⟩
def k0_mult1 (k0_t1 : Fin k0_t1_loop.trips) : BitVec 32 :=
  let c0_i32_96 : BitVec 32 := 0#32
  let c1_i32_98 : BitVec 32 := 1#32
  let arg15 : BitVec 32 := Scf.iv c0_i32_96 c1_i32_98 k0_t1
  let c128_i32_102 : BitVec 32 := 128#32
  let v285 : BitVec 32 := Scalar.muli arg15 c128_i32_102
  v285
def k0_off1 (k0_t1 : Fin k0_t1_loop.trips) : Fin 3 → Nat :=
  let c0_110 : Index := 0#32
  let c0_111 : Index := 0#32
  let c0_i32_96 : BitVec 32 := 0#32
  let c1_i32_98 : BitVec 32 := 1#32
  let arg15 : BitVec 32 := Scf.iv c0_i32_96 c1_i32_98 k0_t1
  let c128_i32_102 : BitVec 32 := 128#32
  let v285 : BitVec 32 := Scalar.muli arg15 c128_i32_102
  let v286 : BitVec 32 := v285
  let v304 : Index := Scalar.indexCast v286
  ![0, 0, v304.toNat]
def k0_off2 (k0_t1 : Fin k0_t1_loop.trips) (c0_i32_142 : BitVec 32) : Fin 4 → Nat :=
  let c0_143 : Index := 0#32
  let c2_i32_141 : BitVec 32 := 2#32
  let c0_i32_96 : BitVec 32 := 0#32
  let c1_i32_98 : BitVec 32 := 1#32
  let arg15 : BitVec 32 := Scf.iv c0_i32_96 c1_i32_98 k0_t1
  let v406 : BitVec 32 := Scalar.muli c2_i32_141 arg15
  let v407 : BitVec 32 := Scalar.addi v406 c0_i32_142
  let v408 : Index := Scalar.indexCast v407
  let c0_144 : Index := 0#32
  let c0_145 : Index := 0#32
  ![0, v408.toNat, 0, 0]
def k0_off3 (i : grid0.Coords) (k0_t1 : Fin k0_t1_loop.trips) (c0_i32_148 : BitVec 32) : Fin 3 → Nat :=
  let c0_149 : Index := 0#32
  let arg1 : BitVec 32 := BitVec.ofNat 32 (i 1).val
  let c16_i32_146 : BitVec 32 := 16#32
  let v413 : BitVec 32 := Scalar.muli arg1 c16_i32_146
  let c2_i32_147 : BitVec 32 := 2#32
  let c0_i32_96 : BitVec 32 := 0#32
  let c1_i32_98 : BitVec 32 := 1#32
  let arg15 : BitVec 32 := Scf.iv c0_i32_96 c1_i32_98 k0_t1
  let v414 : BitVec 32 := Scalar.muli c2_i32_147 arg15
  let v415 : BitVec 32 := Scalar.addi v413 v414
  let v416 : BitVec 32 := Scalar.addi v415 c0_i32_148
  let v417 : Index := Scalar.indexCast v416
  let c0_150 : Index := 0#32
  ![0, v417.toNat, 0]
def k0_off4 (i : grid0.Coords) (k0_t1 : Fin k0_t1_loop.trips) (c0_i32_153 : BitVec 32) : Fin 3 → Nat :=
  let c1_154 : Index := 1#32
  let arg1 : BitVec 32 := BitVec.ofNat 32 (i 1).val
  let c16_i32_151 : BitVec 32 := 16#32
  let v422 : BitVec 32 := Scalar.muli arg1 c16_i32_151
  let c2_i32_152 : BitVec 32 := 2#32
  let c0_i32_96 : BitVec 32 := 0#32
  let c1_i32_98 : BitVec 32 := 1#32
  let arg15 : BitVec 32 := Scf.iv c0_i32_96 c1_i32_98 k0_t1
  let v423 : BitVec 32 := Scalar.muli c2_i32_152 arg15
  let v424 : BitVec 32 := Scalar.addi v422 v423
  let v425 : BitVec 32 := Scalar.addi v424 c0_i32_153
  let v426 : Index := Scalar.indexCast v425
  let c0_155 : Index := 0#32
  ![1, v426.toNat, 0]
def k0_off5 (k0_t1 : Fin k0_t1_loop.trips) : Fin 3 → Nat :=
  let c0_i32_96 : BitVec 32 := 0#32
  let c1_i32_98 : BitVec 32 := 1#32
  let arg15 : BitVec 32 := Scf.iv c0_i32_96 c1_i32_98 k0_t1
  let c0_i32_104 : BitVec 32 := 0#32
  let v288 : BitVec 1 := Scalar.cmpi .sgt arg15 c0_i32_104
  let v289 : BitVec 32 := Scalar.extui v288
  let c0_i32_105 : BitVec 32 := 0#32
  let v290 : BitVec 1 := Scalar.cmpi .slt arg15 c0_i32_105
  let v291 : BitVec 32 := Scalar.extui v290
  let v292 : BitVec 32 := Scalar.subi v289 v291
  let c4_i32_103 : BitVec 32 := 4#32
  let c0_i32_106 : BitVec 32 := 0#32
  let v293 : BitVec 1 := Scalar.cmpi .sgt c4_i32_103 c0_i32_106
  let v294 : BitVec 32 := Scalar.extui v293
  let c0_i32_107 : BitVec 32 := 0#32
  let v295 : BitVec 1 := Scalar.cmpi .slt c4_i32_103 c0_i32_107
  let v296 : BitVec 32 := Scalar.extui v295
  let v297 : BitVec 32 := Scalar.subi v294 v296
  let v298 : BitVec 1 := Scalar.cmpi .ne v292 v297
  let v299 : BitVec 32 := Scalar.remsi arg15 c4_i32_103
  let c0_i32_108 : BitVec 32 := 0#32
  let v300 : BitVec 1 := Scalar.cmpi .ne v299 c0_i32_108
  let v301 : BitVec 1 := Scalar.andi v298 v300
  let v287 : BitVec 32 := Scalar.divsi arg15 c4_i32_103
  let c1_i32_109 : BitVec 32 := 1#32
  let v302 : BitVec 32 := Scalar.subi v287 c1_i32_109
  let v303 : BitVec 32 := Scalar.select v301 v302 v287
  let v432 : Index := Scalar.indexCast v303
  let c0_156 : Index := 0#32
  let c0_157 : Index := 0#32
  ![v432.toNat, 0, 0]
def k0_off6 (k0_t1 : Fin k0_t1_loop.trips) : Fin 3 → Nat :=
  let c0_i32_96 : BitVec 32 := 0#32
  let c1_i32_98 : BitVec 32 := 1#32
  let arg15 : BitVec 32 := Scf.iv c0_i32_96 c1_i32_98 k0_t1
  let c0_i32_104 : BitVec 32 := 0#32
  let v288 : BitVec 1 := Scalar.cmpi .sgt arg15 c0_i32_104
  let v289 : BitVec 32 := Scalar.extui v288
  let c0_i32_105 : BitVec 32 := 0#32
  let v290 : BitVec 1 := Scalar.cmpi .slt arg15 c0_i32_105
  let v291 : BitVec 32 := Scalar.extui v290
  let v292 : BitVec 32 := Scalar.subi v289 v291
  let c4_i32_103 : BitVec 32 := 4#32
  let c0_i32_106 : BitVec 32 := 0#32
  let v293 : BitVec 1 := Scalar.cmpi .sgt c4_i32_103 c0_i32_106
  let v294 : BitVec 32 := Scalar.extui v293
  let c0_i32_107 : BitVec 32 := 0#32
  let v295 : BitVec 1 := Scalar.cmpi .slt c4_i32_103 c0_i32_107
  let v296 : BitVec 32 := Scalar.extui v295
  let v297 : BitVec 32 := Scalar.subi v294 v296
  let v298 : BitVec 1 := Scalar.cmpi .ne v292 v297
  let v299 : BitVec 32 := Scalar.remsi arg15 c4_i32_103
  let c0_i32_108 : BitVec 32 := 0#32
  let v300 : BitVec 1 := Scalar.cmpi .ne v299 c0_i32_108
  let v301 : BitVec 1 := Scalar.andi v298 v300
  let v287 : BitVec 32 := Scalar.divsi arg15 c4_i32_103
  let c1_i32_109 : BitVec 32 := 1#32
  let v302 : BitVec 32 := Scalar.subi v287 c1_i32_109
  let v303 : BitVec 32 := Scalar.select v301 v302 v287
  let v450 : Index := Scalar.indexCast v303
  let c0_164 : Index := 0#32
  let c0_165 : Index := 0#32
  ![v450.toNat, 0, 0]
def k0_cond1 (i : grid0.Coords) : BitVec 1 :=
  let arg1 : BitVec 32 := BitVec.ofNat 32 (i 1).val
  let c2_i32_100 : BitVec 32 := 2#32
  let v282 : BitVec 1 := Scalar.cmpi .eq arg1 c2_i32_100
  let v283 : BitVec 32 := Scalar.extui v282
  let c0_i32_101 : BitVec 32 := 0#32
  let v284 : BitVec 1 := Scalar.cmpi .ne v283 c0_i32_101
  v284

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x48x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x64x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x2x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x64x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x16x64 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "key_gain" => some (((Real.sqrt 64)⁻¹ * (Real.log 2)⁻¹ : ℝ) : EReal)
  | _ => none
-- ==== ReferenceIdeal.lean ====
abbrev S4x512x3072 : Shape := ⟨3, ![4, 512, 3072]⟩
abbrev S4x512x384 : Shape := ⟨3, ![4, 512, 384]⟩
abbrev S4x512x48x64 : Shape := ⟨4, ![4, 512, 48, 64]⟩
abbrev S4x512x48x2 : Shape := ⟨4, ![4, 512, 48, 2]⟩
abbrev S4x512x6x64 : Shape := ⟨4, ![4, 512, 6, 64]⟩
abbrev S4x512x6x2 : Shape := ⟨4, ![4, 512, 6, 2]⟩
abbrev S4x16x6x64 : Shape := ⟨4, ![4, 16, 6, 64]⟩
abbrev S4x512x48x2x32 : Shape := ⟨5, ![4, 512, 48, 2, 32]⟩
abbrev S4x512x48x2x1 : Shape := ⟨5, ![4, 512, 48, 2, 1]⟩
abbrev S4x512x6x2x32 : Shape := ⟨5, ![4, 512, 6, 2, 32]⟩
abbrev S4x512x6x2x1 : Shape := ⟨5, ![4, 512, 6, 2, 1]⟩
abbrev S4x16x32x6x64 : Shape := ⟨5, ![4, 16, 32, 6, 64]⟩
abbrev S4x16x1x6x64 : Shape := ⟨5, ![4, 16, 1, 6, 64]⟩
abbrev S4x512x6x8x64 : Shape := ⟨5, ![4, 512, 6, 8, 64]⟩
abbrev S4x6x512x512x8 : Shape := ⟨5, ![4, 6, 512, 512, 8]⟩
abbrev S4x6x8x512x512 : Shape := ⟨5, ![4, 6, 8, 512, 512]⟩
abbrev S4x6x8x512 : Shape := ⟨4, ![4, 6, 8, 512]⟩
abbrev S4x6x8x512x1 : Shape := ⟨5, ![4, 6, 8, 512, 1]⟩
abbrev S4x6x64x8x512 : Shape := ⟨5, ![4, 6, 64, 8, 512]⟩
abbrev S4x512x6x8 : Shape := ⟨4, ![4, 512, 6, 8]⟩
abbrev S4x512x6x8x1 : Shape := ⟨5, ![4, 512, 6, 8, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x512x3072, .bf16⟩
  | .hbm, ⟨1, _⟩ => ⟨S4x512x384, .bf16⟩
  | .hbm, ⟨2, _⟩ => ⟨S4x512x384, .bf16⟩
  | .hbm, ⟨3, _⟩ => ⟨S4x512x3072, .bf16⟩
  | .hbm, ⟨4, _⟩ => ⟨S4x512x48x64, .fp8e4m3⟩
  | .hbm, ⟨5, _⟩ => ⟨S4x512x48x2, .i8⟩
  | .hbm, ⟨6, _⟩ => ⟨S4x512x6x64, .fp8e4m3⟩
  | .hbm, ⟨7, _⟩ => ⟨S4x512x6x2, .i8⟩
  | .hbm, ⟨8, _⟩ => ⟨S4x512x6x64, .fp8e4m3⟩
  | .hbm, ⟨9, _⟩ => ⟨S4x16x6x64, .i8⟩
  | .local _ .vmem, ⟨0, _⟩ => ⟨S4x512x3072, .bf16⟩
  | .local _ .vmem, ⟨1, _⟩ => ⟨S4x512x384, .bf16⟩
  | .local _ .vmem, ⟨2, _⟩ => ⟨S4x512x384, .bf16⟩
  | .local _ .vmem, ⟨3, _⟩ => ⟨S4x512x3072, .bf16⟩
  | .local _ .vmem, ⟨4, _⟩ => ⟨S4x512x48x64, .fp8e4m3⟩
  | .local _ .vmem, ⟨5, _⟩ => ⟨S4x512x48x2, .i8⟩
  | .local _ .vmem, ⟨6, _⟩ => ⟨S4x512x6x64, .fp8e4m3⟩
  | .local _ .vmem, ⟨7, _⟩ => ⟨S4x512x6x2, .i8⟩
  | .local _ .vmem, ⟨8, _⟩ => ⟨S4x512x6x64, .fp8e4m3⟩
  | .local _ .vmem, ⟨9, _⟩ => ⟨S4x16x6x64, .i8⟩
  | _, _ => ⟨S4x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S4x512x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x48x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x48x2 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x6x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512x6x2 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x512x6x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x16x6x64 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.PTrip.lean ====
/- One trip of the kernel's loop over the head pairs: the pieces that it stores, as explicit lists. This is `KTrip` for the program whose constants are not named. -/
module

public import proofs.«01_k».proof.Proof.Gen.Kernel.Loops
public import proofs.«01_k».proof.Proof.Gen.Kernel.Points
public import Idealize.ShloMosaic.Lib.Writes
public import Idealize.ShloMosaic.Lib.WritesUnit
public import Idealize.ShloMosaic.Lib.WholeRead
public import Idealize.ShloMosaic.Lib.PointwiseCore

@[expose] public section

set_option maxRecDepth 16384

noncomputable section

namespace Cert.Kernel.Own

open Idealize.ShloMosaic Idealize.ShloMosaic.TcCoe Idealize.ShloMosaic.Tactic
open Idealize.SL Idealize.SL.RA Idealize.SL.BI Idealize.SL.Sem
open Cert.Kernel.Gen

variable {F : FTy → Type} [FloatOps F]

/-! ## The quantiser of the queries on one slab of 128 columns -/

/-- The exponent field that the search finds, before the two exceptional fields are replaced. -/
def fq (v : Vec F S1x512x128 .bf16) : IVec S4x1x512 32 := k0_pay7 (k0_pay3 v) (k0_pay4 v) (k0_pay5 v) (k0_pay6 v)
/-- Whether that field is zero. -/
def fz (v : Vec F S1x512x128 .bf16) : IVec S4x1x512 1 := k0_pay8 (k0_pay3 v) (k0_pay4 v) (k0_pay5 v) (k0_pay6 v)
/-- The codes of the slab, transposed. -/
def qc (v : Vec F S1x512x128 .bf16) : FVec F S128x512 .fp8e4m3 := k0_pay11 (k0_pay2 v) (fq v) (fz v)
/-- The dequantised slab, transposed. -/
def qd (v : Vec F S1x512x128 .bf16) : FVec F S128x512 .bf16 := k0_pay12 (k0_pay2 v) (fq v) (fz v)
/-- The stored exponents of the slab. -/
def qe (v : Vec F S1x512x128 .bf16) : IVec S4x512 32 := k0_pay13 (fq v) (fz v)
/-- The attention of the slab's two heads against one key matrix and one value matrix. -/
def at2 (v : Vec F S1x512x128 .bf16) (K : Vec F S1x512x256 .bf16) (W : Vec F S1x64x512 .bf16) : FVec F S1x512x128 .bf16 :=
  k0_pay62 (qd v) (k0_pay19 (qd v) (k0_pay18 (qd v) K W) K W) (k0_pay24 (qd v) K W) K W

section
variable (i : grid0.Coords) (arg2 : Memref sig .tc .vmem S1x512x1024 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x16x64x512 .fp8e4m3) (harg6 : arg6.IsWhole) (arg7 : Memref sig .tc .vmem S1x2x48x512 .i8) (harg7 : arg7.IsWhole) (arg8 : Memref sig .tc .vmem S1x2x64x512 .fp8e4m3) (harg8 : arg8.IsWhole) (arg9 : Memref sig .tc .vmem S1x2x2x512 .i8) (harg9 : arg9.IsWhole) (arg10 : Memref sig .tc .vmem S1x2x64x512 .fp8e4m3) (harg10 : arg10.IsWhole) (arg11 : Memref sig .tc .vmem S1x2x16x64 .i8) (harg11 : arg11.IsWhole) (arg12 : Memref sig .tc .vmem S2x512x256 .bf16) (harg12 : arg12.IsWhole) (arg13 : Memref sig .tc .vmem S2x64x512 .bf16) (harg13 : arg13.IsWhole) (arg14 : Memref sig .tc .vmem S2x48x512 .i32) (harg14 : arg14.IsWhole)

theorem tripL_eq (𝒱 : Variants) (c : Dev nD) (bd : Option 𝒱.V) (arg1 : BitVec 32) (X2 : BufTy.Contents (Elt F) arg2.view.ty) (X12 : BufTy.Contents (Elt F) arg12.view.ty) (X13 : BufTy.Contents (Elt F) arg13.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 k
      = let v : Vec F S1x512x128 .bf16 := arg2.view.readAt (Elt F) (Rect.unit (s := S1x512x1024) (k0_off1 k) S1x512x128.size (k0_off1_inb k)).toLoadRect X2
        let K : Vec F S1x512x256 .bf16 := arg12.view.readAt (Elt F) (Rect.unit (s := S2x512x256) (k0_off5 k) S1x512x256.size (k0_off5_inb k)).toLoadRect X12
        let W : Vec F S1x64x512 .bf16 := arg13.view.readAt (Elt F) (Rect.unit (s := S2x64x512) (k0_off6 k) S1x64x512.size (k0_off6_inb k)).toLoadRect X13
        ([⟨Rect.unit (s := S1x512x1024) (k0_off1 k) S1x512x128.size (k0_off1_inb k), at2 v K W⟩],
         [⟨Rect.unit (s := S1x16x64x512) (k0_off2 k 1#32) S1x1x64x512.size (k0_off2_inb k 1), k0_pay20 (qc v)⟩,
          ⟨Rect.unit (s := S1x16x64x512) (k0_off2 k 0#32) S1x1x64x512.size (k0_off2_inb k 0), k0_pay14 (k0_pay2 v) (fq v) (fz v)⟩],
         [⟨Rect.unit (s := S2x48x512) (k0_off4 i k 1#32) S1x1x512.size (k0_off4_inb i k 1), k0_pay23 (qe v)⟩,
          ⟨Rect.unit (s := S2x48x512) (k0_off3 i k 1#32) S1x1x512.size (k0_off3_inb i k 1), k0_pay22 (k0_pay21 (qe v))⟩,
          ⟨Rect.unit (s := S2x48x512) (k0_off4 i k 0#32) S1x1x512.size (k0_off4_inb i k 0), k0_pay17 (qe v)⟩,
          ⟨Rect.unit (s := S2x48x512) (k0_off3 i k 0#32) S1x1x512.size (k0_off3_inb i k 0), k0_pay16 (k0_pay15 (fq v) (fz v))⟩]) := by
  unfold tripL_k0_t1 trip_k0_t1
  rfl
end

end Cert.Kernel.Own

end
-- ==== Proof.PBlock.lean ====
/- What the loop over the head pairs leaves in the buffers that it stores into, as one function of the buffers it reads. This is `KBlock` for the program whose constants are not named. -/
module

public import proofs.«01_k».proof.Proof.PTrip
public import Idealize.ShloMosaic.Lib.Pipeline.ValueKit.Geometry

@[expose] public section

set_option maxRecDepth 16384

noncomputable section

namespace Cert.Kernel.Own

open Idealize.ShloMosaic Idealize.ShloMosaic.TcCoe Idealize.ShloMosaic.Tactic
open Idealize.SL Idealize.SL.RA Idealize.SL.BI Idealize.SL.Sem
open Cert.Kernel.Gen

variable {F : FTy → Type} [FloatOps F]

/-- Columns `128 k` to `128 k + 127` of a block of queries. -/
def slab (x : Vec F S1x512x1024 .bf16) (k : Fin 8) : Vec F S1x512x128 .bf16 :=
  fun j => x (ix3 0 (j 1) ⟨128 * k.val + (j 2).val, by have := (j 2).isLt; have : (j 2).val < 128 := this; omega⟩)
/-- One of the two key matrices. -/
def kslab (x : Vec F S2x512x256 .bf16) (g : Fin 2) : Vec F S1x512x256 .bf16 := fun j => x (ix3 g (j 1) (j 2))
/-- One of the two value matrices. -/
def vslab (x : Vec F S2x64x512 .bf16) (g : Fin 2) : Vec F S1x64x512 .bf16 := fun j => x (ix3 g (j 1) (j 2))

/-- The attention of a block of queries. -/
def outB (x : Vec F S1x512x1024 .bf16) (KM : Vec F S2x512x256 .bf16) (VM : Vec F S2x64x512 .bf16) : Vec F S1x512x1024 .bf16 :=
  fun y => at2 (slab x ⟨(y 2).val / 128, by have : (y 2).val < 1024 := (y 2).isLt; omega⟩)
    (kslab KM ⟨(y 2).val / 512, by have : (y 2).val < 1024 := (y 2).isLt; omega⟩)
    (vslab VM ⟨(y 2).val / 512, by have : (y 2).val < 1024 := (y 2).isLt; omega⟩)
    (ix3 0 (y 1) ⟨(y 2).val % 128, Nat.mod_lt _ (by decide)⟩)
/-- The codes of a block of queries. -/
def qcB (x : Vec F S1x512x1024 .bf16) : Vec F S1x16x64x512 .fp8e4m3 :=
  fun y => qc (slab x ⟨(y 1).val / 2, by have : (y 1).val < 16 := (y 1).isLt; omega⟩)
    (ix2 ⟨64 * ((y 1).val % 2) + (y 2).val, by have : (y 2).val < 64 := (y 2).isLt; omega⟩ (y 3))
/-- The stored exponents of a block of queries, by the head within the block. -/
def qeB (x : Vec F S1x512x1024 .bf16) (n : Fin 2) (r : Fin 16) (s : Fin 512) : BitVec 32 :=
  qe (slab x ⟨r.val / 2, by omega⟩) (ix2 ⟨2 * (r.val % 2) + n.val, by omega⟩ s)

/-- The rows of exponents of one block of queries put over what the accumulator held. -/
def upd (i : grid0.Coords) (x : Vec F S1x512x1024 .bf16) (d : Vec F S2x48x512 .i32) : Vec F S2x48x512 .i32 :=
  fun y => if h : 16 * (i 1).val ≤ (y 1).val ∧ (y 1).val < 16 * (i 1).val + 16 then qeB x (y 0) ⟨(y 1).val - 16 * (i 1).val, by omega⟩ (y 2) else d y

theorem trips_eq : k0_t1_loop.trips = 8 := by decide
theorem klt (k : Fin k0_t1_loop.trips) : k.val < 8 := lt_of_lt_of_eq k.isLt trips_eq
theorem off5_eq : ∀ k : Fin k0_t1_loop.trips, k0_off5 k = ![k.val / 4, 0, 0] := by decide +kernel
theorem off6_eq : ∀ k : Fin k0_t1_loop.trips, k0_off6 k = ![k.val / 4, 0, 0] := by decide +kernel

theorem idx3_ext {n0 n1 n2 : ℕ} {a b : (⟨3, ![n0, n1, n2]⟩ : Shape).Idx} (h0 : (a 0).val = (b 0).val) (h1 : (a 1).val = (b 1).val) (h2 : (a 2).val = (b 2).val) : a = b := by
  funext i; match i with
  | ⟨0, _⟩ => exact Fin.ext h0
  | ⟨1, _⟩ => exact Fin.ext h1
  | ⟨2, _⟩ => exact Fin.ext h2
theorem idx4_ext {n0 n1 n2 n3 : ℕ} {a b : (⟨4, ![n0, n1, n2, n3]⟩ : Shape).Idx} (h0 : (a 0).val = (b 0).val) (h1 : (a 1).val = (b 1).val) (h2 : (a 2).val = (b 2).val) (h3 : (a 3).val = (b 3).val) : a = b := by
  funext i; match i with
  | ⟨0, _⟩ => exact Fin.ext h0
  | ⟨1, _⟩ => exact Fin.ext h1
  | ⟨2, _⟩ => exact Fin.ext h2
  | ⟨3, _⟩ => exact Fin.ext h3

theorem ld1 (v : View sig .tc .vmem S1x512x1024 .bf16) (X : BufTy.Contents (Elt F) v.ty) (k : Fin k0_t1_loop.trips) :
    v.readAt (Elt F) (Rect.unit (s := S1x512x1024) (k0_off1 k) S1x512x128.size (k0_off1_inb k)).toLoadRect X
      = slab (v.read (Elt F) X) (k.cast trips_eq) := by
  funext j
  show v.read (Elt F) X _ = v.read (Elt F) X _
  congr 1
  refine idx3_ext ?_ ?_ ?_
  · have h : (j 0).val < 1 := (j 0).isLt
    have e : k0_off1 k 0 = 0 := congrFun (k0_off1_eq k) 0
    refine (ValueKit.rect_emb_unit_val (s := S1x512x1024) (k0_off1 k) S1x512x128.size (k0_off1_inb k) j 0).trans ?_
    show k0_off1 k 0 + (j 0).val = 0; omega
  · have e : k0_off1 k 1 = 0 := congrFun (k0_off1_eq k) 1
    refine (ValueKit.rect_emb_unit_val (s := S1x512x1024) (k0_off1 k) S1x512x128.size (k0_off1_inb k) j 1).trans ?_
    show k0_off1 k 1 + (j 1).val = (j 1).val; omega
  · have e : k0_off1 k 2 = 128 * k.val := congrFun (k0_off1_eq k) 2
    refine (ValueKit.rect_emb_unit_val (s := S1x512x1024) (k0_off1 k) S1x512x128.size (k0_off1_inb k) j 2).trans ?_
    show k0_off1 k 2 + (j 2).val = 128 * k.val + (j 2).val; omega
theorem ld5 (v : View sig .tc .vmem S2x512x256 .bf16) (X : BufTy.Contents (Elt F) v.ty) (k : Fin k0_t1_loop.trips) :
    v.readAt (Elt F) (Rect.unit (s := S2x512x256) (k0_off5 k) S1x512x256.size (k0_off5_inb k)).toLoadRect X
      = kslab (v.read (Elt F) X) ⟨k.val / 4, by have := klt k; omega⟩ := by
  funext j
  show v.read (Elt F) X _ = v.read (Elt F) X _
  congr 1
  refine idx3_ext ?_ ?_ ?_
  · have h : (j 0).val < 1 := (j 0).isLt
    have e : k0_off5 k 0 = k.val / 4 := congrFun (off5_eq k) 0
    refine (ValueKit.rect_emb_unit_val (s := S2x512x256) (k0_off5 k) S1x512x256.size (k0_off5_inb k) j 0).trans ?_
    show k0_off5 k 0 + (j 0).val = k.val / 4; omega
  · have e : k0_off5 k 1 = 0 := congrFun (off5_eq k) 1
    refine (ValueKit.rect_emb_unit_val (s := S2x512x256) (k0_off5 k) S1x512x256.size (k0_off5_inb k) j 1).trans ?_
    show k0_off5 k 1 + (j 1).val = (j 1).val; omega
  · have e : k0_off5 k 2 = 0 := congrFun (off5_eq k) 2
    refine (ValueKit.rect_emb_unit_val (s := S2x512x256) (k0_off5 k) S1x512x256.size (k0_off5_inb k) j 2).trans ?_
    show k0_off5 k 2 + (j 2).val = (j 2).val; omega
theorem ld6 (v : View sig .tc .vmem S2x64x512 .bf16) (X : BufTy.Contents (Elt F) v.ty) (k : Fin k0_t1_loop.trips) :
    v.readAt (Elt F) (Rect.unit (s := S2x64x512) (k0_off6 k) S1x64x512.size (k0_off6_inb k)).toLoadRect X
      = vslab (v.read (Elt F) X) ⟨k.val / 4, by have := klt k; omega⟩ := by
  funext j
  show v.read (Elt F) X _ = v.read (Elt F) X _
  congr 1
  refine idx3_ext ?_ ?_ ?_
  · have h : (j 0).val < 1 := (j 0).isLt
    have e : k0_off6 k 0 = k.val / 4 := congrFun (off6_eq k) 0
    refine (ValueKit.rect_emb_unit_val (s := S2x64x512) (k0_off6 k) S1x64x512.size (k0_off6_inb k) j 0).trans ?_
    show k0_off6 k 0 + (j 0).val = k.val / 4; omega
  · have e : k0_off6 k 1 = 0 := congrFun (off6_eq k) 1
    refine (ValueKit.rect_emb_unit_val (s := S2x64x512) (k0_off6 k) S1x64x512.size (k0_off6_inb k) j 1).trans ?_
    show k0_off6 k 1 + (j 1).val = (j 1).val; omega
  · have e : k0_off6 k 2 = 0 := congrFun (off6_eq k) 2
    refine (ValueKit.rect_emb_unit_val (s := S2x64x512) (k0_off6 k) S1x64x512.size (k0_off6_inb k) j 2).trans ?_
    show k0_off6 k 2 + (j 2).val = (j 2).val; omega

theorem emb1 (k : Fin k0_t1_loop.trips) (x : S1x512x128.Idx) :
    (Rect.unit (s := S1x512x1024) (k0_off1 k) S1x512x128.size (k0_off1_inb k)).emb x
      = (ix3 0 (x 1) ⟨128 * k.val + (x 2).val, by have := klt k; have : (x 2).val < 128 := (x 2).isLt; omega⟩ : S1x512x1024.Idx) := by
  have h : (x 0).val < 1 := (x 0).isLt
  have e0 : k0_off1 k 0 = 0 := congrFun (k0_off1_eq k) 0
  have e1 : k0_off1 k 1 = 0 := congrFun (k0_off1_eq k) 1
  have e2 : k0_off1 k 2 = 128 * k.val := congrFun (k0_off1_eq k) 2
  refine idx3_ext ?_ ?_ ?_
  · refine (ValueKit.rect_emb_unit_val (s := S1x512x1024) (k0_off1 k) S1x512x128.size (k0_off1_inb k) x 0).trans ?_
    show k0_off1 k 0 + (x 0).val = 0; omega
  · refine (ValueKit.rect_emb_unit_val (s := S1x512x1024) (k0_off1 k) S1x512x128.size (k0_off1_inb k) x 1).trans ?_
    show k0_off1 k 1 + (x 1).val = (x 1).val; omega
  · refine (ValueKit.rect_emb_unit_val (s := S1x512x1024) (k0_off1 k) S1x512x128.size (k0_off1_inb k) x 2).trans ?_
    show k0_off1 k 2 + (x 2).val = 128 * k.val + (x 2).val; omega
theorem emb2 (k : Fin k0_t1_loop.trips) (r : Fin 2) (x : S1x1x64x512.Idx) :
    (Rect.unit (s := S1x16x64x512) (k0_off2 k (BitVec.ofNat 32 r.val)) S1x1x64x512.size (k0_off2_inb k r)).emb x
      = (ix4 0 ⟨2 * k.val + r.val, by have := klt k; omega⟩ (x 2) (x 3) : S1x16x64x512.Idx) := by
  have h0 : (x 0).val < 1 := (x 0).isLt
  have h1 : (x 1).val < 1 := (x 1).isLt
  have e0 : k0_off2 k (BitVec.ofNat 32 r.val) 0 = 0 := congrFun (k0_off2_eq k r) 0
  have e1 : k0_off2 k (BitVec.ofNat 32 r.val) 1 = 2 * k.val + r.val := congrFun (k0_off2_eq k r) 1
  have e2 : k0_off2 k (BitVec.ofNat 32 r.val) 2 = 0 := congrFun (k0_off2_eq k r) 2
  have e3 : k0_off2 k (BitVec.ofNat 32 r.val) 3 = 0 := congrFun (k0_off2_eq k r) 3
  refine idx4_ext ?_ ?_ ?_ ?_
  · refine (ValueKit.rect_emb_unit_val (s := S1x16x64x512) (k0_off2 k (BitVec.ofNat 32 r.val)) S1x1x64x512.size (k0_off2_inb k r) x 0).trans ?_
    show k0_off2 k (BitVec.ofNat 32 r.val) 0 + (x 0).val = 0; omega
  · refine (ValueKit.rect_emb_unit_val (s := S1x16x64x512) (k0_off2 k (BitVec.ofNat 32 r.val)) S1x1x64x512.size (k0_off2_inb k r) x 1).trans ?_
    show k0_off2 k (BitVec.ofNat 32 r.val) 1 + (x 1).val = 2 * k.val + r.val; omega
  · refine (ValueKit.rect_emb_unit_val (s := S1x16x64x512) (k0_off2 k (BitVec.ofNat 32 r.val)) S1x1x64x512.size (k0_off2_inb k r) x 2).trans ?_
    show k0_off2 k (BitVec.ofNat 32 r.val) 2 + (x 2).val = (x 2).val; omega
  · refine (ValueKit.rect_emb_unit_val (s := S1x16x64x512) (k0_off2 k (BitVec.ofNat 32 r.val)) S1x1x64x512.size (k0_off2_inb k r) x 3).trans ?_
    show k0_off2 k (BitVec.ofNat 32 r.val) 3 + (x 3).val = (x 3).val; omega

theorem at2_congr (x : Vec F S1x512x1024 .bf16) (KM : Vec F S2x512x256 .bf16) (VM : Vec F S2x64x512 .bf16) {k k' : Fin 8} {g g' : Fin 2} {j j' : S1x512x128.Idx}
    (hk : k.val = k'.val) (hg : g.val = g'.val) (hj : j = j') :
    at2 (slab x k) (kslab KM g) (vslab VM g) j = at2 (slab x k') (kslab KM g') (vslab VM g') j' := by
  obtain rfl := Fin.ext hk; obtain rfl := Fin.ext hg; rw [hj]
theorem qc_congr (x : Vec F S1x512x1024 .bf16) {k k' : Fin 8} {d d' : Fin 128} {s : Fin 512} (hk : k.val = k'.val) (hd : d.val = d'.val) :
    qc (slab x k) (ix2 d s) = qc (slab x k') (ix2 d' s) := by
  obtain rfl := Fin.ext hk; obtain rfl := Fin.ext hd; rfl
theorem qe_congr (x : Vec F S1x512x1024 .bf16) {k k' : Fin 8} {d d' : Fin 4} {s : Fin 512} (hk : k.val = k'.val) (hd : d.val = d'.val) :
    qe (slab x k) (ix2 d s) = qe (slab x k') (ix2 d' s) := by
  obtain rfl := Fin.ext hk; obtain rfl := Fin.ext hd; rfl
theorem outB_at (x : Vec F S1x512x1024 .bf16) (KM : Vec F S2x512x256 .bf16) (VM : Vec F S2x64x512 .bf16) (k : Fin 8) (j : S1x512x128.Idx) :
    outB x KM VM (ix3 0 (j 1) ⟨128 * k.val + (j 2).val, by have : (j 2).val < 128 := (j 2).isLt; omega⟩)
      = at2 (slab x k) (kslab KM ⟨k.val / 4, by omega⟩) (vslab VM ⟨k.val / 4, by omega⟩) j := by
  have h2 : (j 2).val < 128 := (j 2).isLt
  have h0 : (j 0).val < 1 := (j 0).isLt
  have ek : (128 * k.val + (j 2).val) / 128 = k.val := by omega
  have eg : (128 * k.val + (j 2).val) / 512 = k.val / 4 := by omega
  have em : (128 * k.val + (j 2).val) % 128 = (j 2).val := by omega
  exact at2_congr _ _ _ ek eg (idx3_ext (by show 0 = (j 0).val; omega) rfl em)
theorem qcB_at1 (x : Vec F S1x512x1024 .bf16) (k : Fin 8) (j : S1x1x64x512.Idx) :
    qcB x (ix4 0 ⟨2 * k.val + (1 : Fin 2).val, by have : (1 : Fin 2).val = 1 := rfl; omega⟩ (j 2) (j 3)) = k0_pay20 (qc (slab x k)) j := by
  have e : k0_pay20 (qc (slab x k)) j = qc (slab x k) (ix2 ⟨64 + (j 2).val, by have : (j 2).val < 64 := (j 2).isLt; omega⟩ (j 3)) := by
    generalize qc (slab x k) = w
    idx_vars j
    pointwise [k0_pay20]
  rw [e]
  unfold qcB
  have ek : (2 * k.val + 1) / 2 = k.val := by omega
  have em : (2 * k.val + 1) % 2 = 1 := by omega
  exact qc_congr _ ek (by show 64 * ((2 * k.val + 1) % 2) + (j 2).val = 64 + (j 2).val; omega)
theorem qcB_at0 (x : Vec F S1x512x1024 .bf16) (k : Fin 8) (j : S1x1x64x512.Idx) :
    qcB x (ix4 0 ⟨2 * k.val + (0 : Fin 2).val, by have : (0 : Fin 2).val = 0 := rfl; omega⟩ (j 2) (j 3)) = k0_pay14 (k0_pay2 (slab x k)) (fq (slab x k)) (fz (slab x k)) j := by
  have e : k0_pay14 (k0_pay2 (slab x k)) (fq (slab x k)) (fz (slab x k)) j = qc (slab x k) (ix2 ⟨(j 2).val, by have : (j 2).val < 64 := (j 2).isLt; omega⟩ (j 3)) := by
    show shapeCast S1x1x64x512 (extractStridedSlice S64x512 ![0, 0] (qc (slab x k)) slices_S128x512_o0_0_S64x512) shapeCasts_S64x512_S1x1x64x512 j = _
    generalize qc (slab x k) = w
    idx_vars j
    pointwise []
  rw [e]
  unfold qcB
  have ek : (2 * k.val + 0) / 2 = k.val := by omega
  have em : (2 * k.val + 0) % 2 = 0 := by omega
  exact qc_congr _ ek (by show 64 * ((2 * k.val + 0) % 2) + (j 2).val = (j 2).val; omega)

theorem emb3 (i : grid0.Coords) (k : Fin k0_t1_loop.trips) (r : Fin 2) (x : S1x1x512.Idx) :
    (Rect.unit (s := S2x48x512) (k0_off3 i k (BitVec.ofNat 32 r.val)) S1x1x512.size (k0_off3_inb i k r)).emb x
      = (ix3 0 ⟨16 * (i 1).val + (2 * k.val + r.val), by have := klt k; have : (i 1).val < 3 := (i 1).isLt; omega⟩ (x 2) : S2x48x512.Idx) := by
  have h0 : (x 0).val < 1 := (x 0).isLt
  have h1 : (x 1).val < 1 := (x 1).isLt
  have e0 : k0_off3 i k (BitVec.ofNat 32 r.val) 0 = 0 := congrFun (k0_off3_eq i k r) 0
  have e1 : k0_off3 i k (BitVec.ofNat 32 r.val) 1 = 16 * (i 1).val + 2 * k.val + r.val := congrFun (k0_off3_eq i k r) 1
  have e2 : k0_off3 i k (BitVec.ofNat 32 r.val) 2 = 0 := congrFun (k0_off3_eq i k r) 2
  refine idx3_ext ?_ ?_ ?_
  · refine (ValueKit.rect_emb_unit_val (s := S2x48x512) (k0_off3 i k (BitVec.ofNat 32 r.val)) S1x1x512.size (k0_off3_inb i k r) x 0).trans ?_
    show k0_off3 i k (BitVec.ofNat 32 r.val) 0 + (x 0).val = 0; omega
  · refine (ValueKit.rect_emb_unit_val (s := S2x48x512) (k0_off3 i k (BitVec.ofNat 32 r.val)) S1x1x512.size (k0_off3_inb i k r) x 1).trans ?_
    show k0_off3 i k (BitVec.ofNat 32 r.val) 1 + (x 1).val = 16 * (i 1).val + (2 * k.val + r.val); omega
  · refine (ValueKit.rect_emb_unit_val (s := S2x48x512) (k0_off3 i k (BitVec.ofNat 32 r.val)) S1x1x512.size (k0_off3_inb i k r) x 2).trans ?_
    show k0_off3 i k (BitVec.ofNat 32 r.val) 2 + (x 2).val = (x 2).val; omega
theorem mem3 (i : grid0.Coords) (k : Fin k0_t1_loop.trips) (r : Fin 2) (y : S2x48x512.Idx) :
    y ∈ (Rect.unit (s := S2x48x512) (k0_off3 i k (BitVec.ofNat 32 r.val)) S1x1x512.size (k0_off3_inb i k r)).set
      ↔ (y 0).val = 0 ∧ (y 1).val = 16 * (i 1).val + (2 * k.val + r.val) := by
  have e0 : k0_off3 i k (BitVec.ofNat 32 r.val) 0 = 0 := congrFun (k0_off3_eq i k r) 0
  have e1 : k0_off3 i k (BitVec.ofNat 32 r.val) 1 = 16 * (i 1).val + 2 * k.val + r.val := congrFun (k0_off3_eq i k r) 1
  have e2 : k0_off3 i k (BitVec.ofNat 32 r.val) 2 = 0 := congrFun (k0_off3_eq i k r) 2
  have h2 : (y 2).val < 512 := (y 2).isLt
  refine Rect.mem_set_unit.trans ⟨fun h => ?_, fun h a => ?_⟩
  · have a0 : k0_off3 i k (BitVec.ofNat 32 r.val) 0 ≤ (y 0).val ∧ (y 0).val < k0_off3 i k (BitVec.ofNat 32 r.val) 0 + 1 := h 0
    have a1 : k0_off3 i k (BitVec.ofNat 32 r.val) 1 ≤ (y 1).val ∧ (y 1).val < k0_off3 i k (BitVec.ofNat 32 r.val) 1 + 1 := h 1
    omega
  · match a with
    | ⟨0, _⟩ => show k0_off3 i k (BitVec.ofNat 32 r.val) 0 ≤ (y 0).val ∧ (y 0).val < k0_off3 i k (BitVec.ofNat 32 r.val) 0 + 1; omega
    | ⟨1, _⟩ => show k0_off3 i k (BitVec.ofNat 32 r.val) 1 ≤ (y 1).val ∧ (y 1).val < k0_off3 i k (BitVec.ofNat 32 r.val) 1 + 1; omega
    | ⟨2, _⟩ => show k0_off3 i k (BitVec.ofNat 32 r.val) 2 ≤ (y 2).val ∧ (y 2).val < k0_off3 i k (BitVec.ofNat 32 r.val) 2 + 512; omega

theorem emb4 (i : grid0.Coords) (k : Fin k0_t1_loop.trips) (r : Fin 2) (x : S1x1x512.Idx) :
    (Rect.unit (s := S2x48x512) (k0_off4 i k (BitVec.ofNat 32 r.val)) S1x1x512.size (k0_off4_inb i k r)).emb x
      = (ix3 1 ⟨16 * (i 1).val + (2 * k.val + r.val), by have := klt k; have : (i 1).val < 3 := (i 1).isLt; omega⟩ (x 2) : S2x48x512.Idx) := by
  have h0 : (x 0).val < 1 := (x 0).isLt
  have h1 : (x 1).val < 1 := (x 1).isLt
  have e0 : k0_off4 i k (BitVec.ofNat 32 r.val) 0 = 1 := congrFun (k0_off4_eq i k r) 0
  have e1 : k0_off4 i k (BitVec.ofNat 32 r.val) 1 = 16 * (i 1).val + 2 * k.val + r.val := congrFun (k0_off4_eq i k r) 1
  have e2 : k0_off4 i k (BitVec.ofNat 32 r.val) 2 = 0 := congrFun (k0_off4_eq i k r) 2
  refine idx3_ext ?_ ?_ ?_
  · refine (ValueKit.rect_emb_unit_val (s := S2x48x512) (k0_off4 i k (BitVec.ofNat 32 r.val)) S1x1x512.size (k0_off4_inb i k r) x 0).trans ?_
    show k0_off4 i k (BitVec.ofNat 32 r.val) 0 + (x 0).val = 1; omega
  · refine (ValueKit.rect_emb_unit_val (s := S2x48x512) (k0_off4 i k (BitVec.ofNat 32 r.val)) S1x1x512.size (k0_off4_inb i k r) x 1).trans ?_
    show k0_off4 i k (BitVec.ofNat 32 r.val) 1 + (x 1).val = 16 * (i 1).val + (2 * k.val + r.val); omega
  · refine (ValueKit.rect_emb_unit_val (s := S2x48x512) (k0_off4 i k (BitVec.ofNat 32 r.val)) S1x1x512.size (k0_off4_inb i k r) x 2).trans ?_
    show k0_off4 i k (BitVec.ofNat 32 r.val) 2 + (x 2).val = (x 2).val; omega
theorem mem4 (i : grid0.Coords) (k : Fin k0_t1_loop.trips) (r : Fin 2) (y : S2x48x512.Idx) :
    y ∈ (Rect.unit (s := S2x48x512) (k0_off4 i k (BitVec.ofNat 32 r.val)) S1x1x512.size (k0_off4_inb i k r)).set
      ↔ (y 0).val = 1 ∧ (y 1).val = 16 * (i 1).val + (2 * k.val + r.val) := by
  have e0 : k0_off4 i k (BitVec.ofNat 32 r.val) 0 = 1 := congrFun (k0_off4_eq i k r) 0
  have e1 : k0_off4 i k (BitVec.ofNat 32 r.val) 1 = 16 * (i 1).val + 2 * k.val + r.val := congrFun (k0_off4_eq i k r) 1
  have e2 : k0_off4 i k (BitVec.ofNat 32 r.val) 2 = 0 := congrFun (k0_off4_eq i k r) 2
  have h2 : (y 2).val < 512 := (y 2).isLt
  refine Rect.mem_set_unit.trans ⟨fun h => ?_, fun h a => ?_⟩
  · have a0 : k0_off4 i k (BitVec.ofNat 32 r.val) 0 ≤ (y 0).val ∧ (y 0).val < k0_off4 i k (BitVec.ofNat 32 r.val) 0 + 1 := h 0
    have a1 : k0_off4 i k (BitVec.ofNat 32 r.val) 1 ≤ (y 1).val ∧ (y 1).val < k0_off4 i k (BitVec.ofNat 32 r.val) 1 + 1 := h 1
    omega
  · match a with
    | ⟨0, _⟩ => show k0_off4 i k (BitVec.ofNat 32 r.val) 0 ≤ (y 0).val ∧ (y 0).val < k0_off4 i k (BitVec.ofNat 32 r.val) 0 + 1; omega
    | ⟨1, _⟩ => show k0_off4 i k (BitVec.ofNat 32 r.val) 1 ≤ (y 1).val ∧ (y 1).val < k0_off4 i k (BitVec.ofNat 32 r.val) 1 + 1; omega
    | ⟨2, _⟩ => show k0_off4 i k (BitVec.ofNat 32 r.val) 2 ≤ (y 2).val ∧ (y 2).val < k0_off4 i k (BitVec.ofNat 32 r.val) 2 + 512; omega

theorem upd_at (i : grid0.Coords) (x : Vec F S1x512x1024 .bf16) (d : Vec F S2x48x512 .i32) (k : Fin 8) (r n : Fin 2) (s : Fin 512) (h) :
    upd i x d (ix3 n ⟨16 * (i 1).val + (2 * k.val + r.val), h⟩ s) = qe (slab x k) (ix2 ⟨2 * r.val + n.val, by omega⟩ s) := by
  unfold upd
  rw [dif_pos (by show 16 * (i 1).val ≤ 16 * (i 1).val + (2 * k.val + r.val) ∧ 16 * (i 1).val + (2 * k.val + r.val) < 16 * (i 1).val + 16; omega)]
  unfold qeB
  have ek : (16 * (i 1).val + (2 * k.val + r.val) - 16 * (i 1).val) / 2 = k.val := by omega
  have er : (16 * (i 1).val + (2 * k.val + r.val) - 16 * (i 1).val) % 2 = r.val := by omega
  exact qe_congr _ ek (by show 2 * ((16 * (i 1).val + (2 * k.val + r.val) - 16 * (i 1).val) % 2) + n.val = 2 * r.val + n.val; omega)

theorem qe_at10 (w : IVec S4x512 32) (x : S1x1x512.Idx) : k0_pay22 (k0_pay21 w) x = w (ix2 2 (x 2)) := by
  idx_vars x
  pointwise [k0_pay22, k0_pay21]
theorem qe_at11 (w : IVec S4x512 32) (x : S1x1x512.Idx) : k0_pay23 w x = w (ix2 3 (x 2)) := by
  idx_vars x
  pointwise [k0_pay23]
theorem qe_at01 (w : IVec S4x512 32) (x : S1x1x512.Idx) : k0_pay17 w x = w (ix2 1 (x 2)) := by
  idx_vars x
  pointwise [k0_pay17]
theorem qe_at00 (v : Vec F S1x512x128 .bf16) (x : S1x1x512.Idx) : k0_pay16 (k0_pay15 (fq v) (fz v)) x = qe v (ix2 0 (x 2)) := by
  show k0_pay16 (extractStridedSlice S1x512 ![0, 0] (qe v) slices_S4x512_o0_0_S1x512) x = _
  generalize qe v = w
  idx_vars x
  pointwise [k0_pay16]

/-! ## The pieces of all the trips -/

section
variable (i : grid0.Coords) (arg2 : Memref sig .tc .vmem S1x512x1024 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x16x64x512 .fp8e4m3) (harg6 : arg6.IsWhole) (arg7 : Memref sig .tc .vmem S1x2x48x512 .i8) (harg7 : arg7.IsWhole) (arg8 : Memref sig .tc .vmem S1x2x64x512 .fp8e4m3) (harg8 : arg8.IsWhole) (arg9 : Memref sig .tc .vmem S1x2x2x512 .i8) (harg9 : arg9.IsWhole) (arg10 : Memref sig .tc .vmem S1x2x64x512 .fp8e4m3) (harg10 : arg10.IsWhole) (arg11 : Memref sig .tc .vmem S1x2x16x64 .i8) (harg11 : arg11.IsWhole) (arg12 : Memref sig .tc .vmem S2x512x256 .bf16) (harg12 : arg12.IsWhole) (arg13 : Memref sig .tc .vmem S2x64x512 .bf16) (harg13 : arg13.IsWhole) (arg14 : Memref sig .tc .vmem S2x48x512 .i32) (harg14 : arg14.IsWhole)
variable (𝒱 : Variants) (c : Dev nD) (bd : Option 𝒱.V) (arg1 : BitVec 32) (X2 : BufTy.Contents (Elt F) arg2.view.ty) (X12 : BufTy.Contents (Elt F) arg12.view.ty) (X13 : BufTy.Contents (Elt F) arg13.view.ty)

/-- The pieces that trip `k` stores. -/
abbrev tl (k : Fin k0_t1_loop.trips) := tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 k
/-- The pieces that the trips before `n` store. -/
abbrev pb (n : ℕ) := pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 n

theorem pb_mem1 (p) : ∀ n, n ≤ k0_t1_loop.trips → (p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).1 ↔ ∃ k : Fin k0_t1_loop.trips, k.val < n ∧ p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).1)
  | 0, _ => by
    constructor
    · intro h; exact absurd h (List.not_mem_nil)
    · rintro ⟨k, hk, -⟩; omega
  | n + 1, hn => by
    have ih := pb_mem1 p n (by omega)
    have e : pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 (n + 1) = ((tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.2 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.2) :=
      pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 ⟨n, hn⟩
    rw [e]
    simp only [List.mem_append, ih]
    constructor
    · rintro (h | ⟨k, hk, h⟩)
      · exact ⟨_, Nat.lt_succ_self n, h⟩
      · exact ⟨k, by omega, h⟩
    · rintro ⟨k, hk, h⟩
      by_cases hkn : k.val = n
      · obtain rfl : k = ⟨n, hn⟩ := Fin.ext hkn
        exact Or.inl h
      · exact Or.inr ⟨k, by omega, h⟩

theorem pb_mem2 (p) : ∀ n, n ≤ k0_t1_loop.trips → (p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.1 ↔ ∃ k : Fin k0_t1_loop.trips, k.val < n ∧ p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).2.1)
  | 0, _ => by
    constructor
    · intro h; exact absurd h (List.not_mem_nil)
    · rintro ⟨k, hk, -⟩; omega
  | n + 1, hn => by
    have ih := pb_mem2 p n (by omega)
    have e : pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 (n + 1) = ((tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.2 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.2) :=
      pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 ⟨n, hn⟩
    rw [e]
    simp only [List.mem_append, ih]
    constructor
    · rintro (h | ⟨k, hk, h⟩)
      · exact ⟨_, Nat.lt_succ_self n, h⟩
      · exact ⟨k, by omega, h⟩
    · rintro ⟨k, hk, h⟩
      by_cases hkn : k.val = n
      · obtain rfl : k = ⟨n, hn⟩ := Fin.ext hkn
        exact Or.inl h
      · exact Or.inr ⟨k, by omega, h⟩

theorem pb_mem3 (p) : ∀ n, n ≤ k0_t1_loop.trips → (p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.2 ↔ ∃ k : Fin k0_t1_loop.trips, k.val < n ∧ p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).2.2)
  | 0, _ => by
    constructor
    · intro h; exact absurd h (List.not_mem_nil)
    · rintro ⟨k, hk, -⟩; omega
  | n + 1, hn => by
    have ih := pb_mem3 p n (by omega)
    have e : pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 (n + 1) = ((tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.2 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.2) :=
      pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 ⟨n, hn⟩
    rw [e]
    simp only [List.mem_append, ih]
    constructor
    · rintro (h | ⟨k, hk, h⟩)
      · exact ⟨_, Nat.lt_succ_self n, h⟩
      · exact ⟨k, by omega, h⟩
    · rintro ⟨k, hk, h⟩
      by_cases hkn : k.val = n
      · obtain rfl : k = ⟨n, hn⟩ := Fin.ext hkn
        exact Or.inl h
      · exact Or.inr ⟨k, by omega, h⟩

theorem read_out (G0 : BufTy.Contents (Elt F) arg5.view.ty) :
    arg5.view.read (Elt F) (arg5.view.writes (Elt F) G0 (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).1)
      = outB (arg2.view.read (Elt F) X2) (arg12.view.read (Elt F) X12) (arg13.view.read (Elt F) X13) := by
  funext y
  refine View.read_writes_apply_of_pieces arg5.view G0 (outB (arg2.view.read (Elt F) X2) (arg12.view.read (Elt F) X12) (arg13.view.read (Elt F) X13)) _ ?_ y ?_
  · intro p hp x
    obtain ⟨k, -, hk⟩ := (pb_mem1 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mp hp
    rw [tl, tripL_eq, ld1, ld5, ld6] at hk
    obtain rfl := List.mem_singleton.mp hk
    have hx : (Rect.unit (s := S1x512x1024) (k0_off1 k) S1x512x128.size (k0_off1_inb k)).emb x
        = (ix3 0 (x 1) ⟨128 * k.val + (x 2).val, by have := klt k; have : (x 2).val < 128 := (x 2).isLt; omega⟩ : S1x512x1024.Idx) := emb1 k x
    show _ = outB _ _ _ ((Rect.unit (s := S1x512x1024) (k0_off1 k) S1x512x128.size (k0_off1_inb k)).emb x)
    rw [hx]
    exact (outB_at _ _ _ (k.cast trips_eq) x).symm
  · have hy : (y 2).val < 1024 := (y 2).isLt
    have hy0 : (y 0).val < 1 := (y 0).isLt
    have hy1 : (y 1).val < 512 := (y 1).isLt
    let k : Fin k0_t1_loop.trips := ⟨(y 2).val / 128, by rw [trips_eq]; omega⟩
    have key : ∀ p, p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).1 → p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).1 := fun p hp => (pb_mem1 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mpr ⟨k, k.isLt, hp⟩
    rw [tl, tripL_eq] at key
    refine ⟨_, key _ (List.mem_singleton.mpr rfl), ?_⟩
    · refine (Rect.mem_set_unit (s := S1x512x1024) (off := k0_off1 k) (size := S1x512x128.size) (inb := k0_off1_inb k)).mpr ?_
      have e0 : k0_off1 k 0 = 0 := congrFun (k0_off1_eq k) 0
      have e1 : k0_off1 k 1 = 0 := congrFun (k0_off1_eq k) 1
      have e2 : k0_off1 k 2 = 128 * ((y 2).val / 128) := congrFun (k0_off1_eq k) 2
      intro a
      match a with
      | ⟨0, _⟩ => show k0_off1 k 0 ≤ (y 0).val ∧ (y 0).val < k0_off1 k 0 + 1; omega
      | ⟨1, _⟩ => show k0_off1 k 1 ≤ (y 1).val ∧ (y 1).val < k0_off1 k 1 + 512; omega
      | ⟨2, _⟩ => show k0_off1 k 2 ≤ (y 2).val ∧ (y 2).val < k0_off1 k 2 + 128; omega

theorem read_qc (G0 : BufTy.Contents (Elt F) arg6.view.ty) :
    arg6.view.read (Elt F) (arg6.view.writes (Elt F) G0 (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).2.1) = qcB (arg2.view.read (Elt F) X2) := by
  funext y
  refine View.read_writes_apply_of_pieces arg6.view G0 (qcB (arg2.view.read (Elt F) X2)) _ ?_ y ?_
  · intro p hp x
    obtain ⟨k, -, hk⟩ := (pb_mem2 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mp hp
    rw [tl, tripL_eq, ld1] at hk
    rcases List.mem_cons.mp hk with rfl | hk
    · show _ = qcB _ ((Rect.unit (s := S1x16x64x512) (k0_off2 k (BitVec.ofNat 32 (1 : Fin 2).val)) S1x1x64x512.size (k0_off2_inb k 1)).emb x)
      rw [emb2]
      exact (qcB_at1 _ (k.cast trips_eq) x).symm
    · obtain rfl := List.mem_singleton.mp hk
      show _ = qcB _ ((Rect.unit (s := S1x16x64x512) (k0_off2 k (BitVec.ofNat 32 (0 : Fin 2).val)) S1x1x64x512.size (k0_off2_inb k 0)).emb x)
      rw [emb2]
      exact (qcB_at0 _ (k.cast trips_eq) x).symm
  · have hy0 : (y 0).val < 1 := (y 0).isLt
    have hy1 : (y 1).val < 16 := (y 1).isLt
    have hy2 : (y 2).val < 64 := (y 2).isLt
    have hy3 : (y 3).val < 512 := (y 3).isLt
    let k : Fin k0_t1_loop.trips := ⟨(y 1).val / 2, by rw [trips_eq]; omega⟩
    have hset : ∀ r : Fin 2, (y 1).val % 2 = r.val → y ∈ (Rect.unit (s := S1x16x64x512) (k0_off2 k (BitVec.ofNat 32 r.val)) S1x1x64x512.size (k0_off2_inb k r)).set := by
      intro r hr
      refine Rect.mem_set_unit.mpr ?_
      have e0 : k0_off2 k (BitVec.ofNat 32 r.val) 0 = 0 := congrFun (k0_off2_eq k r) 0
      have e1 : k0_off2 k (BitVec.ofNat 32 r.val) 1 = 2 * ((y 1).val / 2) + r.val := congrFun (k0_off2_eq k r) 1
      have e2 : k0_off2 k (BitVec.ofNat 32 r.val) 2 = 0 := congrFun (k0_off2_eq k r) 2
      have e3 : k0_off2 k (BitVec.ofNat 32 r.val) 3 = 0 := congrFun (k0_off2_eq k r) 3
      intro a
      match a with
      | ⟨0, _⟩ => show k0_off2 k (BitVec.ofNat 32 r.val) 0 ≤ (y 0).val ∧ (y 0).val < k0_off2 k (BitVec.ofNat 32 r.val) 0 + 1; omega
      | ⟨1, _⟩ => show k0_off2 k (BitVec.ofNat 32 r.val) 1 ≤ (y 1).val ∧ (y 1).val < k0_off2 k (BitVec.ofNat 32 r.val) 1 + 1; omega
      | ⟨2, _⟩ => show k0_off2 k (BitVec.ofNat 32 r.val) 2 ≤ (y 2).val ∧ (y 2).val < k0_off2 k (BitVec.ofNat 32 r.val) 2 + 64; omega
      | ⟨3, _⟩ => show k0_off2 k (BitVec.ofNat 32 r.val) 3 ≤ (y 3).val ∧ (y 3).val < k0_off2 k (BitVec.ofNat 32 r.val) 3 + 512; omega
    have key : ∀ p, p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).2.1 → p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).2.1 := fun p hp => (pb_mem2 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mpr ⟨k, k.isLt, hp⟩
    rw [tl, tripL_eq] at key
    rcases Nat.mod_two_eq_zero_or_one (y 1).val with h | h
    · exact ⟨_, key _ (List.mem_cons_of_mem _ (List.mem_singleton.mpr rfl)), hset 0 h⟩
    · exact ⟨_, key _ List.mem_cons_self, hset 1 h⟩

theorem read_acc (G0 : BufTy.Contents (Elt F) arg14.view.ty) :
    arg14.view.read (Elt F) (arg14.view.writes (Elt F) G0 (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).2.2) = upd i (arg2.view.read (Elt F) X2) (arg14.view.read (Elt F) G0) := by
  funext y
  by_cases hy : 16 * (i 1).val ≤ (y 1).val ∧ (y 1).val < 16 * (i 1).val + 16
  · refine View.read_writes_apply_of_pieces arg14.view G0 (upd i (arg2.view.read (Elt F) X2) (arg14.view.read (Elt F) G0)) _ ?_ y ?_
    · intro p hp x
      obtain ⟨k, -, hk⟩ := (pb_mem3 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mp hp
      rw [tl, tripL_eq, ld1] at hk
      rcases List.mem_cons.mp hk with rfl | hk
      · show _ = upd _ _ _ ((Rect.unit (s := S2x48x512) (k0_off4 i k (BitVec.ofNat 32 (1 : Fin 2).val)) S1x1x512.size (k0_off4_inb i k 1)).emb x)
        rw [emb4]
        exact (qe_at11 _ x).trans (upd_at i _ _ (k.cast trips_eq) 1 1 (x 2) _).symm
      rcases List.mem_cons.mp hk with rfl | hk
      · show _ = upd _ _ _ ((Rect.unit (s := S2x48x512) (k0_off3 i k (BitVec.ofNat 32 (1 : Fin 2).val)) S1x1x512.size (k0_off3_inb i k 1)).emb x)
        rw [emb3]
        exact (qe_at10 _ x).trans (upd_at i _ _ (k.cast trips_eq) 1 0 (x 2) _).symm
      rcases List.mem_cons.mp hk with rfl | hk
      · show _ = upd _ _ _ ((Rect.unit (s := S2x48x512) (k0_off4 i k (BitVec.ofNat 32 (0 : Fin 2).val)) S1x1x512.size (k0_off4_inb i k 0)).emb x)
        rw [emb4]
        exact (qe_at01 _ x).trans (upd_at i _ _ (k.cast trips_eq) 0 1 (x 2) _).symm
      · obtain rfl := List.mem_singleton.mp hk
        show _ = upd _ _ _ ((Rect.unit (s := S2x48x512) (k0_off3 i k (BitVec.ofNat 32 (0 : Fin 2).val)) S1x1x512.size (k0_off3_inb i k 0)).emb x)
        rw [emb3]
        exact (qe_at00 _ x).trans (upd_at i _ _ (k.cast trips_eq) 0 0 (x 2) _).symm
    · have hy0 : (y 0).val < 2 := (y 0).isLt
      let k : Fin k0_t1_loop.trips := ⟨((y 1).val - 16 * (i 1).val) / 2, by rw [trips_eq]; omega⟩
      have ek : k.val = ((y 1).val - 16 * (i 1).val) / 2 := rfl
      have key : ∀ p, p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).2.2 → p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).2.2 := fun p hp => (pb_mem3 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mpr ⟨k, k.isLt, hp⟩
      rw [tl, tripL_eq] at key
      have v0 : (0 : Fin 2).val = 0 := rfl
      have v1 : (1 : Fin 2).val = 1 := rfl
      rcases Nat.mod_two_eq_zero_or_one ((y 1).val - 16 * (i 1).val) with h | h <;> rcases (show (y 0).val = 0 ∨ (y 0).val = 1 by omega) with h' | h'
      · exact ⟨_, key _ (List.mem_cons_of_mem _ (List.mem_cons_of_mem _ (List.mem_cons_of_mem _ (List.mem_singleton.mpr rfl)))), (mem3 i k 0 y).mpr ⟨h', by omega⟩⟩
      · exact ⟨_, key _ (List.mem_cons_of_mem _ (List.mem_cons_of_mem _ List.mem_cons_self)), (mem4 i k 0 y).mpr ⟨h', by omega⟩⟩
      · exact ⟨_, key _ (List.mem_cons_of_mem _ List.mem_cons_self), (mem3 i k 1 y).mpr ⟨h', by omega⟩⟩
      · exact ⟨_, key _ List.mem_cons_self, (mem4 i k 1 y).mpr ⟨h', by omega⟩⟩
  · refine (View.read_writes_apply_of_forall_not_mem arg14.view G0 y _ ?_).trans ?_
    · intro p hp hm
      obtain ⟨k, -, hk⟩ := (pb_mem3 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mp hp
      have hk8 := klt k
      have v0 : (0 : Fin 2).val = 0 := rfl
      have v1 : (1 : Fin 2).val = 1 := rfl
      rw [tl, tripL_eq] at hk
      rcases List.mem_cons.mp hk with rfl | hk
      · have := ((mem4 i k 1 y).mp hm).2; omega
      rcases List.mem_cons.mp hk with rfl | hk
      · have := ((mem3 i k 1 y).mp hm).2; omega
      rcases List.mem_cons.mp hk with rfl | hk
      · have := ((mem4 i k 0 y).mp hm).2; omega
      · obtain rfl := List.mem_singleton.mp hk
        have := ((mem3 i k 0 y).mp hm).2; omega
    · unfold upd; rw [dif_neg hy]

end

end Cert.Kernel.Own

end
-- ==== Proof.PPts.lean ====
/- What one grid point of the kernel stores, as functions of its block of keys and its block of values. This is `KPts` for the program whose constants are not named. -/
module

public import proofs.«01_k».proof.Proof.PBlock

@[expose] public section

set_option maxRecDepth 16384

noncomputable section

namespace Cert.Kernel.Own

open Idealize.ShloMosaic Idealize.ShloMosaic.TcCoe Idealize.ShloMosaic.Tactic
open Idealize.SL Idealize.SL.RA Idealize.SL.BI Idealize.SL.Sem
open Cert.Kernel.Gen

/-! ## Two stores that fill a buffer -/

section
variable {Val : EltTy → Type} {e : EltTy} {n2 n3 : ℕ}

/-- Two blocks put side by side along the second axis. -/
def pair4 (a b : (⟨4, ![1, 1, n2, n3]⟩ : Shape).Idx → Val e) : (⟨4, ![1, 2, n2, n3]⟩ : Shape).Idx → Val e :=
  fun y => if (y 1).val = 0 then a (ix4 0 0 (y 2) (y 3)) else b (ix4 0 0 (y 2) (y 3))
/-- Two blocks put side by side along the first axis. -/
def pair3 (a b : (⟨3, ![1, n2, n3]⟩ : Shape).Idx → Val e) : (⟨3, ![2, n2, n3]⟩ : Shape).Idx → Val e :=
  fun y => if (y 0).val = 0 then a (ix3 0 (y 1) (y 2)) else b (ix3 0 (y 1) (y 2))

theorem read_pair4 (v : View sig .tc .vmem ⟨4, ![1, 2, n2, n3]⟩ e) (G0 : BufTy.Contents Val v.ty)
    (a b : (⟨4, ![1, 1, n2, n3]⟩ : Shape).Idx → Val e) (ha hb) :
    v.read Val (v.writes Val G0 [⟨Rect.unit (s := ⟨4, ![1, 2, n2, n3]⟩) ![0, 1, 0, 0] ![1, 1, n2, n3] hb, b⟩,
      ⟨Rect.unit (s := ⟨4, ![1, 2, n2, n3]⟩) ![0, 0, 0, 0] ![1, 1, n2, n3] ha, a⟩]) = pair4 a b := by
  funext y
  have h0 : (y 0).val < 1 := (y 0).isLt
  have h1 : (y 1).val < 2 := (y 1).isLt
  have h2 : (y 2).val < n2 := (y 2).isLt
  have h3 : (y 3).val < n3 := (y 3).isLt
  refine View.read_writes_apply_of_pieces v G0 (pair4 a b) _ ?_ y ?_
  · intro p hp x
    rcases List.mem_cons.mp hp with rfl | hp
    · have x0 : (x 0).val < 1 := (x 0).isLt
      have x1 : (x 1).val < 1 := (x 1).isLt
      have e : (Rect.unit (s := ⟨4, ![1, 2, n2, n3]⟩) ![0, 1, 0, 0] ![1, 1, n2, n3] hb).emb x = ix4 0 1 (x 2) (x 3) := by
        refine idx4_ext ?_ ?_ ?_ ?_
        · refine (ValueKit.rect_emb_unit_val (s := ⟨4, ![1, 2, n2, n3]⟩) ![0, 1, 0, 0] ![1, 1, n2, n3] hb x 0).trans ?_
          show 0 + (x 0).val = 0; omega
        · refine (ValueKit.rect_emb_unit_val (s := ⟨4, ![1, 2, n2, n3]⟩) ![0, 1, 0, 0] ![1, 1, n2, n3] hb x 1).trans ?_
          show 1 + (x 1).val = 1; omega
        · refine (ValueKit.rect_emb_unit_val (s := ⟨4, ![1, 2, n2, n3]⟩) ![0, 1, 0, 0] ![1, 1, n2, n3] hb x 2).trans ?_
          show 0 + (x 2).val = (x 2).val; omega
        · refine (ValueKit.rect_emb_unit_val (s := ⟨4, ![1, 2, n2, n3]⟩) ![0, 1, 0, 0] ![1, 1, n2, n3] hb x 3).trans ?_
          show 0 + (x 3).val = (x 3).val; omega
      show b x = pair4 a b ((Rect.unit (s := ⟨4, ![1, 2, n2, n3]⟩) ![0, 1, 0, 0] ![1, 1, n2, n3] hb).emb x)
      rw [e]
      show b x = b (ix4 0 0 (x 2) (x 3))
      congr 1
      exact idx4_ext (by show (x 0).val = 0; omega) (by show (x 1).val = 0; omega) rfl rfl
    · obtain rfl := List.mem_singleton.mp hp
      have x0 : (x 0).val < 1 := (x 0).isLt
      have x1 : (x 1).val < 1 := (x 1).isLt
      have e : (Rect.unit (s := ⟨4, ![1, 2, n2, n3]⟩) ![0, 0, 0, 0] ![1, 1, n2, n3] ha).emb x = ix4 0 0 (x 2) (x 3) := by
        refine idx4_ext ?_ ?_ ?_ ?_
        · refine (ValueKit.rect_emb_unit_val (s := ⟨4, ![1, 2, n2, n3]⟩) ![0, 0, 0, 0] ![1, 1, n2, n3] ha x 0).trans ?_
          show 0 + (x 0).val = 0; omega
        · refine (ValueKit.rect_emb_unit_val (s := ⟨4, ![1, 2, n2, n3]⟩) ![0, 0, 0, 0] ![1, 1, n2, n3] ha x 1).trans ?_
          show 0 + (x 1).val = 0; omega
        · refine (ValueKit.rect_emb_unit_val (s := ⟨4, ![1, 2, n2, n3]⟩) ![0, 0, 0, 0] ![1, 1, n2, n3] ha x 2).trans ?_
          show 0 + (x 2).val = (x 2).val; omega
        · refine (ValueKit.rect_emb_unit_val (s := ⟨4, ![1, 2, n2, n3]⟩) ![0, 0, 0, 0] ![1, 1, n2, n3] ha x 3).trans ?_
          show 0 + (x 3).val = (x 3).val; omega
      show a x = pair4 a b ((Rect.unit (s := ⟨4, ![1, 2, n2, n3]⟩) ![0, 0, 0, 0] ![1, 1, n2, n3] ha).emb x)
      rw [e]
      show a x = a (ix4 0 0 (x 2) (x 3))
      congr 1
      exact idx4_ext (by show (x 0).val = 0; omega) (by show (x 1).val = 0; omega) rfl rfl
  · by_cases hy : (y 1).val = 0
    · refine ⟨_, List.mem_cons_of_mem _ (List.mem_singleton.mpr rfl), ?_⟩
      refine (Rect.mem_set_unit (inb := ha)).mpr fun a => ?_
      match a with
      | ⟨0, _⟩ => show 0 ≤ (y 0).val ∧ (y 0).val < 0 + 1; omega
      | ⟨1, _⟩ => show 0 ≤ (y 1).val ∧ (y 1).val < 0 + 1; omega
      | ⟨2, _⟩ => show 0 ≤ (y 2).val ∧ (y 2).val < 0 + n2; omega
      | ⟨3, _⟩ => show 0 ≤ (y 3).val ∧ (y 3).val < 0 + n3; omega
    · refine ⟨_, List.mem_cons_self, ?_⟩
      refine (Rect.mem_set_unit (inb := hb)).mpr fun a => ?_
      match a with
      | ⟨0, _⟩ => show 0 ≤ (y 0).val ∧ (y 0).val < 0 + 1; omega
      | ⟨1, _⟩ => show 1 ≤ (y 1).val ∧ (y 1).val < 1 + 1; omega
      | ⟨2, _⟩ => show 0 ≤ (y 2).val ∧ (y 2).val < 0 + n2; omega
      | ⟨3, _⟩ => show 0 ≤ (y 3).val ∧ (y 3).val < 0 + n3; omega

theorem read_pair3 (v : View sig .tc .vmem ⟨3, ![2, n2, n3]⟩ e) (G0 : BufTy.Contents Val v.ty)
    (a b : (⟨3, ![1, n2, n3]⟩ : Shape).Idx → Val e) (ha hb) :
    v.read Val (v.writes Val G0 [⟨Rect.unit (s := ⟨3, ![2, n2, n3]⟩) ![1, 0, 0] ![1, n2, n3] hb, b⟩,
      ⟨Rect.unit (s := ⟨3, ![2, n2, n3]⟩) ![0, 0, 0] ![1, n2, n3] ha, a⟩]) = pair3 a b := by
  funext y
  have h0 : (y 0).val < 2 := (y 0).isLt
  have h1 : (y 1).val < n2 := (y 1).isLt
  have h2 : (y 2).val < n3 := (y 2).isLt
  refine View.read_writes_apply_of_pieces v G0 (pair3 a b) _ ?_ y ?_
  · intro p hp x
    rcases List.mem_cons.mp hp with rfl | hp
    · have x0 : (x 0).val < 1 := (x 0).isLt
      have e : (Rect.unit (s := ⟨3, ![2, n2, n3]⟩) ![1, 0, 0] ![1, n2, n3] hb).emb x = ix3 1 (x 1) (x 2) := by
        refine idx3_ext ?_ ?_ ?_
        · refine (ValueKit.rect_emb_unit_val (s := ⟨3, ![2, n2, n3]⟩) ![1, 0, 0] ![1, n2, n3] hb x 0).trans ?_
          show 1 + (x 0).val = 1; omega
        · refine (ValueKit.rect_emb_unit_val (s := ⟨3, ![2, n2, n3]⟩) ![1, 0, 0] ![1, n2, n3] hb x 1).trans ?_
          show 0 + (x 1).val = (x 1).val; omega
        · refine (ValueKit.rect_emb_unit_val (s := ⟨3, ![2, n2, n3]⟩) ![1, 0, 0] ![1, n2, n3] hb x 2).trans ?_
          show 0 + (x 2).val = (x 2).val; omega
      show b x = pair3 a b ((Rect.unit (s := ⟨3, ![2, n2, n3]⟩) ![1, 0, 0] ![1, n2, n3] hb).emb x)
      rw [e]
      show b x = b (ix3 0 (x 1) (x 2))
      congr 1
      exact idx3_ext (by show (x 0).val = 0; omega) rfl rfl
    · obtain rfl := List.mem_singleton.mp hp
      have x0 : (x 0).val < 1 := (x 0).isLt
      have e : (Rect.unit (s := ⟨3, ![2, n2, n3]⟩) ![0, 0, 0] ![1, n2, n3] ha).emb x = ix3 0 (x 1) (x 2) := by
        refine idx3_ext ?_ ?_ ?_
        · refine (ValueKit.rect_emb_unit_val (s := ⟨3, ![2, n2, n3]⟩) ![0, 0, 0] ![1, n2, n3] ha x 0).trans ?_
          show 0 + (x 0).val = 0; omega
        · refine (ValueKit.rect_emb_unit_val (s := ⟨3, ![2, n2, n3]⟩) ![0, 0, 0] ![1, n2, n3] ha x 1).trans ?_
          show 0 + (x 1).val = (x 1).val; omega
        · refine (ValueKit.rect_emb_unit_val (s := ⟨3, ![2, n2, n3]⟩) ![0, 0, 0] ![1, n2, n3] ha x 2).trans ?_
          show 0 + (x 2).val = (x 2).val; omega
      show a x = pair3 a b ((Rect.unit (s := ⟨3, ![2, n2, n3]⟩) ![0, 0, 0] ![1, n2, n3] ha).emb x)
      rw [e]
      show a x = a (ix3 0 (x 1) (x 2))
      congr 1
      exact idx3_ext (by show (x 0).val = 0; omega) rfl rfl
  · by_cases hy : (y 0).val = 0
    · refine ⟨_, List.mem_cons_of_mem _ (List.mem_singleton.mpr rfl), ?_⟩
      refine (Rect.mem_set_unit (inb := ha)).mpr fun a => ?_
      match a with
      | ⟨0, _⟩ => show 0 ≤ (y 0).val ∧ (y 0).val < 0 + 1; omega
      | ⟨1, _⟩ => show 0 ≤ (y 1).val ∧ (y 1).val < 0 + n2; omega
      | ⟨2, _⟩ => show 0 ≤ (y 2).val ∧ (y 2).val < 0 + n3; omega
    · refine ⟨_, List.mem_cons_self, ?_⟩
      refine (Rect.mem_set_unit (inb := hb)).mpr fun a => ?_
      match a with
      | ⟨0, _⟩ => show 1 ≤ (y 0).val ∧ (y 0).val < 1 + 1; omega
      | ⟨1, _⟩ => show 0 ≤ (y 1).val ∧ (y 1).val < 0 + n2; omega
      | ⟨2, _⟩ => show 0 ≤ (y 2).val ∧ (y 2).val < 0 + n3; omega
end

/-- A store into a whole buffer of rank four leaves what it stored. -/
theorem read_whole4 {Val : EltTy → Type} {e : EltTy} {n0 n1 n2 n3 : ℕ} (v : View sig .tc .vmem ⟨4, ![n0, n1, n2, n3]⟩ e) (G0 : BufTy.Contents Val v.ty)
    (h) (w : (⟨4, ![n0, n1, n2, n3]⟩ : Shape).Idx → Val e) :
    v.read Val (v.writes Val G0 [⟨Rect.unit (s := ⟨4, ![n0, n1, n2, n3]⟩) ![0, 0, 0, 0] ![n0, n1, n2, n3] h, w⟩]) = w := by
  funext y
  have e : (Rect.unit (s := ⟨4, ![n0, n1, n2, n3]⟩) ![0, 0, 0, 0] ![n0, n1, n2, n3] h).emb y = y := by
    refine idx4_ext ?_ ?_ ?_ ?_
    · refine (ValueKit.rect_emb_unit_val (s := ⟨4, ![n0, n1, n2, n3]⟩) ![0, 0, 0, 0] ![n0, n1, n2, n3] h y 0).trans ?_
      show 0 + (y 0).val = (y 0).val; omega
    · refine (ValueKit.rect_emb_unit_val (s := ⟨4, ![n0, n1, n2, n3]⟩) ![0, 0, 0, 0] ![n0, n1, n2, n3] h y 1).trans ?_
      show 0 + (y 1).val = (y 1).val; omega
    · refine (ValueKit.rect_emb_unit_val (s := ⟨4, ![n0, n1, n2, n3]⟩) ![0, 0, 0, 0] ![n0, n1, n2, n3] h y 2).trans ?_
      show 0 + (y 2).val = (y 2).val; omega
    · refine (ValueKit.rect_emb_unit_val (s := ⟨4, ![n0, n1, n2, n3]⟩) ![0, 0, 0, 0] ![n0, n1, n2, n3] h y 3).trans ?_
      show 0 + (y 3).val = (y 3).val; omega
  have := View.read_writes_cons_emb v G0 (Rect.unit (s := ⟨4, ![n0, n1, n2, n3]⟩) ![0, 0, 0, 0] ![n0, n1, n2, n3] h) w [] y
  rwa [e] at this

/-- A load of a whole buffer of rank three reads what it holds. -/
theorem readAt_whole3 {Val : EltTy → Type} {e : EltTy} {n0 n1 n2 : ℕ} (v : View sig .tc .vmem ⟨3, ![n0, n1, n2]⟩ e) (X : BufTy.Contents Val v.ty) (h) :
    v.readAt Val (Rect.unit (s := ⟨3, ![n0, n1, n2]⟩) ![0, 0, 0] ![n0, n1, n2] h).toLoadRect X = v.read Val X := by
  funext j
  show v.read Val X _ = v.read Val X _
  congr 1
  refine idx3_ext ?_ ?_ ?_
  · refine (ValueKit.rect_emb_unit_val (s := ⟨3, ![n0, n1, n2]⟩) ![0, 0, 0] ![n0, n1, n2] h j 0).trans ?_
    show 0 + (j 0).val = (j 0).val; omega
  · refine (ValueKit.rect_emb_unit_val (s := ⟨3, ![n0, n1, n2]⟩) ![0, 0, 0] ![n0, n1, n2] h j 1).trans ?_
    show 0 + (j 1).val = (j 1).val; omega
  · refine (ValueKit.rect_emb_unit_val (s := ⟨3, ![n0, n1, n2]⟩) ![0, 0, 0] ![n0, n1, n2] h j 2).trans ?_
    show 0 + (j 2).val = (j 2).val; omega

variable {F : FTy → Type} [FloatOps F]

/-! ## The keys -/

/-- The exponents' field of a block of keys, as it is stored. -/
def kf (v : Vec F S1x512x128 .bf16) : IVec S4x1x512 32 := k0_pay30 (k0_pay26 v) (k0_pay27 v) (k0_pay28 v) k0_pay29
/-- The codes of a block of keys. -/
def kcd (v : Vec F S1x512x128 .bf16) : FVec F S4x32x512 .fp8e4m3 := k0_pay31 (k0_pay25 v) (k0_pay26 v) (k0_pay27 v) (k0_pay28 v) k0_pay29
/-- The field of the scale of a block of keys. -/
def ksc (v : Vec F S1x512x128 .bf16) : IVec S4x1x512 32 := k0_pay32 (k0_pay26 v) (k0_pay27 v) (k0_pay28 v) k0_pay29
/-- The stored codes of a block of keys. -/
def kcB (v : Vec F S1x512x128 .bf16) : Vec F S1x2x64x512 .fp8e4m3 := pair4 (k0_pay36 (kcd v)) (k0_pay40 (k0_pay39 (kcd v)))
/-- The stored exponents of a block of keys. -/
def ksB (v : Vec F S1x512x128 .bf16) : Vec F S1x2x2x512 .i8 := pair4 (Val := Elt F) (k0_pay37 (kf v)) (k0_pay41 (k0_pay35 (kf v)))
/-- The two key matrices of a block of keys. -/
def kmB (v : Vec F S1x512x128 .bf16) : Vec F S2x512x256 .bf16 := pair3 (k0_pay38 (kcd v) (ksc v)) (k0_pay42 (k0_pay34 (kcd v) (ksc v)))

/-! ## The values -/

/-- The exponents' field of a block of values, before the exceptional fields are replaced. -/
def vf (v : Vec F S1x512x128 .bf16) : IVec S16x1x128 32 := k0_pay48 (k0_pay44 v) k0_pay45 k0_pay46 k0_pay47
/-- The exponents' field of a block of values, with one of the exceptional fields replaced. -/
def vz (v : Vec F S1x512x128 .bf16) : IVec S16x1x128 32 := k0_pay49 (k0_pay44 v) k0_pay45 k0_pay46 k0_pay47
/-- The stored codes of a block of values. -/
def vcB (v : Vec F S1x512x128 .bf16) : Vec F S1x2x64x512 .fp8e4m3 :=
  pair4 (k0_pay56 (k0_pay55 (k0_pay43 v) (k0_pay44 v) (vf v) (vz v))) (k0_pay59 (k0_pay53 (k0_pay43 v) (k0_pay44 v) (vf v) (vz v)))
/-- The stored exponents of a block of values. -/
def vsB (v : Vec F S1x512x128 .bf16) : Vec F S1x2x16x64 .i8 :=
  pair4 (Val := Elt F) (k0_pay58 (k0_pay54 (k0_pay44 v) (vf v) (vz v))) (k0_pay61 (k0_pay54 (k0_pay44 v) (vf v) (vz v)))
/-- The two value matrices of a block of values. -/
def vmB (v : Vec F S1x512x128 .bf16) : Vec F S2x64x512 .bf16 :=
  pair3 (k0_pay57 (k0_pay52 (k0_pay43 v) (k0_pay44 v) (vf v) (vz v))) (k0_pay60 (k0_pay52 (k0_pay43 v) (k0_pay44 v) (vf v) (vz v)))

end Cert.Kernel.Own

end
-- ==== Proof.PRunA.lean ====
/- The kernel's body run at one grid point: what it leaves in every buffer, as functions of the three blocks it is given. This is `KRunA` for the program whose constants are not named. -/
module

public import proofs.«01_k».proof.Proof.PBlock
public import proofs.«01_k».proof.Proof.PPts

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S1x512x1024 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x16x64x512 .fp8e4m3) (harg6 : arg6.IsWhole) (arg7 : Memref sig .tc .vmem S1x2x48x512 .i8) (harg7 : arg7.IsWhole) (arg8 : Memref sig .tc .vmem S1x2x64x512 .fp8e4m3) (harg8 : arg8.IsWhole) (arg9 : Memref sig .tc .vmem S1x2x2x512 .i8) (harg9 : arg9.IsWhole) (arg10 : Memref sig .tc .vmem S1x2x64x512 .fp8e4m3) (harg10 : arg10.IsWhole) (arg11 : Memref sig .tc .vmem S1x2x16x64 .i8) (harg11 : arg11.IsWhole) (arg12 : Memref sig .tc .vmem S2x512x256 .bf16) (harg12 : arg12.IsWhole) (arg13 : Memref sig .tc .vmem S2x64x512 .bf16) (harg13 : arg13.IsWhole) (arg14 : Memref sig .tc .vmem S2x48x512 .i32) (harg14 : arg14.IsWhole) (hc0 : ¬k0_cond1 i = 1#1)
    (x0 : Vec F S1x512x1024 .bf16) (x1 : Vec F S1x512x128 .bf16) (x2 : Vec F S1x512x128 .bf16) (xs2 : Vec F S2x48x512 .i32) :
      ∀ (xi5 : Vec F S1x2x48x512 .i8) (E : Set ℕ) (K : PUnit → sProp 𝕄),
        iprop(owns (c : Thread nD τ) arg2 fullShare (x0) ∗ owns (c : Thread nD τ) arg3 fullShare (x1) ∗ owns (c : Thread nD τ) arg4 fullShare (x2) ∗ (∃ d, owns (c : Thread nD τ) arg5 fullShare d) ∗ (∃ d, owns (c : Thread nD τ) arg6 fullShare d) ∗ owns (c : Thread nD τ) arg7 fullShare (xi5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (xs2)
            ∗ (iprop(owns (c : Thread nD τ) arg2 fullShare (x0) ∗ owns (c : Thread nD τ) arg3 fullShare (x1) ∗ owns (c : Thread nD τ) arg4 fullShare (x2) ∗ owns (c : Thread nD τ) arg5 fullShare (outB x0 (kmB x1) (vmB x2)) ∗ owns (c : Thread nD τ) arg6 fullShare (qcB x0) ∗ owns (c : Thread nD τ) arg7 fullShare (xi5) ∗ owns (c : Thread nD τ) arg8 fullShare (kcB x1) ∗ owns (c : Thread nD τ) arg9 fullShare (ksB x1) ∗ owns (c : Thread nD τ) arg10 fullShare (vcB x2) ∗ owns (c : Thread nD τ) arg11 fullShare (vsB x2) ∗ (∃ d, owns (c : Thread nD τ) arg12 fullShare d) ∗ (∃ d, owns (c : Thread nD τ) arg13 fullShare d) ∗ owns (c : Thread nD τ) arg14 fullShare (upd i x0 xs2)) -∗ K ⟨⟩))
          ⊢ wp frame (wpE (defs₀ (F := F)) Variants.none c none) E (cc0_mx_gqa i arg2 harg2 arg3 harg3 arg4 harg4 arg5 harg5 arg6 harg6 arg7 harg7 arg8 harg8 arg9 harg9 arg10 harg10 arg11 harg11 arg12 harg12 arg13 harg13 arg14 harg14) K := by
    intro xi5 E K
    simp only [cc0_mx_gqa_eq_skeleton]; unfold cc0_mx_gqa_skel
    simp only [k0_part13_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg14.eq_unread hfs2; obtain rfl := harg7.eq_unread hf5
    sl_exec (disch := first | sl_exact hc0)
    sl_step
    iapply Hk
    have e1 : arg3.view.readAt (Elt F) (Rect.unit (s := S1x512x128) ![0, 0, 0] S1x512x128.size inb_S1x512x128_S1x512x128_0_0_0).toLoadRect (harg3.unread x1) = x1 :=
      (readAt_whole3 arg3.view _ _).trans (harg3.read_unread x1)
    have e2 : arg4.view.readAt (Elt F) (Rect.unit (s := S1x512x128) ![0, 0, 0] S1x512x128.size inb_S1x512x128_S1x512x128_0_0_0).toLoadRect (harg4.unread x2) = x2 :=
      (readAt_whole3 arg4.view _ _).trans (harg4.read_unread x2)
    have hKM : arg12.view.read (Elt F) (arg12.view.writes (Elt F) arg12.view.junk (runA.sl.HS0_2 c arg3 harg3 x1)) = kmB x1 :=
      (read_pair3 arg12.view arg12.view.junk _ _ _ _).trans (congrArg kmB e1)
    have hVM : arg13.view.read (Elt F) (arg13.view.writes (Elt F) arg13.view.junk (runA.sl.HS1_2 c arg4 harg4 x2)) = vmB x2 :=
      (read_pair3 arg13.view arg13.view.junk _ _ _ _).trans (congrArg vmB e2)
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_out i arg2 harg2 arg3 harg3 arg4 harg4 arg5 harg5 arg6 harg6 arg7 harg7 arg8 harg8 arg9 harg9 arg10 harg10 arg11 harg11 arg12 harg12 arg13 harg13 arg14 harg14 _ c _ _ _ _ _ _).trans ?_
      rw [harg2.read_unread, hKM, hVM]
    isplitl [H4]
    · iexists _; isplitr; swap; · iexact H4
      ipureintro
      refine (read_qc i arg2 harg2 arg3 harg3 arg4 harg4 arg5 harg5 arg6 harg6 arg7 harg7 arg8 harg8 arg9 harg9 arg10 harg10 arg11 harg11 arg12 harg12 arg13 harg13 arg14 harg14 _ c _ _ _ _ _ _).trans ?_
      rw [harg2.read_unread]
    have hacc := read_acc i arg2 harg2 arg3 harg3 arg4 harg4 arg5 harg5 arg6 harg6 arg7 harg7 arg8 harg8 arg9 harg9 arg10 harg10 arg11 harg11 arg12 harg12 arg13 harg13 arg14 harg14 Variants.none c none (BitVec.ofNat 32 (i 1).val) (harg2.unread x0) (arg12.view.writes (Elt F) arg12.view.junk (runA.sl.HS0_2 c arg3 harg3 x1)) (arg13.view.writes (Elt F) arg13.view.junk (runA.sl.HS1_2 c arg4 harg4 x2)) (harg14.unread xs2)
    rw [harg2.read_unread, harg14.read_unread] at hacc
    isplitl [H5]
    · iexists _; isplitr; · ipureintro; exact harg7.read_unread _
      iexact H5
    isplitl [H6]
    · iexists _; isplitr; swap; · iexact H6
      ipureintro
      exact (read_pair4 arg8.view arg8.view.junk _ _ _ _).trans (congrArg kcB e1)
    isplitl [H7]
    · iexists _; isplitr; swap; · iexact H7
      ipureintro
      exact (read_pair4 arg9.view arg9.view.junk _ _ _ _).trans (congrArg ksB e1)
    isplitl [H8]
    · iexists _; isplitr; swap; · iexact H8
      ipureintro
      exact (read_pair4 arg10.view arg10.view.junk _ _ _ _).trans (congrArg vcB e2)
    isplitl [H9]
    · iexists _; isplitr; swap; · iexact H9
      ipureintro
      exact (read_pair4 arg11.view arg11.view.junk _ _ _ _).trans (congrArg vsB e2)
    isplitl [HS0]
    · iexists _, _; isplitr; swap; · iexact HS0
      ipureintro; rfl
    isplitl [HS1]
    · iexists _, _; isplitr; swap; · iexact HS1
      ipureintro; rfl
    iexists _; isplitr; swap; · iexact HS2
    ipureintro; exact hacc

end Cert.Kernel.Own

end
-- ==== Proof.PRunB.lean ====
/- The kernel's body run at one grid point: what it leaves in every buffer, as functions of the three blocks it is given. This is `KRunB` for the program whose constants are not named. -/
module

public import proofs.«01_k».proof.Proof.PBlock
public import proofs.«01_k».proof.Proof.PPts

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S1x512x1024 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x16x64x512 .fp8e4m3) (harg6 : arg6.IsWhole) (arg7 : Memref sig .tc .vmem S1x2x48x512 .i8) (harg7 : arg7.IsWhole) (arg8 : Memref sig .tc .vmem S1x2x64x512 .fp8e4m3) (harg8 : arg8.IsWhole) (arg9 : Memref sig .tc .vmem S1x2x2x512 .i8) (harg9 : arg9.IsWhole) (arg10 : Memref sig .tc .vmem S1x2x64x512 .fp8e4m3) (harg10 : arg10.IsWhole) (arg11 : Memref sig .tc .vmem S1x2x16x64 .i8) (harg11 : arg11.IsWhole) (arg12 : Memref sig .tc .vmem S2x512x256 .bf16) (harg12 : arg12.IsWhole) (arg13 : Memref sig .tc .vmem S2x64x512 .bf16) (harg13 : arg13.IsWhole) (arg14 : Memref sig .tc .vmem S2x48x512 .i32) (harg14 : arg14.IsWhole) (hc0 : k0_cond1 i = 1#1)
    (x0 : Vec F S1x512x1024 .bf16) (x1 : Vec F S1x512x128 .bf16) (x2 : Vec F S1x512x128 .bf16) (xs2 : Vec F S2x48x512 .i32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (xs2)
            ∗ (iprop(owns (c : Thread nD τ) arg2 fullShare (x0) ∗ owns (c : Thread nD τ) arg3 fullShare (x1) ∗ owns (c : Thread nD τ) arg4 fullShare (x2) ∗ owns (c : Thread nD τ) arg5 fullShare (outB x0 (kmB x1) (vmB x2)) ∗ owns (c : Thread nD τ) arg6 fullShare (qcB x0) ∗ owns (c : Thread nD τ) arg7 fullShare (k0_pay1 (upd i x0 xs2)) ∗ owns (c : Thread nD τ) arg8 fullShare (kcB x1) ∗ owns (c : Thread nD τ) arg9 fullShare (ksB x1) ∗ owns (c : Thread nD τ) arg10 fullShare (vcB x2) ∗ owns (c : Thread nD τ) arg11 fullShare (vsB x2) ∗ (∃ d, owns (c : Thread nD τ) arg12 fullShare d) ∗ (∃ d, owns (c : Thread nD τ) arg13 fullShare d) ∗ owns (c : Thread nD τ) arg14 fullShare (upd i x0 xs2)) -∗ K ⟨⟩))
          ⊢ wp frame (wpE (defs₀ (F := F)) Variants.none c none) E (cc0_mx_gqa i arg2 harg2 arg3 harg3 arg4 harg4 arg5 harg5 arg6 harg6 arg7 harg7 arg8 harg8 arg9 harg9 arg10 harg10 arg11 harg11 arg12 harg12 arg13 harg13 arg14 harg14) K := by
    intro E K
    simp only [cc0_mx_gqa_eq_skeleton]; unfold cc0_mx_gqa_skel
    simp only [k0_part13_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg14.eq_unread hfs2
    sl_exec (disch := first | sl_exact hc0)
    sl_step
    iapply Hk
    have e1 : arg3.view.readAt (Elt F) (Rect.unit (s := S1x512x128) ![0, 0, 0] S1x512x128.size inb_S1x512x128_S1x512x128_0_0_0).toLoadRect (harg3.unread x1) = x1 :=
      (readAt_whole3 arg3.view _ _).trans (harg3.read_unread x1)
    have e2 : arg4.view.readAt (Elt F) (Rect.unit (s := S1x512x128) ![0, 0, 0] S1x512x128.size inb_S1x512x128_S1x512x128_0_0_0).toLoadRect (harg4.unread x2) = x2 :=
      (readAt_whole3 arg4.view _ _).trans (harg4.read_unread x2)
    have hKM : arg12.view.read (Elt F) (arg12.view.writes (Elt F) arg12.view.junk (runB.sl.HS0_2 c arg3 harg3 x1)) = kmB x1 :=
      (read_pair3 arg12.view arg12.view.junk _ _ _ _).trans (congrArg kmB e1)
    have hVM : arg13.view.read (Elt F) (arg13.view.writes (Elt F) arg13.view.junk (runB.sl.HS1_2 c arg4 harg4 x2)) = vmB x2 :=
      (read_pair3 arg13.view arg13.view.junk _ _ _ _).trans (congrArg vmB e2)
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_out i arg2 harg2 arg3 harg3 arg4 harg4 arg5 harg5 arg6 harg6 arg7 harg7 arg8 harg8 arg9 harg9 arg10 harg10 arg11 harg11 arg12 harg12 arg13 harg13 arg14 harg14 _ c _ _ _ _ _ _).trans ?_
      rw [harg2.read_unread, hKM, hVM]
    isplitl [H4]
    · iexists _; isplitr; swap; · iexact H4
      ipureintro
      refine (read_qc i arg2 harg2 arg3 harg3 arg4 harg4 arg5 harg5 arg6 harg6 arg7 harg7 arg8 harg8 arg9 harg9 arg10 harg10 arg11 harg11 arg12 harg12 arg13 harg13 arg14 harg14 _ c _ _ _ _ _ _).trans ?_
      rw [harg2.read_unread]
    have hacc := read_acc i arg2 harg2 arg3 harg3 arg4 harg4 arg5 harg5 arg6 harg6 arg7 harg7 arg8 harg8 arg9 harg9 arg10 harg10 arg11 harg11 arg12 harg12 arg13 harg13 arg14 harg14 Variants.none c none (BitVec.ofNat 32 (i 1).val) (harg2.unread x0) (arg12.view.writes (Elt F) arg12.view.junk (runB.sl.HS0_2 c arg3 harg3 x1)) (arg13.view.writes (Elt F) arg13.view.junk (runB.sl.HS1_2 c arg4 harg4 x2)) (harg14.unread xs2)
    rw [harg2.read_unread, harg14.read_unread] at hacc
    isplitl [H5]
    · iexists _; isplitr; swap; · iexact H5
      ipureintro
      have hv : runB.sl.v285 c i arg2 harg2 arg3 harg3 arg4 harg4 arg5 harg5 arg6 harg6 arg7 harg7 arg8 harg8 arg9 harg9 arg10 harg10 arg11 harg11 arg12 harg12 arg13 harg13 arg14 harg14 x0 x1 x2 xs2 = upd i x0 xs2 :=
        (readAt_whole3 arg14.view _ _).trans hacc
      rw [hv]
      exact read_whole4 arg7.view f5 _ _
    isplitl [H6]
    · iexists _; isplitr; swap; · iexact H6
      ipureintro
      exact (read_pair4 arg8.view arg8.view.junk _ _ _ _).trans (congrArg kcB e1)
    isplitl [H7]
    · iexists _; isplitr; swap; · iexact H7
      ipureintro
      exact (read_pair4 arg9.view arg9.view.junk _ _ _ _).trans (congrArg ksB e1)
    isplitl [H8]
    · iexists _; isplitr; swap; · iexact H8
      ipureintro
      exact (read_pair4 arg10.view arg10.view.junk _ _ _ _).trans (congrArg vcB e2)
    isplitl [H9]
    · iexists _; isplitr; swap; · iexact H9
      ipureintro
      exact (read_pair4 arg11.view arg11.view.junk _ _ _ _).trans (congrArg vsB e2)
    isplitl [HS0]
    · iexists _, _; isplitr; swap; · iexact HS0
      ipureintro; rfl
    isplitl [HS1]
    · iexists _, _; isplitr; swap; · iexact HS1
      ipureintro; rfl
    iexists _; isplitr; swap; · iexact HS2
    ipureintro; exact hacc

end Cert.Kernel.Own

end
-- ==== Proof.PDats.lean ====
/- The run of the whole kernel: what every grid point leaves in its blocks, and the run of the pipelined launch with the lines after it. This is `KDats` for the program whose constants are not named. -/
module

public import proofs.«01_k».proof.Proof.PRunA
public import proofs.«01_k».proof.Proof.PRunB
public import proofs.«01_k».proof.Proof.Gen.Kernel.Frame
public import Idealize.ShloMosaic.Lib.Claim

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The last block of queries of a batch. -/
abbrev cond0_0 (i : grid0.Coords) : Prop := k0_cond1 i = 1#1
theorem hcond0_0 : ∀ t : Fin cfg0.N, cond0_0 (grid0.coords t) ↔ t.val % 3 = 2 :=
  (fun t => by
    have ht : t.val < 12 := Nat.lt_of_lt_of_eq t.isLt N_0
    have e0 : (grid0.coords t 0).val = t.val / 3 % 4 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 3 = 2)
theorem coord1 (t : Fin cfg0.N) : (grid0.coords t 1).val = t.val % 3 := by
  have e1 : (grid0.coords t 1).val = t.val / 1 % 3 := Pipeline.Grid.coords_val t 1 (by decide) rfl
  rw [e1, Nat.div_one]
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem idleAt0_5 : ∀ t : Fin cfg0.N, ¬cond0_0 (grid0.coords t) → cfg0.idle 5 (grid0.coords t) = true := by decide +kernel
theorem noFlush0_5 : ∀ t : Fin cfg0.N, ¬cond0_0 (grid0.coords t) → (cfg0.win 5).flush t = false := by decide +kernel
theorem liveAt0_5 : ∀ t : Fin cfg0.N, cond0_0 (grid0.coords t) → cfg0.idle 5 (grid0.coords t) = false := by decide +kernel
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x64x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x48x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x2x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x64x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x16x64 .i8 := win0_9.stage (cfg0.slots t 9)
abbrev hs0_9 (t : Fin cfg0.N) : (ms0_9 t).IsWhole := hstage0_9 ((cfg0.slots t 9).cast nbuf0_9)
abbrev scM0_0 : Memref sig .tc .vmem S2x512x256 .bf16 := Memref.whole cc0_scratch0
abbrev scM0_1 : Memref sig .tc .vmem S2x64x512 .bf16 := Memref.whole cc0_scratch1
abbrev scM0_2 : Memref sig .tc .vmem S2x48x512 .i32 := Memref.whole cc0_scratch2
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What each point leaves -/

/-- The block of queries at a point. -/
abbrev ib0 (c : Dev nD) (t : Fin cfg0.N) : Vec F S1x512x1024 .bf16 := iblk m c 0 t
/-- The block of keys at a point. -/
abbrev ib1 (c : Dev nD) (t : Fin cfg0.N) : Vec F S1x512x128 .bf16 := iblk m c 1 t
/-- The block of values at a point. -/
abbrev ib2 (c : Dev nD) (t : Fin cfg0.N) : Vec F S1x512x128 .bf16 := iblk m c 2 t

theorem lt_N {n : ℕ} (h : n < 12) : n < cfg0.N := lt_of_lt_of_eq h (show cfg0.N = 12 from N_0).symm
/-- All the exponents of the queries of batch `b`. -/
def accW (c : Dev nD) (b : ℕ) : Vec F S2x48x512 .i32 :=
  fun y => qeB (ib0 m c ⟨(3 * b + (y 1).val / 16) % 12, lt_N (Nat.mod_lt _ (by decide))⟩) (y 0) ⟨(y 1).val % 16, Nat.mod_lt _ (by decide)⟩ (y 2)
/-- Before point `t` the accumulator's rows of the batch's earlier points hold their exponents. -/
def accInv (c : Dev nD) (t : ℕ) (d : Vec F S2x48x512 .i32) : Prop := ∀ y, (y 1).val < 16 * (t % 3) → d y = accW m c (t / 3) y

theorem qeB_congr (c : Dev nD) {t t' : Fin cfg0.N} (ht : t.val = t'.val) (n : Fin 2) {r r' : Fin 16} (hr : r.val = r'.val) (s : Fin 512) :
    qeB (ib0 m c t) n r s = qeB (ib0 m c t') n r' s := by
  obtain rfl := Fin.ext ht; obtain rfl := Fin.ext hr; rfl

theorem upd_eq (c : Dev nD) (t : Fin cfg0.N) (d : Vec F S2x48x512 .i32) (hd : accInv m c t.val d) (y : S2x48x512.Idx)
    (hy : (y 1).val < 16 * (t.val % 3) + 16) : upd (grid0.coords t) (ib0 m c t) d y = accW m c (t.val / 3) y := by
  have hN : t.val < 12 := lt_of_lt_of_eq t.isLt (show cfg0.N = 12 from N_0)
  have e1 := coord1 t
  unfold upd
  by_cases h : 16 * (grid0.coords t 1).val ≤ (y 1).val ∧ (y 1).val < 16 * (grid0.coords t 1).val + 16
  · rw [dif_pos h]
    unfold accW
    exact qeB_congr m c (by show t.val = (3 * (t.val / 3) + (y 1).val / 16) % 12; omega) _ (by show (y 1).val - 16 * (grid0.coords t 1).val = (y 1).val % 16; omega) _
  · rw [dif_neg h]
    exact hd y (by omega)
theorem accInv_succ (c : Dev nD) (t : Fin cfg0.N) (d : Vec F S2x48x512 .i32) (hd : accInv m c t.val d) :
    accInv m c (t.val + 1) (upd (grid0.coords t) (ib0 m c t) d) := by
  intro y hy
  rw [upd_eq m c t d hd y (by omega)]
  congr 1; omega
theorem upd_last (c : Dev nD) (t : Fin cfg0.N) (h : t.val % 3 = 2) (d : Vec F S2x48x512 .i32) (hd : accInv m c t.val d) :
    upd (grid0.coords t) (ib0 m c t) d = accW m c (t.val / 3) := by
  funext y
  have hy : (y 1).val < 48 := (y 1).isLt
  exact upd_eq m c t d hd y (by omega)

/-- What the buffers that the points share hold before point `t`. -/
def PhiS (c : Dev nD) (t : ℕ) : sProp 𝕄 :=
  iprop(iprop((∃ d, owns (c : Thread nD τ) scM0_0 fullShare d) ∗ (∃ d, owns (c : Thread nD τ) scM0_1 fullShare d) ∗ (∃ d, ⌜accInv m c t d⌝ ∗ owns (c : Thread nD τ) scM0_2 fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB (ib0 m c t) (kmB (ib1 m c t)) (vmB (ib2 m c t))
    | ⟨4, _⟩ => qcB (ib0 m c t)
    | ⟨5, _⟩ => k0_pay1 (accW m c (t.val / 3))
    | ⟨6, _⟩ => kcB (ib1 m c t)
    | ⟨7, _⟩ => ksB (ib1 m c t)
    | ⟨8, _⟩ => vcB (ib2 m c t)
    | ⟨9, _⟩ => vsB (ib2 m c t)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB (ib0 m c t) (kmB (ib1 m c t)) (vmB (ib2 m c t)) := by dsimp only [dats]
theorem after0_4 (c : Dev nD) (t : Fin cfg0.N) : (dats m 0 c).after 4 t = qcB (ib0 m c t) := by dsimp only [dats]
theorem after0_5 (c : Dev nD) (t : Fin cfg0.N) : (dats m 0 c).after 5 t = k0_pay1 (accW m c (t.val / 3)) := by dsimp only [dats]
theorem after0_6 (c : Dev nD) (t : Fin cfg0.N) : (dats m 0 c).after 6 t = kcB (ib1 m c t) := by dsimp only [dats]
theorem after0_7 (c : Dev nD) (t : Fin cfg0.N) : (dats m 0 c).after 7 t = ksB (ib1 m c t) := by dsimp only [dats]
theorem after0_8 (c : Dev nD) (t : Fin cfg0.N) : (dats m 0 c).after 8 t = vcB (ib2 m c t) := by dsimp only [dats]
theorem after0_9 (c : Dev nD) (t : Fin cfg0.N) : (dats m 0 c).after 9 t = vsB (ib2 m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 12 := lt_of_lt_of_eq t.isLt (show cfg0.N = 12 from N_0)
  by_cases h0 : t.val % 3 = 2
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t ((hcond0_0 t).mpr h0)], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [← upd_last m c t h0 d hd]
    iapply (runB c (grid0.coords t) _ _ _ _ _ _ _ _ _ _ _ _ _ _ _ _ _ _ _ _ _ _ _ _ _ _ ((hcond0_0 t).mpr h0) (ib0 m c t) (ib1 m c t) (ib2 m c t) d Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexact HS0
        isplitl [HS1]
        · iexact HS1
        iexists _
        isplitr
        swap
        · iexact HS2
        ipureintro; exact accInv_succ m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [Dat.leavesExact_idle (dats m 0 c) 5 t (idleAt0_5 t (fun h => h0 ((hcond0_0 t).mp h))) (noFlush0_5 t (fun h => h0 ((hcond0_0 t).mp h)))]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords t) _ _ _ _ _ _ _ _ _ _ _ _ _ _ _ _ _ _ _ _ _ _ _ _ _ _ (fun h => h0 ((hcond0_0 t).mp h)) (ib0 m c t) (ib1 m c t) (ib2 m c t) d _ Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexact HS0
        isplitl [HS1]
        · iexact HS1
        iexists _
        isplitr
        swap
        · iexact HS2
        ipureintro; exact accInv_succ m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := by
  rw [show (dats m 0 c).Φ 0 = PhiS m c 0 from rfl, PhiA0_eq]
  unfold PhiS
  iintro ⟨⟨HS0, HS1, ⟨%d, HS2⟩⟩, Hg⟩
  isplitl [HS0 HS1 HS2]
  · isplitl [HS0]
    · iexact HS0
    isplitl [HS1]
    · iexact HS1
    iexists _
    isplitr
    swap
    · iexact HS2
    ipureintro
    intro y hy
    exact absurd hy (Nat.not_lt_zero _)
  iexact Hg
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨HS0, HS1, ⟨%d, %hd, HS2⟩⟩, Hg⟩
  isplitl [HS0 HS1 HS2]
  · isplitl [HS0]
    · iexact HS0
    isplitl [HS1]
    · iexact HS1
    iexists _; iexact HS2
  iexact Hg
set_option backward.isDefEq.respectTransparency.types false in
set_option maxHeartbeats 800000 in
/-- The run, with every buffer at its end named. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)
/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)
/-- The run ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Own

end
-- ==== Proof.KTrip.lean ====
/- One trip of the kernel's loop over the head pairs: the pieces that it stores, as explicit lists. -/
module

public import proofs.«01_k».proof.Proof.Gen.KernelIdeal.Loops
public import proofs.«01_k».proof.Proof.Gen.KernelIdeal.Points
public import Idealize.ShloMosaic.Lib.Writes
public import Idealize.ShloMosaic.Lib.WritesUnit
public import Idealize.ShloMosaic.Lib.WholeRead
public import Idealize.ShloMosaic.Lib.PointwiseCore

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI Idealize.SL.Sem
open Cert.KernelIdeal.Gen

variable {F : FTy → Type} [FloatOps F] [Named F]

/-! ## The quantiser of the queries on one slab of 128 columns -/

/-- The exponent field that the search finds, before the two exceptional fields are replaced. -/
def fq (v : Vec F S1x512x128 .bf16) : IVec S4x1x512 32 := k0_pay7 (k0_pay3 v) (k0_pay4 v) (k0_pay5 v) (k0_pay6 v)
/-- Whether that field is zero. -/
def fz (v : Vec F S1x512x128 .bf16) : IVec S4x1x512 1 := k0_pay8 (k0_pay3 v) (k0_pay4 v) (k0_pay5 v) (k0_pay6 v)
/-- The codes of the slab, transposed. -/
def qc (v : Vec F S1x512x128 .bf16) : FVec F S128x512 .fp8e4m3 := k0_pay11 (k0_pay2 v) (fq v) (fz v)
/-- The dequantised slab, transposed. -/
def qd (v : Vec F S1x512x128 .bf16) : FVec F S128x512 .bf16 := k0_pay12 (k0_pay2 v) (fq v) (fz v)
/-- The stored exponents of the slab. -/
def qe (v : Vec F S1x512x128 .bf16) : IVec S4x512 32 := k0_pay13 (fq v) (fz v)
/-- The attention of the slab's two heads against one key matrix and one value matrix. -/
def at2 (v : Vec F S1x512x128 .bf16) (K : Vec F S1x512x256 .bf16) (W : Vec F S1x64x512 .bf16) : FVec F S1x512x128 .bf16 :=
  k0_pay62 (qd v) (k0_pay19 (qd v) (k0_pay18 (qd v) K W) K W) (k0_pay24 (qd v) K W) K W

section
variable (i : grid0.Coords) (arg2 : Memref sig .tc .vmem S1x512x1024 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x16x64x512 .fp8e4m3) (harg6 : arg6.IsWhole) (arg7 : Memref sig .tc .vmem S1x2x48x512 .i8) (harg7 : arg7.IsWhole) (arg8 : Memref sig .tc .vmem S1x2x64x512 .fp8e4m3) (harg8 : arg8.IsWhole) (arg9 : Memref sig .tc .vmem S1x2x2x512 .i8) (harg9 : arg9.IsWhole) (arg10 : Memref sig .tc .vmem S1x2x64x512 .fp8e4m3) (harg10 : arg10.IsWhole) (arg11 : Memref sig .tc .vmem S1x2x16x64 .i8) (harg11 : arg11.IsWhole) (arg12 : Memref sig .tc .vmem S2x512x256 .bf16) (harg12 : arg12.IsWhole) (arg13 : Memref sig .tc .vmem S2x64x512 .bf16) (harg13 : arg13.IsWhole) (arg14 : Memref sig .tc .vmem S2x48x512 .i32) (harg14 : arg14.IsWhole)

theorem tripL_eq (𝒱 : Variants) (c : Dev nD) (bd : Option 𝒱.V) (arg1 : BitVec 32) (X2 : BufTy.Contents (Elt F) arg2.view.ty) (X12 : BufTy.Contents (Elt F) arg12.view.ty) (X13 : BufTy.Contents (Elt F) arg13.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 k
      = let v : Vec F S1x512x128 .bf16 := arg2.view.readAt (Elt F) (Rect.unit (s := S1x512x1024) (k0_off1 k) S1x512x128.size (k0_off1_inb k)).toLoadRect X2
        let K : Vec F S1x512x256 .bf16 := arg12.view.readAt (Elt F) (Rect.unit (s := S2x512x256) (k0_off5 k) S1x512x256.size (k0_off5_inb k)).toLoadRect X12
        let W : Vec F S1x64x512 .bf16 := arg13.view.readAt (Elt F) (Rect.unit (s := S2x64x512) (k0_off6 k) S1x64x512.size (k0_off6_inb k)).toLoadRect X13
        ([⟨Rect.unit (s := S1x512x1024) (k0_off1 k) S1x512x128.size (k0_off1_inb k), at2 v K W⟩],
         [⟨Rect.unit (s := S1x16x64x512) (k0_off2 k 1#32) S1x1x64x512.size (k0_off2_inb k 1), k0_pay20 (qc v)⟩,
          ⟨Rect.unit (s := S1x16x64x512) (k0_off2 k 0#32) S1x1x64x512.size (k0_off2_inb k 0), k0_pay14 (k0_pay2 v) (fq v) (fz v)⟩],
         [⟨Rect.unit (s := S2x48x512) (k0_off4 i k 1#32) S1x1x512.size (k0_off4_inb i k 1), k0_pay23 (qe v)⟩,
          ⟨Rect.unit (s := S2x48x512) (k0_off3 i k 1#32) S1x1x512.size (k0_off3_inb i k 1), k0_pay22 (k0_pay21 (qe v))⟩,
          ⟨Rect.unit (s := S2x48x512) (k0_off4 i k 0#32) S1x1x512.size (k0_off4_inb i k 0), k0_pay17 (qe v)⟩,
          ⟨Rect.unit (s := S2x48x512) (k0_off3 i k 0#32) S1x1x512.size (k0_off3_inb i k 0), k0_pay16 (k0_pay15 (fq v) (fz v))⟩]) := by
  unfold tripL_k0_t1 trip_k0_t1
  rfl
end

end Cert.KernelIdeal.Own

end
-- ==== Proof.KBlock.lean ====
/- What the loop over the head pairs leaves in the buffers that it stores into, as one function of the buffers it reads. -/
module

public import proofs.«01_k».proof.Proof.KTrip
public import Idealize.ShloMosaic.Lib.Pipeline.ValueKit.Geometry

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI Idealize.SL.Sem
open Cert.KernelIdeal.Gen

variable {F : FTy → Type} [FloatOps F] [Named F]

/-- Columns `128 k` to `128 k + 127` of a block of queries. -/
def slab (x : Vec F S1x512x1024 .bf16) (k : Fin 8) : Vec F S1x512x128 .bf16 :=
  fun j => x (ix3 0 (j 1) ⟨128 * k.val + (j 2).val, by have := (j 2).isLt; have : (j 2).val < 128 := this; omega⟩)
/-- One of the two key matrices. -/
def kslab (x : Vec F S2x512x256 .bf16) (g : Fin 2) : Vec F S1x512x256 .bf16 := fun j => x (ix3 g (j 1) (j 2))
/-- One of the two value matrices. -/
def vslab (x : Vec F S2x64x512 .bf16) (g : Fin 2) : Vec F S1x64x512 .bf16 := fun j => x (ix3 g (j 1) (j 2))

/-- The attention of a block of queries. -/
def outB (x : Vec F S1x512x1024 .bf16) (KM : Vec F S2x512x256 .bf16) (VM : Vec F S2x64x512 .bf16) : Vec F S1x512x1024 .bf16 :=
  fun y => at2 (slab x ⟨(y 2).val / 128, by have : (y 2).val < 1024 := (y 2).isLt; omega⟩)
    (kslab KM ⟨(y 2).val / 512, by have : (y 2).val < 1024 := (y 2).isLt; omega⟩)
    (vslab VM ⟨(y 2).val / 512, by have : (y 2).val < 1024 := (y 2).isLt; omega⟩)
    (ix3 0 (y 1) ⟨(y 2).val % 128, Nat.mod_lt _ (by decide)⟩)
/-- The codes of a block of queries. -/
def qcB (x : Vec F S1x512x1024 .bf16) : Vec F S1x16x64x512 .fp8e4m3 :=
  fun y => qc (slab x ⟨(y 1).val / 2, by have : (y 1).val < 16 := (y 1).isLt; omega⟩)
    (ix2 ⟨64 * ((y 1).val % 2) + (y 2).val, by have : (y 2).val < 64 := (y 2).isLt; omega⟩ (y 3))
/-- The stored exponents of a block of queries, by the head within the block. -/
def qeB (x : Vec F S1x512x1024 .bf16) (n : Fin 2) (r : Fin 16) (s : Fin 512) : BitVec 32 :=
  qe (slab x ⟨r.val / 2, by omega⟩) (ix2 ⟨2 * (r.val % 2) + n.val, by omega⟩ s)

/-- The rows of exponents of one block of queries put over what the accumulator held. -/
def upd (i : grid0.Coords) (x : Vec F S1x512x1024 .bf16) (d : Vec F S2x48x512 .i32) : Vec F S2x48x512 .i32 :=
  fun y => if h : 16 * (i 1).val ≤ (y 1).val ∧ (y 1).val < 16 * (i 1).val + 16 then qeB x (y 0) ⟨(y 1).val - 16 * (i 1).val, by omega⟩ (y 2) else d y

theorem trips_eq : k0_t1_loop.trips = 8 := by decide
theorem klt (k : Fin k0_t1_loop.trips) : k.val < 8 := lt_of_lt_of_eq k.isLt trips_eq
theorem off5_eq : ∀ k : Fin k0_t1_loop.trips, k0_off5 k = ![k.val / 4, 0, 0] := by decide +kernel
theorem off6_eq : ∀ k : Fin k0_t1_loop.trips, k0_off6 k = ![k.val / 4, 0, 0] := by decide +kernel

theorem idx3_ext {n0 n1 n2 : ℕ} {a b : (⟨3, ![n0, n1, n2]⟩ : Shape).Idx} (h0 : (a 0).val = (b 0).val) (h1 : (a 1).val = (b 1).val) (h2 : (a 2).val = (b 2).val) : a = b := by
  funext i; match i with
  | ⟨0, _⟩ => exact Fin.ext h0
  | ⟨1, _⟩ => exact Fin.ext h1
  | ⟨2, _⟩ => exact Fin.ext h2
theorem idx4_ext {n0 n1 n2 n3 : ℕ} {a b : (⟨4, ![n0, n1, n2, n3]⟩ : Shape).Idx} (h0 : (a 0).val = (b 0).val) (h1 : (a 1).val = (b 1).val) (h2 : (a 2).val = (b 2).val) (h3 : (a 3).val = (b 3).val) : a = b := by
  funext i; match i with
  | ⟨0, _⟩ => exact Fin.ext h0
  | ⟨1, _⟩ => exact Fin.ext h1
  | ⟨2, _⟩ => exact Fin.ext h2
  | ⟨3, _⟩ => exact Fin.ext h3

theorem ld1 (v : View sig .tc .vmem S1x512x1024 .bf16) (X : BufTy.Contents (Elt F) v.ty) (k : Fin k0_t1_loop.trips) :
    v.readAt (Elt F) (Rect.unit (s := S1x512x1024) (k0_off1 k) S1x512x128.size (k0_off1_inb k)).toLoadRect X
      = slab (v.read (Elt F) X) (k.cast trips_eq) := by
  funext j
  show v.read (Elt F) X _ = v.read (Elt F) X _
  congr 1
  refine idx3_ext ?_ ?_ ?_
  · have h : (j 0).val < 1 := (j 0).isLt
    have e : k0_off1 k 0 = 0 := congrFun (k0_off1_eq k) 0
    refine (ValueKit.rect_emb_unit_val (s := S1x512x1024) (k0_off1 k) S1x512x128.size (k0_off1_inb k) j 0).trans ?_
    show k0_off1 k 0 + (j 0).val = 0; omega
  · have e : k0_off1 k 1 = 0 := congrFun (k0_off1_eq k) 1
    refine (ValueKit.rect_emb_unit_val (s := S1x512x1024) (k0_off1 k) S1x512x128.size (k0_off1_inb k) j 1).trans ?_
    show k0_off1 k 1 + (j 1).val = (j 1).val; omega
  · have e : k0_off1 k 2 = 128 * k.val := congrFun (k0_off1_eq k) 2
    refine (ValueKit.rect_emb_unit_val (s := S1x512x1024) (k0_off1 k) S1x512x128.size (k0_off1_inb k) j 2).trans ?_
    show k0_off1 k 2 + (j 2).val = 128 * k.val + (j 2).val; omega
theorem ld5 (v : View sig .tc .vmem S2x512x256 .bf16) (X : BufTy.Contents (Elt F) v.ty) (k : Fin k0_t1_loop.trips) :
    v.readAt (Elt F) (Rect.unit (s := S2x512x256) (k0_off5 k) S1x512x256.size (k0_off5_inb k)).toLoadRect X
      = kslab (v.read (Elt F) X) ⟨k.val / 4, by have := klt k; omega⟩ := by
  funext j
  show v.read (Elt F) X _ = v.read (Elt F) X _
  congr 1
  refine idx3_ext ?_ ?_ ?_
  · have h : (j 0).val < 1 := (j 0).isLt
    have e : k0_off5 k 0 = k.val / 4 := congrFun (off5_eq k) 0
    refine (ValueKit.rect_emb_unit_val (s := S2x512x256) (k0_off5 k) S1x512x256.size (k0_off5_inb k) j 0).trans ?_
    show k0_off5 k 0 + (j 0).val = k.val / 4; omega
  · have e : k0_off5 k 1 = 0 := congrFun (off5_eq k) 1
    refine (ValueKit.rect_emb_unit_val (s := S2x512x256) (k0_off5 k) S1x512x256.size (k0_off5_inb k) j 1).trans ?_
    show k0_off5 k 1 + (j 1).val = (j 1).val; omega
  · have e : k0_off5 k 2 = 0 := congrFun (off5_eq k) 2
    refine (ValueKit.rect_emb_unit_val (s := S2x512x256) (k0_off5 k) S1x512x256.size (k0_off5_inb k) j 2).trans ?_
    show k0_off5 k 2 + (j 2).val = (j 2).val; omega
theorem ld6 (v : View sig .tc .vmem S2x64x512 .bf16) (X : BufTy.Contents (Elt F) v.ty) (k : Fin k0_t1_loop.trips) :
    v.readAt (Elt F) (Rect.unit (s := S2x64x512) (k0_off6 k) S1x64x512.size (k0_off6_inb k)).toLoadRect X
      = vslab (v.read (Elt F) X) ⟨k.val / 4, by have := klt k; omega⟩ := by
  funext j
  show v.read (Elt F) X _ = v.read (Elt F) X _
  congr 1
  refine idx3_ext ?_ ?_ ?_
  · have h : (j 0).val < 1 := (j 0).isLt
    have e : k0_off6 k 0 = k.val / 4 := congrFun (off6_eq k) 0
    refine (ValueKit.rect_emb_unit_val (s := S2x64x512) (k0_off6 k) S1x64x512.size (k0_off6_inb k) j 0).trans ?_
    show k0_off6 k 0 + (j 0).val = k.val / 4; omega
  · have e : k0_off6 k 1 = 0 := congrFun (off6_eq k) 1
    refine (ValueKit.rect_emb_unit_val (s := S2x64x512) (k0_off6 k) S1x64x512.size (k0_off6_inb k) j 1).trans ?_
    show k0_off6 k 1 + (j 1).val = (j 1).val; omega
  · have e : k0_off6 k 2 = 0 := congrFun (off6_eq k) 2
    refine (ValueKit.rect_emb_unit_val (s := S2x64x512) (k0_off6 k) S1x64x512.size (k0_off6_inb k) j 2).trans ?_
    show k0_off6 k 2 + (j 2).val = (j 2).val; omega

theorem emb1 (k : Fin k0_t1_loop.trips) (x : S1x512x128.Idx) :
    (Rect.unit (s := S1x512x1024) (k0_off1 k) S1x512x128.size (k0_off1_inb k)).emb x
      = (ix3 0 (x 1) ⟨128 * k.val + (x 2).val, by have := klt k; have : (x 2).val < 128 := (x 2).isLt; omega⟩ : S1x512x1024.Idx) := by
  have h : (x 0).val < 1 := (x 0).isLt
  have e0 : k0_off1 k 0 = 0 := congrFun (k0_off1_eq k) 0
  have e1 : k0_off1 k 1 = 0 := congrFun (k0_off1_eq k) 1
  have e2 : k0_off1 k 2 = 128 * k.val := congrFun (k0_off1_eq k) 2
  refine idx3_ext ?_ ?_ ?_
  · refine (ValueKit.rect_emb_unit_val (s := S1x512x1024) (k0_off1 k) S1x512x128.size (k0_off1_inb k) x 0).trans ?_
    show k0_off1 k 0 + (x 0).val = 0; omega
  · refine (ValueKit.rect_emb_unit_val (s := S1x512x1024) (k0_off1 k) S1x512x128.size (k0_off1_inb k) x 1).trans ?_
    show k0_off1 k 1 + (x 1).val = (x 1).val; omega
  · refine (ValueKit.rect_emb_unit_val (s := S1x512x1024) (k0_off1 k) S1x512x128.size (k0_off1_inb k) x 2).trans ?_
    show k0_off1 k 2 + (x 2).val = 128 * k.val + (x 2).val; omega
theorem emb2 (k : Fin k0_t1_loop.trips) (r : Fin 2) (x : S1x1x64x512.Idx) :
    (Rect.unit (s := S1x16x64x512) (k0_off2 k (BitVec.ofNat 32 r.val)) S1x1x64x512.size (k0_off2_inb k r)).emb x
      = (ix4 0 ⟨2 * k.val + r.val, by have := klt k; omega⟩ (x 2) (x 3) : S1x16x64x512.Idx) := by
  have h0 : (x 0).val < 1 := (x 0).isLt
  have h1 : (x 1).val < 1 := (x 1).isLt
  have e0 : k0_off2 k (BitVec.ofNat 32 r.val) 0 = 0 := congrFun (k0_off2_eq k r) 0
  have e1 : k0_off2 k (BitVec.ofNat 32 r.val) 1 = 2 * k.val + r.val := congrFun (k0_off2_eq k r) 1
  have e2 : k0_off2 k (BitVec.ofNat 32 r.val) 2 = 0 := congrFun (k0_off2_eq k r) 2
  have e3 : k0_off2 k (BitVec.ofNat 32 r.val) 3 = 0 := congrFun (k0_off2_eq k r) 3
  refine idx4_ext ?_ ?_ ?_ ?_
  · refine (ValueKit.rect_emb_unit_val (s := S1x16x64x512) (k0_off2 k (BitVec.ofNat 32 r.val)) S1x1x64x512.size (k0_off2_inb k r) x 0).trans ?_
    show k0_off2 k (BitVec.ofNat 32 r.val) 0 + (x 0).val = 0; omega
  · refine (ValueKit.rect_emb_unit_val (s := S1x16x64x512) (k0_off2 k (BitVec.ofNat 32 r.val)) S1x1x64x512.size (k0_off2_inb k r) x 1).trans ?_
    show k0_off2 k (BitVec.ofNat 32 r.val) 1 + (x 1).val = 2 * k.val + r.val; omega
  · refine (ValueKit.rect_emb_unit_val (s := S1x16x64x512) (k0_off2 k (BitVec.ofNat 32 r.val)) S1x1x64x512.size (k0_off2_inb k r) x 2).trans ?_
    show k0_off2 k (BitVec.ofNat 32 r.val) 2 + (x 2).val = (x 2).val; omega
  · refine (ValueKit.rect_emb_unit_val (s := S1x16x64x512) (k0_off2 k (BitVec.ofNat 32 r.val)) S1x1x64x512.size (k0_off2_inb k r) x 3).trans ?_
    show k0_off2 k (BitVec.ofNat 32 r.val) 3 + (x 3).val = (x 3).val; omega

theorem at2_congr (x : Vec F S1x512x1024 .bf16) (KM : Vec F S2x512x256 .bf16) (VM : Vec F S2x64x512 .bf16) {k k' : Fin 8} {g g' : Fin 2} {j j' : S1x512x128.Idx}
    (hk : k.val = k'.val) (hg : g.val = g'.val) (hj : j = j') :
    at2 (slab x k) (kslab KM g) (vslab VM g) j = at2 (slab x k') (kslab KM g') (vslab VM g') j' := by
  obtain rfl := Fin.ext hk; obtain rfl := Fin.ext hg; rw [hj]
theorem qc_congr (x : Vec F S1x512x1024 .bf16) {k k' : Fin 8} {d d' : Fin 128} {s : Fin 512} (hk : k.val = k'.val) (hd : d.val = d'.val) :
    qc (slab x k) (ix2 d s) = qc (slab x k') (ix2 d' s) := by
  obtain rfl := Fin.ext hk; obtain rfl := Fin.ext hd; rfl
theorem qe_congr (x : Vec F S1x512x1024 .bf16) {k k' : Fin 8} {d d' : Fin 4} {s : Fin 512} (hk : k.val = k'.val) (hd : d.val = d'.val) :
    qe (slab x k) (ix2 d s) = qe (slab x k') (ix2 d' s) := by
  obtain rfl := Fin.ext hk; obtain rfl := Fin.ext hd; rfl
theorem outB_at (x : Vec F S1x512x1024 .bf16) (KM : Vec F S2x512x256 .bf16) (VM : Vec F S2x64x512 .bf16) (k : Fin 8) (j : S1x512x128.Idx) :
    outB x KM VM (ix3 0 (j 1) ⟨128 * k.val + (j 2).val, by have : (j 2).val < 128 := (j 2).isLt; omega⟩)
      = at2 (slab x k) (kslab KM ⟨k.val / 4, by omega⟩) (vslab VM ⟨k.val / 4, by omega⟩) j := by
  have h2 : (j 2).val < 128 := (j 2).isLt
  have h0 : (j 0).val < 1 := (j 0).isLt
  have ek : (128 * k.val + (j 2).val) / 128 = k.val := by omega
  have eg : (128 * k.val + (j 2).val) / 512 = k.val / 4 := by omega
  have em : (128 * k.val + (j 2).val) % 128 = (j 2).val := by omega
  exact at2_congr _ _ _ ek eg (idx3_ext (by show 0 = (j 0).val; omega) rfl em)
theorem qcB_at1 (x : Vec F S1x512x1024 .bf16) (k : Fin 8) (j : S1x1x64x512.Idx) :
    qcB x (ix4 0 ⟨2 * k.val + (1 : Fin 2).val, by have : (1 : Fin 2).val = 1 := rfl; omega⟩ (j 2) (j 3)) = k0_pay20 (qc (slab x k)) j := by
  have e : k0_pay20 (qc (slab x k)) j = qc (slab x k) (ix2 ⟨64 + (j 2).val, by have : (j 2).val < 64 := (j 2).isLt; omega⟩ (j 3)) := by
    generalize qc (slab x k) = w
    idx_vars j
    pointwise [k0_pay20]
  rw [e]
  unfold qcB
  have ek : (2 * k.val + 1) / 2 = k.val := by omega
  have em : (2 * k.val + 1) % 2 = 1 := by omega
  exact qc_congr _ ek (by show 64 * ((2 * k.val + 1) % 2) + (j 2).val = 64 + (j 2).val; omega)
theorem qcB_at0 (x : Vec F S1x512x1024 .bf16) (k : Fin 8) (j : S1x1x64x512.Idx) :
    qcB x (ix4 0 ⟨2 * k.val + (0 : Fin 2).val, by have : (0 : Fin 2).val = 0 := rfl; omega⟩ (j 2) (j 3)) = k0_pay14 (k0_pay2 (slab x k)) (fq (slab x k)) (fz (slab x k)) j := by
  have e : k0_pay14 (k0_pay2 (slab x k)) (fq (slab x k)) (fz (slab x k)) j = qc (slab x k) (ix2 ⟨(j 2).val, by have : (j 2).val < 64 := (j 2).isLt; omega⟩ (j 3)) := by
    show shapeCast S1x1x64x512 (extractStridedSlice S64x512 ![0, 0] (qc (slab x k)) slices_S128x512_o0_0_S64x512) shapeCasts_S64x512_S1x1x64x512 j = _
    generalize qc (slab x k) = w
    idx_vars j
    pointwise []
  rw [e]
  unfold qcB
  have ek : (2 * k.val + 0) / 2 = k.val := by omega
  have em : (2 * k.val + 0) % 2 = 0 := by omega
  exact qc_congr _ ek (by show 64 * ((2 * k.val + 0) % 2) + (j 2).val = (j 2).val; omega)

theorem emb3 (i : grid0.Coords) (k : Fin k0_t1_loop.trips) (r : Fin 2) (x : S1x1x512.Idx) :
    (Rect.unit (s := S2x48x512) (k0_off3 i k (BitVec.ofNat 32 r.val)) S1x1x512.size (k0_off3_inb i k r)).emb x
      = (ix3 0 ⟨16 * (i 1).val + (2 * k.val + r.val), by have := klt k; have : (i 1).val < 3 := (i 1).isLt; omega⟩ (x 2) : S2x48x512.Idx) := by
  have h0 : (x 0).val < 1 := (x 0).isLt
  have h1 : (x 1).val < 1 := (x 1).isLt
  have e0 : k0_off3 i k (BitVec.ofNat 32 r.val) 0 = 0 := congrFun (k0_off3_eq i k r) 0
  have e1 : k0_off3 i k (BitVec.ofNat 32 r.val) 1 = 16 * (i 1).val + 2 * k.val + r.val := congrFun (k0_off3_eq i k r) 1
  have e2 : k0_off3 i k (BitVec.ofNat 32 r.val) 2 = 0 := congrFun (k0_off3_eq i k r) 2
  refine idx3_ext ?_ ?_ ?_
  · refine (ValueKit.rect_emb_unit_val (s := S2x48x512) (k0_off3 i k (BitVec.ofNat 32 r.val)) S1x1x512.size (k0_off3_inb i k r) x 0).trans ?_
    show k0_off3 i k (BitVec.ofNat 32 r.val) 0 + (x 0).val = 0; omega
  · refine (ValueKit.rect_emb_unit_val (s := S2x48x512) (k0_off3 i k (BitVec.ofNat 32 r.val)) S1x1x512.size (k0_off3_inb i k r) x 1).trans ?_
    show k0_off3 i k (BitVec.ofNat 32 r.val) 1 + (x 1).val = 16 * (i 1).val + (2 * k.val + r.val); omega
  · refine (ValueKit.rect_emb_unit_val (s := S2x48x512) (k0_off3 i k (BitVec.ofNat 32 r.val)) S1x1x512.size (k0_off3_inb i k r) x 2).trans ?_
    show k0_off3 i k (BitVec.ofNat 32 r.val) 2 + (x 2).val = (x 2).val; omega
theorem mem3 (i : grid0.Coords) (k : Fin k0_t1_loop.trips) (r : Fin 2) (y : S2x48x512.Idx) :
    y ∈ (Rect.unit (s := S2x48x512) (k0_off3 i k (BitVec.ofNat 32 r.val)) S1x1x512.size (k0_off3_inb i k r)).set
      ↔ (y 0).val = 0 ∧ (y 1).val = 16 * (i 1).val + (2 * k.val + r.val) := by
  have e0 : k0_off3 i k (BitVec.ofNat 32 r.val) 0 = 0 := congrFun (k0_off3_eq i k r) 0
  have e1 : k0_off3 i k (BitVec.ofNat 32 r.val) 1 = 16 * (i 1).val + 2 * k.val + r.val := congrFun (k0_off3_eq i k r) 1
  have e2 : k0_off3 i k (BitVec.ofNat 32 r.val) 2 = 0 := congrFun (k0_off3_eq i k r) 2
  have h2 : (y 2).val < 512 := (y 2).isLt
  refine Rect.mem_set_unit.trans ⟨fun h => ?_, fun h a => ?_⟩
  · have a0 : k0_off3 i k (BitVec.ofNat 32 r.val) 0 ≤ (y 0).val ∧ (y 0).val < k0_off3 i k (BitVec.ofNat 32 r.val) 0 + 1 := h 0
    have a1 : k0_off3 i k (BitVec.ofNat 32 r.val) 1 ≤ (y 1).val ∧ (y 1).val < k0_off3 i k (BitVec.ofNat 32 r.val) 1 + 1 := h 1
    omega
  · match a with
    | ⟨0, _⟩ => show k0_off3 i k (BitVec.ofNat 32 r.val) 0 ≤ (y 0).val ∧ (y 0).val < k0_off3 i k (BitVec.ofNat 32 r.val) 0 + 1; omega
    | ⟨1, _⟩ => show k0_off3 i k (BitVec.ofNat 32 r.val) 1 ≤ (y 1).val ∧ (y 1).val < k0_off3 i k (BitVec.ofNat 32 r.val) 1 + 1; omega
    | ⟨2, _⟩ => show k0_off3 i k (BitVec.ofNat 32 r.val) 2 ≤ (y 2).val ∧ (y 2).val < k0_off3 i k (BitVec.ofNat 32 r.val) 2 + 512; omega

theorem emb4 (i : grid0.Coords) (k : Fin k0_t1_loop.trips) (r : Fin 2) (x : S1x1x512.Idx) :
    (Rect.unit (s := S2x48x512) (k0_off4 i k (BitVec.ofNat 32 r.val)) S1x1x512.size (k0_off4_inb i k r)).emb x
      = (ix3 1 ⟨16 * (i 1).val + (2 * k.val + r.val), by have := klt k; have : (i 1).val < 3 := (i 1).isLt; omega⟩ (x 2) : S2x48x512.Idx) := by
  have h0 : (x 0).val < 1 := (x 0).isLt
  have h1 : (x 1).val < 1 := (x 1).isLt
  have e0 : k0_off4 i k (BitVec.ofNat 32 r.val) 0 = 1 := congrFun (k0_off4_eq i k r) 0
  have e1 : k0_off4 i k (BitVec.ofNat 32 r.val) 1 = 16 * (i 1).val + 2 * k.val + r.val := congrFun (k0_off4_eq i k r) 1
  have e2 : k0_off4 i k (BitVec.ofNat 32 r.val) 2 = 0 := congrFun (k0_off4_eq i k r) 2
  refine idx3_ext ?_ ?_ ?_
  · refine (ValueKit.rect_emb_unit_val (s := S2x48x512) (k0_off4 i k (BitVec.ofNat 32 r.val)) S1x1x512.size (k0_off4_inb i k r) x 0).trans ?_
    show k0_off4 i k (BitVec.ofNat 32 r.val) 0 + (x 0).val = 1; omega
  · refine (ValueKit.rect_emb_unit_val (s := S2x48x512) (k0_off4 i k (BitVec.ofNat 32 r.val)) S1x1x512.size (k0_off4_inb i k r) x 1).trans ?_
    show k0_off4 i k (BitVec.ofNat 32 r.val) 1 + (x 1).val = 16 * (i 1).val + (2 * k.val + r.val); omega
  · refine (ValueKit.rect_emb_unit_val (s := S2x48x512) (k0_off4 i k (BitVec.ofNat 32 r.val)) S1x1x512.size (k0_off4_inb i k r) x 2).trans ?_
    show k0_off4 i k (BitVec.ofNat 32 r.val) 2 + (x 2).val = (x 2).val; omega
theorem mem4 (i : grid0.Coords) (k : Fin k0_t1_loop.trips) (r : Fin 2) (y : S2x48x512.Idx) :
    y ∈ (Rect.unit (s := S2x48x512) (k0_off4 i k (BitVec.ofNat 32 r.val)) S1x1x512.size (k0_off4_inb i k r)).set
      ↔ (y 0).val = 1 ∧ (y 1).val = 16 * (i 1).val + (2 * k.val + r.val) := by
  have e0 : k0_off4 i k (BitVec.ofNat 32 r.val) 0 = 1 := congrFun (k0_off4_eq i k r) 0
  have e1 : k0_off4 i k (BitVec.ofNat 32 r.val) 1 = 16 * (i 1).val + 2 * k.val + r.val := congrFun (k0_off4_eq i k r) 1
  have e2 : k0_off4 i k (BitVec.ofNat 32 r.val) 2 = 0 := congrFun (k0_off4_eq i k r) 2
  have h2 : (y 2).val < 512 := (y 2).isLt
  refine Rect.mem_set_unit.trans ⟨fun h => ?_, fun h a => ?_⟩
  · have a0 : k0_off4 i k (BitVec.ofNat 32 r.val) 0 ≤ (y 0).val ∧ (y 0).val < k0_off4 i k (BitVec.ofNat 32 r.val) 0 + 1 := h 0
    have a1 : k0_off4 i k (BitVec.ofNat 32 r.val) 1 ≤ (y 1).val ∧ (y 1).val < k0_off4 i k (BitVec.ofNat 32 r.val) 1 + 1 := h 1
    omega
  · match a with
    | ⟨0, _⟩ => show k0_off4 i k (BitVec.ofNat 32 r.val) 0 ≤ (y 0).val ∧ (y 0).val < k0_off4 i k (BitVec.ofNat 32 r.val) 0 + 1; omega
    | ⟨1, _⟩ => show k0_off4 i k (BitVec.ofNat 32 r.val) 1 ≤ (y 1).val ∧ (y 1).val < k0_off4 i k (BitVec.ofNat 32 r.val) 1 + 1; omega
    | ⟨2, _⟩ => show k0_off4 i k (BitVec.ofNat 32 r.val) 2 ≤ (y 2).val ∧ (y 2).val < k0_off4 i k (BitVec.ofNat 32 r.val) 2 + 512; omega

theorem upd_at (i : grid0.Coords) (x : Vec F S1x512x1024 .bf16) (d : Vec F S2x48x512 .i32) (k : Fin 8) (r n : Fin 2) (s : Fin 512) (h) :
    upd i x d (ix3 n ⟨16 * (i 1).val + (2 * k.val + r.val), h⟩ s) = qe (slab x k) (ix2 ⟨2 * r.val + n.val, by omega⟩ s) := by
  unfold upd
  rw [dif_pos (by show 16 * (i 1).val ≤ 16 * (i 1).val + (2 * k.val + r.val) ∧ 16 * (i 1).val + (2 * k.val + r.val) < 16 * (i 1).val + 16; omega)]
  unfold qeB
  have ek : (16 * (i 1).val + (2 * k.val + r.val) - 16 * (i 1).val) / 2 = k.val := by omega
  have er : (16 * (i 1).val + (2 * k.val + r.val) - 16 * (i 1).val) % 2 = r.val := by omega
  exact qe_congr _ ek (by show 2 * ((16 * (i 1).val + (2 * k.val + r.val) - 16 * (i 1).val) % 2) + n.val = 2 * r.val + n.val; omega)

theorem qe_at10 (w : IVec S4x512 32) (x : S1x1x512.Idx) : k0_pay22 (k0_pay21 w) x = w (ix2 2 (x 2)) := by
  idx_vars x
  pointwise [k0_pay22, k0_pay21]
theorem qe_at11 (w : IVec S4x512 32) (x : S1x1x512.Idx) : k0_pay23 w x = w (ix2 3 (x 2)) := by
  idx_vars x
  pointwise [k0_pay23]
theorem qe_at01 (w : IVec S4x512 32) (x : S1x1x512.Idx) : k0_pay17 w x = w (ix2 1 (x 2)) := by
  idx_vars x
  pointwise [k0_pay17]
theorem qe_at00 (v : Vec F S1x512x128 .bf16) (x : S1x1x512.Idx) : k0_pay16 (k0_pay15 (fq v) (fz v)) x = qe v (ix2 0 (x 2)) := by
  show k0_pay16 (extractStridedSlice S1x512 ![0, 0] (qe v) slices_S4x512_o0_0_S1x512) x = _
  generalize qe v = w
  idx_vars x
  pointwise [k0_pay16]

/-! ## The pieces of all the trips -/

section
variable (i : grid0.Coords) (arg2 : Memref sig .tc .vmem S1x512x1024 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x16x64x512 .fp8e4m3) (harg6 : arg6.IsWhole) (arg7 : Memref sig .tc .vmem S1x2x48x512 .i8) (harg7 : arg7.IsWhole) (arg8 : Memref sig .tc .vmem S1x2x64x512 .fp8e4m3) (harg8 : arg8.IsWhole) (arg9 : Memref sig .tc .vmem S1x2x2x512 .i8) (harg9 : arg9.IsWhole) (arg10 : Memref sig .tc .vmem S1x2x64x512 .fp8e4m3) (harg10 : arg10.IsWhole) (arg11 : Memref sig .tc .vmem S1x2x16x64 .i8) (harg11 : arg11.IsWhole) (arg12 : Memref sig .tc .vmem S2x512x256 .bf16) (harg12 : arg12.IsWhole) (arg13 : Memref sig .tc .vmem S2x64x512 .bf16) (harg13 : arg13.IsWhole) (arg14 : Memref sig .tc .vmem S2x48x512 .i32) (harg14 : arg14.IsWhole)
variable (𝒱 : Variants) (c : Dev nD) (bd : Option 𝒱.V) (arg1 : BitVec 32) (X2 : BufTy.Contents (Elt F) arg2.view.ty) (X12 : BufTy.Contents (Elt F) arg12.view.ty) (X13 : BufTy.Contents (Elt F) arg13.view.ty)

/-- The pieces that trip `k` stores. -/
abbrev tl (k : Fin k0_t1_loop.trips) := tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 k
/-- The pieces that the trips before `n` store. -/
abbrev pb (n : ℕ) := pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 n

theorem pb_mem1 (p) : ∀ n, n ≤ k0_t1_loop.trips → (p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).1 ↔ ∃ k : Fin k0_t1_loop.trips, k.val < n ∧ p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).1)
  | 0, _ => by
    constructor
    · intro h; exact absurd h (List.not_mem_nil)
    · rintro ⟨k, hk, -⟩; omega
  | n + 1, hn => by
    have ih := pb_mem1 p n (by omega)
    have e : pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 (n + 1) = ((tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.2 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.2) :=
      pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 ⟨n, hn⟩
    rw [e]
    simp only [List.mem_append, ih]
    constructor
    · rintro (h | ⟨k, hk, h⟩)
      · exact ⟨_, Nat.lt_succ_self n, h⟩
      · exact ⟨k, by omega, h⟩
    · rintro ⟨k, hk, h⟩
      by_cases hkn : k.val = n
      · obtain rfl : k = ⟨n, hn⟩ := Fin.ext hkn
        exact Or.inl h
      · exact Or.inr ⟨k, by omega, h⟩

theorem pb_mem2 (p) : ∀ n, n ≤ k0_t1_loop.trips → (p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.1 ↔ ∃ k : Fin k0_t1_loop.trips, k.val < n ∧ p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).2.1)
  | 0, _ => by
    constructor
    · intro h; exact absurd h (List.not_mem_nil)
    · rintro ⟨k, hk, -⟩; omega
  | n + 1, hn => by
    have ih := pb_mem2 p n (by omega)
    have e : pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 (n + 1) = ((tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.2 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.2) :=
      pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 ⟨n, hn⟩
    rw [e]
    simp only [List.mem_append, ih]
    constructor
    · rintro (h | ⟨k, hk, h⟩)
      · exact ⟨_, Nat.lt_succ_self n, h⟩
      · exact ⟨k, by omega, h⟩
    · rintro ⟨k, hk, h⟩
      by_cases hkn : k.val = n
      · obtain rfl : k = ⟨n, hn⟩ := Fin.ext hkn
        exact Or.inl h
      · exact Or.inr ⟨k, by omega, h⟩

theorem pb_mem3 (p) : ∀ n, n ≤ k0_t1_loop.trips → (p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.2 ↔ ∃ k : Fin k0_t1_loop.trips, k.val < n ∧ p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).2.2)
  | 0, _ => by
    constructor
    · intro h; exact absurd h (List.not_mem_nil)
    · rintro ⟨k, hk, -⟩; omega
  | n + 1, hn => by
    have ih := pb_mem3 p n (by omega)
    have e : pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 (n + 1) = ((tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.1 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.1, (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 ⟨n, hn⟩).2.2 ++ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 n).2.2) :=
      pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg1 X2 X12 X13 ⟨n, hn⟩
    rw [e]
    simp only [List.mem_append, ih]
    constructor
    · rintro (h | ⟨k, hk, h⟩)
      · exact ⟨_, Nat.lt_succ_self n, h⟩
      · exact ⟨k, by omega, h⟩
    · rintro ⟨k, hk, h⟩
      by_cases hkn : k.val = n
      · obtain rfl : k = ⟨n, hn⟩ := Fin.ext hkn
        exact Or.inl h
      · exact Or.inr ⟨k, by omega, h⟩

theorem read_out (G0 : BufTy.Contents (Elt F) arg5.view.ty) :
    arg5.view.read (Elt F) (arg5.view.writes (Elt F) G0 (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).1)
      = outB (arg2.view.read (Elt F) X2) (arg12.view.read (Elt F) X12) (arg13.view.read (Elt F) X13) := by
  funext y
  refine View.read_writes_apply_of_pieces arg5.view G0 (outB (arg2.view.read (Elt F) X2) (arg12.view.read (Elt F) X12) (arg13.view.read (Elt F) X13)) _ ?_ y ?_
  · intro p hp x
    obtain ⟨k, -, hk⟩ := (pb_mem1 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mp hp
    rw [tl, tripL_eq, ld1, ld5, ld6] at hk
    obtain rfl := List.mem_singleton.mp hk
    have hx : (Rect.unit (s := S1x512x1024) (k0_off1 k) S1x512x128.size (k0_off1_inb k)).emb x
        = (ix3 0 (x 1) ⟨128 * k.val + (x 2).val, by have := klt k; have : (x 2).val < 128 := (x 2).isLt; omega⟩ : S1x512x1024.Idx) := emb1 k x
    show _ = outB _ _ _ ((Rect.unit (s := S1x512x1024) (k0_off1 k) S1x512x128.size (k0_off1_inb k)).emb x)
    rw [hx]
    exact (outB_at _ _ _ (k.cast trips_eq) x).symm
  · have hy : (y 2).val < 1024 := (y 2).isLt
    have hy0 : (y 0).val < 1 := (y 0).isLt
    have hy1 : (y 1).val < 512 := (y 1).isLt
    let k : Fin k0_t1_loop.trips := ⟨(y 2).val / 128, by rw [trips_eq]; omega⟩
    have key : ∀ p, p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).1 → p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).1 := fun p hp => (pb_mem1 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mpr ⟨k, k.isLt, hp⟩
    rw [tl, tripL_eq] at key
    refine ⟨_, key _ (List.mem_singleton.mpr rfl), ?_⟩
    · refine (Rect.mem_set_unit (s := S1x512x1024) (off := k0_off1 k) (size := S1x512x128.size) (inb := k0_off1_inb k)).mpr ?_
      have e0 : k0_off1 k 0 = 0 := congrFun (k0_off1_eq k) 0
      have e1 : k0_off1 k 1 = 0 := congrFun (k0_off1_eq k) 1
      have e2 : k0_off1 k 2 = 128 * ((y 2).val / 128) := congrFun (k0_off1_eq k) 2
      intro a
      match a with
      | ⟨0, _⟩ => show k0_off1 k 0 ≤ (y 0).val ∧ (y 0).val < k0_off1 k 0 + 1; omega
      | ⟨1, _⟩ => show k0_off1 k 1 ≤ (y 1).val ∧ (y 1).val < k0_off1 k 1 + 512; omega
      | ⟨2, _⟩ => show k0_off1 k 2 ≤ (y 2).val ∧ (y 2).val < k0_off1 k 2 + 128; omega

theorem read_qc (G0 : BufTy.Contents (Elt F) arg6.view.ty) :
    arg6.view.read (Elt F) (arg6.view.writes (Elt F) G0 (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).2.1) = qcB (arg2.view.read (Elt F) X2) := by
  funext y
  refine View.read_writes_apply_of_pieces arg6.view G0 (qcB (arg2.view.read (Elt F) X2)) _ ?_ y ?_
  · intro p hp x
    obtain ⟨k, -, hk⟩ := (pb_mem2 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mp hp
    rw [tl, tripL_eq, ld1] at hk
    rcases List.mem_cons.mp hk with rfl | hk
    · show _ = qcB _ ((Rect.unit (s := S1x16x64x512) (k0_off2 k (BitVec.ofNat 32 (1 : Fin 2).val)) S1x1x64x512.size (k0_off2_inb k 1)).emb x)
      rw [emb2]
      exact (qcB_at1 _ (k.cast trips_eq) x).symm
    · obtain rfl := List.mem_singleton.mp hk
      show _ = qcB _ ((Rect.unit (s := S1x16x64x512) (k0_off2 k (BitVec.ofNat 32 (0 : Fin 2).val)) S1x1x64x512.size (k0_off2_inb k 0)).emb x)
      rw [emb2]
      exact (qcB_at0 _ (k.cast trips_eq) x).symm
  · have hy0 : (y 0).val < 1 := (y 0).isLt
    have hy1 : (y 1).val < 16 := (y 1).isLt
    have hy2 : (y 2).val < 64 := (y 2).isLt
    have hy3 : (y 3).val < 512 := (y 3).isLt
    let k : Fin k0_t1_loop.trips := ⟨(y 1).val / 2, by rw [trips_eq]; omega⟩
    have hset : ∀ r : Fin 2, (y 1).val % 2 = r.val → y ∈ (Rect.unit (s := S1x16x64x512) (k0_off2 k (BitVec.ofNat 32 r.val)) S1x1x64x512.size (k0_off2_inb k r)).set := by
      intro r hr
      refine Rect.mem_set_unit.mpr ?_
      have e0 : k0_off2 k (BitVec.ofNat 32 r.val) 0 = 0 := congrFun (k0_off2_eq k r) 0
      have e1 : k0_off2 k (BitVec.ofNat 32 r.val) 1 = 2 * ((y 1).val / 2) + r.val := congrFun (k0_off2_eq k r) 1
      have e2 : k0_off2 k (BitVec.ofNat 32 r.val) 2 = 0 := congrFun (k0_off2_eq k r) 2
      have e3 : k0_off2 k (BitVec.ofNat 32 r.val) 3 = 0 := congrFun (k0_off2_eq k r) 3
      intro a
      match a with
      | ⟨0, _⟩ => show k0_off2 k (BitVec.ofNat 32 r.val) 0 ≤ (y 0).val ∧ (y 0).val < k0_off2 k (BitVec.ofNat 32 r.val) 0 + 1; omega
      | ⟨1, _⟩ => show k0_off2 k (BitVec.ofNat 32 r.val) 1 ≤ (y 1).val ∧ (y 1).val < k0_off2 k (BitVec.ofNat 32 r.val) 1 + 1; omega
      | ⟨2, _⟩ => show k0_off2 k (BitVec.ofNat 32 r.val) 2 ≤ (y 2).val ∧ (y 2).val < k0_off2 k (BitVec.ofNat 32 r.val) 2 + 64; omega
      | ⟨3, _⟩ => show k0_off2 k (BitVec.ofNat 32 r.val) 3 ≤ (y 3).val ∧ (y 3).val < k0_off2 k (BitVec.ofNat 32 r.val) 3 + 512; omega
    have key : ∀ p, p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).2.1 → p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).2.1 := fun p hp => (pb_mem2 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mpr ⟨k, k.isLt, hp⟩
    rw [tl, tripL_eq] at key
    rcases Nat.mod_two_eq_zero_or_one (y 1).val with h | h
    · exact ⟨_, key _ (List.mem_cons_of_mem _ (List.mem_singleton.mpr rfl)), hset 0 h⟩
    · exact ⟨_, key _ List.mem_cons_self, hset 1 h⟩

theorem read_acc (G0 : BufTy.Contents (Elt F) arg14.view.ty) :
    arg14.view.read (Elt F) (arg14.view.writes (Elt F) G0 (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).2.2) = upd i (arg2.view.read (Elt F) X2) (arg14.view.read (Elt F) G0) := by
  funext y
  by_cases hy : 16 * (i 1).val ≤ (y 1).val ∧ (y 1).val < 16 * (i 1).val + 16
  · refine View.read_writes_apply_of_pieces arg14.view G0 (upd i (arg2.view.read (Elt F) X2) (arg14.view.read (Elt F) G0)) _ ?_ y ?_
    · intro p hp x
      obtain ⟨k, -, hk⟩ := (pb_mem3 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mp hp
      rw [tl, tripL_eq, ld1] at hk
      rcases List.mem_cons.mp hk with rfl | hk
      · show _ = upd _ _ _ ((Rect.unit (s := S2x48x512) (k0_off4 i k (BitVec.ofNat 32 (1 : Fin 2).val)) S1x1x512.size (k0_off4_inb i k 1)).emb x)
        rw [emb4]
        exact (qe_at11 _ x).trans (upd_at i _ _ (k.cast trips_eq) 1 1 (x 2) _).symm
      rcases List.mem_cons.mp hk with rfl | hk
      · show _ = upd _ _ _ ((Rect.unit (s := S2x48x512) (k0_off3 i k (BitVec.ofNat 32 (1 : Fin 2).val)) S1x1x512.size (k0_off3_inb i k 1)).emb x)
        rw [emb3]
        exact (qe_at10 _ x).trans (upd_at i _ _ (k.cast trips_eq) 1 0 (x 2) _).symm
      rcases List.mem_cons.mp hk with rfl | hk
      · show _ = upd _ _ _ ((Rect.unit (s := S2x48x512) (k0_off4 i k (BitVec.ofNat 32 (0 : Fin 2).val)) S1x1x512.size (k0_off4_inb i k 0)).emb x)
        rw [emb4]
        exact (qe_at01 _ x).trans (upd_at i _ _ (k.cast trips_eq) 0 1 (x 2) _).symm
      · obtain rfl := List.mem_singleton.mp hk
        show _ = upd _ _ _ ((Rect.unit (s := S2x48x512) (k0_off3 i k (BitVec.ofNat 32 (0 : Fin 2).val)) S1x1x512.size (k0_off3_inb i k 0)).emb x)
        rw [emb3]
        exact (qe_at00 _ x).trans (upd_at i _ _ (k.cast trips_eq) 0 0 (x 2) _).symm
    · have hy0 : (y 0).val < 2 := (y 0).isLt
      let k : Fin k0_t1_loop.trips := ⟨((y 1).val - 16 * (i 1).val) / 2, by rw [trips_eq]; omega⟩
      have ek : k.val = ((y 1).val - 16 * (i 1).val) / 2 := rfl
      have key : ∀ p, p ∈ (tl i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k).2.2 → p ∈ (pb i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 k0_t1_loop.trips).2.2 := fun p hp => (pb_mem3 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mpr ⟨k, k.isLt, hp⟩
      rw [tl, tripL_eq] at key
      have v0 : (0 : Fin 2).val = 0 := rfl
      have v1 : (1 : Fin 2).val = 1 := rfl
      rcases Nat.mod_two_eq_zero_or_one ((y 1).val - 16 * (i 1).val) with h | h <;> rcases (show (y 0).val = 0 ∨ (y 0).val = 1 by omega) with h' | h'
      · exact ⟨_, key _ (List.mem_cons_of_mem _ (List.mem_cons_of_mem _ (List.mem_cons_of_mem _ (List.mem_singleton.mpr rfl)))), (mem3 i k 0 y).mpr ⟨h', by omega⟩⟩
      · exact ⟨_, key _ (List.mem_cons_of_mem _ (List.mem_cons_of_mem _ List.mem_cons_self)), (mem4 i k 0 y).mpr ⟨h', by omega⟩⟩
      · exact ⟨_, key _ (List.mem_cons_of_mem _ List.mem_cons_self), (mem3 i k 1 y).mpr ⟨h', by omega⟩⟩
      · exact ⟨_, key _ List.mem_cons_self, (mem4 i k 1 y).mpr ⟨h', by omega⟩⟩
  · refine (View.read_writes_apply_of_forall_not_mem arg14.view G0 y _ ?_).trans ?_
    · intro p hp hm
      obtain ⟨k, -, hk⟩ := (pb_mem3 i arg2 harg2 arg3 harg3 arg4 harg4 arg5 harg5 arg6 harg6 arg7 harg7 arg8 harg8 arg9 harg9 arg10 harg10 arg11 harg11 arg12 harg12 arg13 harg13 arg14 harg14 𝒱 c bd arg1 X2 X12 X13 p _ le_rfl).mp hp
      have hk8 := klt k
      have v0 : (0 : Fin 2).val = 0 := rfl
      have v1 : (1 : Fin 2).val = 1 := rfl
      rw [tl, tripL_eq] at hk
      rcases List.mem_cons.mp hk with rfl | hk
      · have := ((mem4 i k 1 y).mp hm).2; omega
      rcases List.mem_cons.mp hk with rfl | hk
      · have := ((mem3 i k 1 y).mp hm).2; omega
      rcases List.mem_cons.mp hk with rfl | hk
      · have := ((mem4 i k 0 y).mp hm).2; omega
      · obtain rfl := List.mem_singleton.mp hk
        have := ((mem3 i k 0 y).mp hm).2; omega
    · unfold upd; rw [dif_neg hy]

end

end Cert.KernelIdeal.Own

end
-- ==== Proof.KPts.lean ====
/- What one grid point of the kernel stores, as functions of its block of keys and its block of values. -/
module

public import proofs.«01_k».proof.Proof.KBlock

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI Idealize.SL.Sem
open Cert.KernelIdeal.Gen

/-! ## Two stores that fill a buffer -/

section
variable {Val : EltTy → Type} {e : EltTy} {n2 n3 : ℕ}

/-- Two blocks put side by side along the second axis. -/
def pair4 (a b : (⟨4, ![1, 1, n2, n3]⟩ : Shape).Idx → Val e) : (⟨4, ![1, 2, n2, n3]⟩ : Shape).Idx → Val e :=
  fun y => if (y 1).val = 0 then a (ix4 0 0 (y 2) (y 3)) else b (ix4 0 0 (y 2) (y 3))
/-- Two blocks put side by side along the first axis. -/
def pair3 (a b : (⟨3, ![1, n2, n3]⟩ : Shape).Idx → Val e) : (⟨3, ![2, n2, n3]⟩ : Shape).Idx → Val e :=
  fun y => if (y 0).val = 0 then a (ix3 0 (y 1) (y 2)) else b (ix3 0 (y 1) (y 2))

theorem read_pair4 (v : View sig .tc .vmem ⟨4, ![1, 2, n2, n3]⟩ e) (G0 : BufTy.Contents Val v.ty)
    (a b : (⟨4, ![1, 1, n2, n3]⟩ : Shape).Idx → Val e) (ha hb) :
    v.read Val (v.writes Val G0 [⟨Rect.unit (s := ⟨4, ![1, 2, n2, n3]⟩) ![0, 1, 0, 0] ![1, 1, n2, n3] hb, b⟩,
      ⟨Rect.unit (s := ⟨4, ![1, 2, n2, n3]⟩) ![0, 0, 0, 0] ![1, 1, n2, n3] ha, a⟩]) = pair4 a b := by
  funext y
  have h0 : (y 0).val < 1 := (y 0).isLt
  have h1 : (y 1).val < 2 := (y 1).isLt
  have h2 : (y 2).val < n2 := (y 2).isLt
  have h3 : (y 3).val < n3 := (y 3).isLt
  refine View.read_writes_apply_of_pieces v G0 (pair4 a b) _ ?_ y ?_
  · intro p hp x
    rcases List.mem_cons.mp hp with rfl | hp
    · have x0 : (x 0).val < 1 := (x 0).isLt
      have x1 : (x 1).val < 1 := (x 1).isLt
      have e : (Rect.unit (s := ⟨4, ![1, 2, n2, n3]⟩) ![0, 1, 0, 0] ![1, 1, n2, n3] hb).emb x = ix4 0 1 (x 2) (x 3) := by
        refine idx4_ext ?_ ?_ ?_ ?_
        · refine (ValueKit.rect_emb_unit_val (s := ⟨4, ![1, 2, n2, n3]⟩) ![0, 1, 0, 0] ![1, 1, n2, n3] hb x 0).trans ?_
          show 0 + (x 0).val = 0; omega
        · refine (ValueKit.rect_emb_unit_val (s := ⟨4, ![1, 2, n2, n3]⟩) ![0, 1, 0, 0] ![1, 1, n2, n3] hb x 1).trans ?_
          show 1 + (x 1).val = 1; omega
        · refine (ValueKit.rect_emb_unit_val (s := ⟨4, ![1, 2, n2, n3]⟩) ![0, 1, 0, 0] ![1, 1, n2, n3] hb x 2).trans ?_
          show 0 + (x 2).val = (x 2).val; omega
        · refine (ValueKit.rect_emb_unit_val (s := ⟨4, ![1, 2, n2, n3]⟩) ![0, 1, 0, 0] ![1, 1, n2, n3] hb x 3).trans ?_
          show 0 + (x 3).val = (x 3).val; omega
      show b x = pair4 a b ((Rect.unit (s := ⟨4, ![1, 2, n2, n3]⟩) ![0, 1, 0, 0] ![1, 1, n2, n3] hb).emb x)
      rw [e]
      show b x = b (ix4 0 0 (x 2) (x 3))
      congr 1
      exact idx4_ext (by show (x 0).val = 0; omega) (by show (x 1).val = 0; omega) rfl rfl
    · obtain rfl := List.mem_singleton.mp hp
      have x0 : (x 0).val < 1 := (x 0).isLt
      have x1 : (x 1).val < 1 := (x 1).isLt
      have e : (Rect.unit (s := ⟨4, ![1, 2, n2, n3]⟩) ![0, 0, 0, 0] ![1, 1, n2, n3] ha).emb x = ix4 0 0 (x 2) (x 3) := by
        refine idx4_ext ?_ ?_ ?_ ?_
        · refine (ValueKit.rect_emb_unit_val (s := ⟨4, ![1, 2, n2, n3]⟩) ![0, 0, 0, 0] ![1, 1, n2, n3] ha x 0).trans ?_
          show 0 + (x 0).val = 0; omega
        · refine (ValueKit.rect_emb_unit_val (s := ⟨4, ![1, 2, n2, n3]⟩) ![0, 0, 0, 0] ![1, 1, n2, n3] ha x 1).trans ?_
          show 0 + (x 1).val = 0; omega
        · refine (ValueKit.rect_emb_unit_val (s := ⟨4, ![1, 2, n2, n3]⟩) ![0, 0, 0, 0] ![1, 1, n2, n3] ha x 2).trans ?_
          show 0 + (x 2).val = (x 2).val; omega
        · refine (ValueKit.rect_emb_unit_val (s := ⟨4, ![1, 2, n2, n3]⟩) ![0, 0, 0, 0] ![1, 1, n2, n3] ha x 3).trans ?_
          show 0 + (x 3).val = (x 3).val; omega
      show a x = pair4 a b ((Rect.unit (s := ⟨4, ![1, 2, n2, n3]⟩) ![0, 0, 0, 0] ![1, 1, n2, n3] ha).emb x)
      rw [e]
      show a x = a (ix4 0 0 (x 2) (x 3))
      congr 1
      exact idx4_ext (by show (x 0).val = 0; omega) (by show (x 1).val = 0; omega) rfl rfl
  · by_cases hy : (y 1).val = 0
    · refine ⟨_, List.mem_cons_of_mem _ (List.mem_singleton.mpr rfl), ?_⟩
      refine (Rect.mem_set_unit (inb := ha)).mpr fun a => ?_
      match a with
      | ⟨0, _⟩ => show 0 ≤ (y 0).val ∧ (y 0).val < 0 + 1; omega
      | ⟨1, _⟩ => show 0 ≤ (y 1).val ∧ (y 1).val < 0 + 1; omega
      | ⟨2, _⟩ => show 0 ≤ (y 2).val ∧ (y 2).val < 0 + n2; omega
      | ⟨3, _⟩ => show 0 ≤ (y 3).val ∧ (y 3).val < 0 + n3; omega
    · refine ⟨_, List.mem_cons_self, ?_⟩
      refine (Rect.mem_set_unit (inb := hb)).mpr fun a => ?_
      match a with
      | ⟨0, _⟩ => show 0 ≤ (y 0).val ∧ (y 0).val < 0 + 1; omega
      | ⟨1, _⟩ => show 1 ≤ (y 1).val ∧ (y 1).val < 1 + 1; omega
      | ⟨2, _⟩ => show 0 ≤ (y 2).val ∧ (y 2).val < 0 + n2; omega
      | ⟨3, _⟩ => show 0 ≤ (y 3).val ∧ (y 3).val < 0 + n3; omega

theorem read_pair3 (v : View sig .tc .vmem ⟨3, ![2, n2, n3]⟩ e) (G0 : BufTy.Contents Val v.ty)
    (a b : (⟨3, ![1, n2, n3]⟩ : Shape).Idx → Val e) (ha hb) :
    v.read Val (v.writes Val G0 [⟨Rect.unit (s := ⟨3, ![2, n2, n3]⟩) ![1, 0, 0] ![1, n2, n3] hb, b⟩,
      ⟨Rect.unit (s := ⟨3, ![2, n2, n3]⟩) ![0, 0, 0] ![1, n2, n3] ha, a⟩]) = pair3 a b := by
  funext y
  have h0 : (y 0).val < 2 := (y 0).isLt
  have h1 : (y 1).val < n2 := (y 1).isLt
  have h2 : (y 2).val < n3 := (y 2).isLt
  refine View.read_writes_apply_of_pieces v G0 (pair3 a b) _ ?_ y ?_
  · intro p hp x
    rcases List.mem_cons.mp hp with rfl | hp
    · have x0 : (x 0).val < 1 := (x 0).isLt
      have e : (Rect.unit (s := ⟨3, ![2, n2, n3]⟩) ![1, 0, 0] ![1, n2, n3] hb).emb x = ix3 1 (x 1) (x 2) := by
        refine idx3_ext ?_ ?_ ?_
        · refine (ValueKit.rect_emb_unit_val (s := ⟨3, ![2, n2, n3]⟩) ![1, 0, 0] ![1, n2, n3] hb x 0).trans ?_
          show 1 + (x 0).val = 1; omega
        · refine (ValueKit.rect_emb_unit_val (s := ⟨3, ![2, n2, n3]⟩) ![1, 0, 0] ![1, n2, n3] hb x 1).trans ?_
          show 0 + (x 1).val = (x 1).val; omega
        · refine (ValueKit.rect_emb_unit_val (s := ⟨3, ![2, n2, n3]⟩) ![1, 0, 0] ![1, n2, n3] hb x 2).trans ?_
          show 0 + (x 2).val = (x 2).val; omega
      show b x = pair3 a b ((Rect.unit (s := ⟨3, ![2, n2, n3]⟩) ![1, 0, 0] ![1, n2, n3] hb).emb x)
      rw [e]
      show b x = b (ix3 0 (x 1) (x 2))
      congr 1
      exact idx3_ext (by show (x 0).val = 0; omega) rfl rfl
    · obtain rfl := List.mem_singleton.mp hp
      have x0 : (x 0).val < 1 := (x 0).isLt
      have e : (Rect.unit (s := ⟨3, ![2, n2, n3]⟩) ![0, 0, 0] ![1, n2, n3] ha).emb x = ix3 0 (x 1) (x 2) := by
        refine idx3_ext ?_ ?_ ?_
        · refine (ValueKit.rect_emb_unit_val (s := ⟨3, ![2, n2, n3]⟩) ![0, 0, 0] ![1, n2, n3] ha x 0).trans ?_
          show 0 + (x 0).val = 0; omega
        · refine (ValueKit.rect_emb_unit_val (s := ⟨3, ![2, n2, n3]⟩) ![0, 0, 0] ![1, n2, n3] ha x 1).trans ?_
          show 0 + (x 1).val = (x 1).val; omega
        · refine (ValueKit.rect_emb_unit_val (s := ⟨3, ![2, n2, n3]⟩) ![0, 0, 0] ![1, n2, n3] ha x 2).trans ?_
          show 0 + (x 2).val = (x 2).val; omega
      show a x = pair3 a b ((Rect.unit (s := ⟨3, ![2, n2, n3]⟩) ![0, 0, 0] ![1, n2, n3] ha).emb x)
      rw [e]
      show a x = a (ix3 0 (x 1) (x 2))
      congr 1
      exact idx3_ext (by show (x 0).val = 0; omega) rfl rfl
  · by_cases hy : (y 0).val = 0
    · refine ⟨_, List.mem_cons_of_mem _ (List.mem_singleton.mpr rfl), ?_⟩
      refine (Rect.mem_set_unit (inb := ha)).mpr fun a => ?_
      match a with
      | ⟨0, _⟩ => show 0 ≤ (y 0).val ∧ (y 0).val < 0 + 1; omega
      | ⟨1, _⟩ => show 0 ≤ (y 1).val ∧ (y 1).val < 0 + n2; omega
      | ⟨2, _⟩ => show 0 ≤ (y 2).val ∧ (y 2).val < 0 + n3; omega
    · refine ⟨_, List.mem_cons_self, ?_⟩
      refine (Rect.mem_set_unit (inb := hb)).mpr fun a => ?_
      match a with
      | ⟨0, _⟩ => show 1 ≤ (y 0).val ∧ (y 0).val < 1 + 1; omega
      | ⟨1, _⟩ => show 0 ≤ (y 1).val ∧ (y 1).val < 0 + n2; omega
      | ⟨2, _⟩ => show 0 ≤ (y 2).val ∧ (y 2).val < 0 + n3; omega
end

/-- A store into a whole buffer of rank four leaves what it stored. -/
theorem read_whole4 {Val : EltTy → Type} {e : EltTy} {n0 n1 n2 n3 : ℕ} (v : View sig .tc .vmem ⟨4, ![n0, n1, n2, n3]⟩ e) (G0 : BufTy.Contents Val v.ty)
    (h) (w : (⟨4, ![n0, n1, n2, n3]⟩ : Shape).Idx → Val e) :
    v.read Val (v.writes Val G0 [⟨Rect.unit (s := ⟨4, ![n0, n1, n2, n3]⟩) ![0, 0, 0, 0] ![n0, n1, n2, n3] h, w⟩]) = w := by
  funext y
  have e : (Rect.unit (s := ⟨4, ![n0, n1, n2, n3]⟩) ![0, 0, 0, 0] ![n0, n1, n2, n3] h).emb y = y := by
    refine idx4_ext ?_ ?_ ?_ ?_
    · refine (ValueKit.rect_emb_unit_val (s := ⟨4, ![n0, n1, n2, n3]⟩) ![0, 0, 0, 0] ![n0, n1, n2, n3] h y 0).trans ?_
      show 0 + (y 0).val = (y 0).val; omega
    · refine (ValueKit.rect_emb_unit_val (s := ⟨4, ![n0, n1, n2, n3]⟩) ![0, 0, 0, 0] ![n0, n1, n2, n3] h y 1).trans ?_
      show 0 + (y 1).val = (y 1).val; omega
    · refine (ValueKit.rect_emb_unit_val (s := ⟨4, ![n0, n1, n2, n3]⟩) ![0, 0, 0, 0] ![n0, n1, n2, n3] h y 2).trans ?_
      show 0 + (y 2).val = (y 2).val; omega
    · refine (ValueKit.rect_emb_unit_val (s := ⟨4, ![n0, n1, n2, n3]⟩) ![0, 0, 0, 0] ![n0, n1, n2, n3] h y 3).trans ?_
      show 0 + (y 3).val = (y 3).val; omega
  have := View.read_writes_cons_emb v G0 (Rect.unit (s := ⟨4, ![n0, n1, n2, n3]⟩) ![0, 0, 0, 0] ![n0, n1, n2, n3] h) w [] y
  rwa [e] at this

/-- A load of a whole buffer of rank three reads what it holds. -/
theorem readAt_whole3 {Val : EltTy → Type} {e : EltTy} {n0 n1 n2 : ℕ} (v : View sig .tc .vmem ⟨3, ![n0, n1, n2]⟩ e) (X : BufTy.Contents Val v.ty) (h) :
    v.readAt Val (Rect.unit (s := ⟨3, ![n0, n1, n2]⟩) ![0, 0, 0] ![n0, n1, n2] h).toLoadRect X = v.read Val X := by
  funext j
  show v.read Val X _ = v.read Val X _
  congr 1
  refine idx3_ext ?_ ?_ ?_
  · refine (ValueKit.rect_emb_unit_val (s := ⟨3, ![n0, n1, n2]⟩) ![0, 0, 0] ![n0, n1, n2] h j 0).trans ?_
    show 0 + (j 0).val = (j 0).val; omega
  · refine (ValueKit.rect_emb_unit_val (s := ⟨3, ![n0, n1, n2]⟩) ![0, 0, 0] ![n0, n1, n2] h j 1).trans ?_
    show 0 + (j 1).val = (j 1).val; omega
  · refine (ValueKit.rect_emb_unit_val (s := ⟨3, ![n0, n1, n2]⟩) ![0, 0, 0] ![n0, n1, n2] h j 2).trans ?_
    show 0 + (j 2).val = (j 2).val; omega

variable {F : FTy → Type} [FloatOps F] [Named F]

/-! ## The keys -/

/-- The exponents' field of a block of keys, as it is stored. -/
def kf (v : Vec F S1x512x128 .bf16) : IVec S4x1x512 32 := k0_pay30 (k0_pay26 v) (k0_pay27 v) (k0_pay28 v) k0_pay29
/-- The codes of a block of keys. -/
def kcd (v : Vec F S1x512x128 .bf16) : FVec F S4x32x512 .fp8e4m3 := k0_pay31 (k0_pay25 v) (k0_pay26 v) (k0_pay27 v) (k0_pay28 v) k0_pay29
/-- The field of the scale of a block of keys. -/
def ksc (v : Vec F S1x512x128 .bf16) : IVec S4x1x512 32 := k0_pay32 (k0_pay26 v) (k0_pay27 v) (k0_pay28 v) k0_pay29
/-- The stored codes of a block of keys. -/
def kcB (v : Vec F S1x512x128 .bf16) : Vec F S1x2x64x512 .fp8e4m3 := pair4 (k0_pay36 (kcd v)) (k0_pay40 (k0_pay39 (kcd v)))
/-- The stored exponents of a block of keys. -/
def ksB (v : Vec F S1x512x128 .bf16) : Vec F S1x2x2x512 .i8 := pair4 (Val := Elt F) (k0_pay37 (kf v)) (k0_pay41 (k0_pay35 (kf v)))
/-- The two key matrices of a block of keys. -/
def kmB (v : Vec F S1x512x128 .bf16) : Vec F S2x512x256 .bf16 := pair3 (k0_pay38 (kcd v) (ksc v)) (k0_pay42 (k0_pay34 (kcd v) (ksc v)))

/-! ## The values -/

/-- The exponents' field of a block of values, before the exceptional fields are replaced. -/
def vf (v : Vec F S1x512x128 .bf16) : IVec S16x1x128 32 := k0_pay48 (k0_pay44 v) k0_pay45 k0_pay46 k0_pay47
/-- The exponents' field of a block of values, with one of the exceptional fields replaced. -/
def vz (v : Vec F S1x512x128 .bf16) : IVec S16x1x128 32 := k0_pay49 (k0_pay44 v) k0_pay45 k0_pay46 k0_pay47
/-- The stored codes of a block of values. -/
def vcB (v : Vec F S1x512x128 .bf16) : Vec F S1x2x64x512 .fp8e4m3 :=
  pair4 (k0_pay56 (k0_pay55 (k0_pay43 v) (k0_pay44 v) (vf v) (vz v))) (k0_pay59 (k0_pay53 (k0_pay43 v) (k0_pay44 v) (vf v) (vz v)))
/-- The stored exponents of a block of values. -/
def vsB (v : Vec F S1x512x128 .bf16) : Vec F S1x2x16x64 .i8 :=
  pair4 (Val := Elt F) (k0_pay58 (k0_pay54 (k0_pay44 v) (vf v) (vz v))) (k0_pay61 (k0_pay54 (k0_pay44 v) (vf v) (vz v)))
/-- The two value matrices of a block of values. -/
def vmB (v : Vec F S1x512x128 .bf16) : Vec F S2x64x512 .bf16 :=
  pair3 (k0_pay57 (k0_pay52 (k0_pay43 v) (k0_pay44 v) (vf v) (vz v))) (k0_pay60 (k0_pay52 (k0_pay43 v) (k0_pay44 v) (vf v) (vz v)))

end Cert.KernelIdeal.Own

end
-- ==== Proof.KRunA.lean ====
/- The kernel's body run at one grid point: what it leaves in every buffer, as functions of the three blocks it is given. -/
module

public import proofs.«01_k».proof.Proof.KBlock
public import proofs.«01_k».proof.Proof.KPts

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
theorem runA (c : Dev nD) (i : grid0.Coords) (arg2 : Memref sig .tc .vmem S1x512x1024 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x16x64x512 .fp8e4m3) (harg6 : arg6.IsWhole) (arg7 : Memref sig .tc .vmem S1x2x48x512 .i8) (harg7 : arg7.IsWhole) (arg8 : Memref sig .tc .vmem S1x2x64x512 .fp8e4m3) (harg8 : arg8.IsWhole) (arg9 : Memref sig .tc .vmem S1x2x2x512 .i8) (harg9 : arg9.IsWhole) (arg10 : Memref sig .tc .vmem S1x2x64x512 .fp8e4m3) (harg10 : arg10.IsWhole) (arg11 : Memref sig .tc .vmem S1x2x16x64 .i8) (harg11 : arg11.IsWhole) (arg12 : Memref sig .tc .vmem S2x512x256 .bf16) (harg12 : arg12.IsWhole) (arg13 : Memref sig .tc .vmem S2x64x512 .bf16) (harg13 : arg13.IsWhole) (arg14 : Memref sig .tc .vmem S2x48x512 .i32) (harg14 : arg14.IsWhole) (hc0 : ¬k0_cond1 i = 1#1)
    (x0 : Vec F S1x512x1024 .bf16) (x1 : Vec F S1x512x128 .bf16) (x2 : Vec F S1x512x128 .bf16) (xs2 : Vec F S2x48x512 .i32) :
      ∀ (xi5 : Vec F S1x2x48x512 .i8) (E : Set ℕ) (K : PUnit → sProp 𝕄),
        iprop(owns (c : Thread nD τ) arg2 fullShare (x0) ∗ owns (c : Thread nD τ) arg3 fullShare (x1) ∗ owns (c : Thread nD τ) arg4 fullShare (x2) ∗ (∃ d, owns (c : Thread nD τ) arg5 fullShare d) ∗ (∃ d, owns (c : Thread nD τ) arg6 fullShare d) ∗ owns (c : Thread nD τ) arg7 fullShare (xi5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (xs2)
            ∗ (iprop(owns (c : Thread nD τ) arg2 fullShare (x0) ∗ owns (c : Thread nD τ) arg3 fullShare (x1) ∗ owns (c : Thread nD τ) arg4 fullShare (x2) ∗ owns (c : Thread nD τ) arg5 fullShare (outB x0 (kmB x1) (vmB x2)) ∗ owns (c : Thread nD τ) arg6 fullShare (qcB x0) ∗ owns (c : Thread nD τ) arg7 fullShare (xi5) ∗ owns (c : Thread nD τ) arg8 fullShare (kcB x1) ∗ owns (c : Thread nD τ) arg9 fullShare (ksB x1) ∗ owns (c : Thread nD τ) arg10 fullShare (vcB x2) ∗ owns (c : Thread nD τ) arg11 fullShare (vsB x2) ∗ (∃ d, owns (c : Thread nD τ) arg12 fullShare d) ∗ (∃ d, owns (c : Thread nD τ) arg13 fullShare d) ∗ owns (c : Thread nD τ) arg14 fullShare (upd i x0 xs2)) -∗ K ⟨⟩))
          ⊢ wp frame (wpE (defs₀ (F := F)) Variants.none c none) E (cc0_mx_gqa i arg2 harg2 arg3 harg3 arg4 harg4 arg5 harg5 arg6 harg6 arg7 harg7 arg8 harg8 arg9 harg9 arg10 harg10 arg11 harg11 arg12 harg12 arg13 harg13 arg14 harg14) K := by
    intro xi5 E K
    simp only [cc0_mx_gqa_eq_skeleton]; unfold cc0_mx_gqa_skel
    simp only [k0_part13_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg14.eq_unread hfs2; obtain rfl := harg7.eq_unread hf5
    sl_exec (disch := first | sl_exact hc0)
    sl_step
    iapply Hk
    have e1 : arg3.view.readAt (Elt F) (Rect.unit (s := S1x512x128) ![0, 0, 0] S1x512x128.size inb_S1x512x128_S1x512x128_0_0_0).toLoadRect (harg3.unread x1) = x1 :=
      (readAt_whole3 arg3.view _ _).trans (harg3.read_unread x1)
    have e2 : arg4.view.readAt (Elt F) (Rect.unit (s := S1x512x128) ![0, 0, 0] S1x512x128.size inb_S1x512x128_S1x512x128_0_0_0).toLoadRect (harg4.unread x2) = x2 :=
      (readAt_whole3 arg4.view _ _).trans (harg4.read_unread x2)
    have hKM : arg12.view.read (Elt F) (arg12.view.writes (Elt F) arg12.view.junk (runA.sl.HS0_2 c arg3 harg3 x1)) = kmB x1 :=
      (read_pair3 arg12.view arg12.view.junk _ _ _ _).trans (congrArg kmB e1)
    have hVM : arg13.view.read (Elt F) (arg13.view.writes (Elt F) arg13.view.junk (runA.sl.HS1_2 c arg4 harg4 x2)) = vmB x2 :=
      (read_pair3 arg13.view arg13.view.junk _ _ _ _).trans (congrArg vmB e2)
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_out i arg2 harg2 arg3 harg3 arg4 harg4 arg5 harg5 arg6 harg6 arg7 harg7 arg8 harg8 arg9 harg9 arg10 harg10 arg11 harg11 arg12 harg12 arg13 harg13 arg14 harg14 _ c _ _ _ _ _ _).trans ?_
      rw [harg2.read_unread, hKM, hVM]
    isplitl [H4]
    · iexists _; isplitr; swap; · iexact H4
      ipureintro
      refine (read_qc i arg2 harg2 arg3 harg3 arg4 harg4 arg5 harg5 arg6 harg6 arg7 harg7 arg8 harg8 arg9 harg9 arg10 harg10 arg11 harg11 arg12 harg12 arg13 harg13 arg14 harg14 _ c _ _ _ _ _ _).trans ?_
      rw [harg2.read_unread]
    have hacc := read_acc i arg2 harg2 arg3 harg3 arg4 harg4 arg5 harg5 arg6 harg6 arg7 harg7 arg8 harg8 arg9 harg9 arg10 harg10 arg11 harg11 arg12 harg12 arg13 harg13 arg14 harg14 Variants.none c none (BitVec.ofNat 32 (i 1).val) (harg2.unread x0) (arg12.view.writes (Elt F) arg12.view.junk (runA.sl.HS0_2 c arg3 harg3 x1)) (arg13.view.writes (Elt F) arg13.view.junk (runA.sl.HS1_2 c arg4 harg4 x2)) (harg14.unread xs2)
    rw [harg2.read_unread, harg14.read_unread] at hacc
    isplitl [H5]
    · iexists _; isplitr; · ipureintro; exact harg7.read_unread _
      iexact H5
    isplitl [H6]
    · iexists _; isplitr; swap; · iexact H6
      ipureintro
      exact (read_pair4 arg8.view arg8.view.junk _ _ _ _).trans (congrArg kcB e1)
    isplitl [H7]
    · iexists _; isplitr; swap; · iexact H7
      ipureintro
      exact (read_pair4 arg9.view arg9.view.junk _ _ _ _).trans (congrArg ksB e1)
    isplitl [H8]
    · iexists _; isplitr; swap; · iexact H8
      ipureintro
      exact (read_pair4 arg10.view arg10.view.junk _ _ _ _).trans (congrArg vcB e2)
    isplitl [H9]
    · iexists _; isplitr; swap; · iexact H9
      ipureintro
      exact (read_pair4 arg11.view arg11.view.junk _ _ _ _).trans (congrArg vsB e2)
    isplitl [HS0]
    · iexists _, _; isplitr; swap; · iexact HS0
      ipureintro; rfl
    isplitl [HS1]
    · iexists _, _; isplitr; swap; · iexact HS1
      ipureintro; rfl
    iexists _; isplitr; swap; · iexact HS2
    ipureintro; exact hacc

end Cert.KernelIdeal.Own

end
-- ==== Proof.KRunB.lean ====
/- The kernel's body run at one grid point: what it leaves in every buffer, as functions of the three blocks it is given. -/
module

public import proofs.«01_k».proof.Proof.KBlock
public import proofs.«01_k».proof.Proof.KPts

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
theorem runB (c : Dev nD) (i : grid0.Coords) (arg2 : Memref sig .tc .vmem S1x512x1024 .bf16) (harg2 : arg2.IsWhole) (arg3 : Memref sig .tc .vmem S1x512x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x16x64x512 .fp8e4m3) (harg6 : arg6.IsWhole) (arg7 : Memref sig .tc .vmem S1x2x48x512 .i8) (harg7 : arg7.IsWhole) (arg8 : Memref sig .tc .vmem S1x2x64x512 .fp8e4m3) (harg8 : arg8.IsWhole) (arg9 : Memref sig .tc .vmem S1x2x2x512 .i8) (harg9 : arg9.IsWhole) (arg10 : Memref sig .tc .vmem S1x2x64x512 .fp8e4m3) (harg10 : arg10.IsWhole) (arg11 : Memref sig .tc .vmem S1x2x16x64 .i8) (harg11 : arg11.IsWhole) (arg12 : Memref sig .tc .vmem S2x512x256 .bf16) (harg12 : arg12.IsWhole) (arg13 : Memref sig .tc .vmem S2x64x512 .bf16) (harg13 : arg13.IsWhole) (arg14 : Memref sig .tc .vmem S2x48x512 .i32) (harg14 : arg14.IsWhole) (hc0 : k0_cond1 i = 1#1)
    (x0 : Vec F S1x512x1024 .bf16) (x1 : Vec F S1x512x128 .bf16) (x2 : Vec F S1x512x128 .bf16) (xs2 : Vec F S2x48x512 .i32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (xs2)
            ∗ (iprop(owns (c : Thread nD τ) arg2 fullShare (x0) ∗ owns (c : Thread nD τ) arg3 fullShare (x1) ∗ owns (c : Thread nD τ) arg4 fullShare (x2) ∗ owns (c : Thread nD τ) arg5 fullShare (outB x0 (kmB x1) (vmB x2)) ∗ owns (c : Thread nD τ) arg6 fullShare (qcB x0) ∗ owns (c : Thread nD τ) arg7 fullShare (k0_pay1 (upd i x0 xs2)) ∗ owns (c : Thread nD τ) arg8 fullShare (kcB x1) ∗ owns (c : Thread nD τ) arg9 fullShare (ksB x1) ∗ owns (c : Thread nD τ) arg10 fullShare (vcB x2) ∗ owns (c : Thread nD τ) arg11 fullShare (vsB x2) ∗ (∃ d, owns (c : Thread nD τ) arg12 fullShare d) ∗ (∃ d, owns (c : Thread nD τ) arg13 fullShare d) ∗ owns (c : Thread nD τ) arg14 fullShare (upd i x0 xs2)) -∗ K ⟨⟩))
          ⊢ wp frame (wpE (defs₀ (F := F)) Variants.none c none) E (cc0_mx_gqa i arg2 harg2 arg3 harg3 arg4 harg4 arg5 harg5 arg6 harg6 arg7 harg7 arg8 harg8 arg9 harg9 arg10 harg10 arg11 harg11 arg12 harg12 arg13 harg13 arg14 harg14) K := by
    intro E K
    simp only [cc0_mx_gqa_eq_skeleton]; unfold cc0_mx_gqa_skel
    simp only [k0_part13_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg14.eq_unread hfs2
    sl_exec (disch := first | sl_exact hc0)
    sl_step
    iapply Hk
    have e1 : arg3.view.readAt (Elt F) (Rect.unit (s := S1x512x128) ![0, 0, 0] S1x512x128.size inb_S1x512x128_S1x512x128_0_0_0).toLoadRect (harg3.unread x1) = x1 :=
      (readAt_whole3 arg3.view _ _).trans (harg3.read_unread x1)
    have e2 : arg4.view.readAt (Elt F) (Rect.unit (s := S1x512x128) ![0, 0, 0] S1x512x128.size inb_S1x512x128_S1x512x128_0_0_0).toLoadRect (harg4.unread x2) = x2 :=
      (readAt_whole3 arg4.view _ _).trans (harg4.read_unread x2)
    have hKM : arg12.view.read (Elt F) (arg12.view.writes (Elt F) arg12.view.junk (runB.sl.HS0_2 c arg3 harg3 x1)) = kmB x1 :=
      (read_pair3 arg12.view arg12.view.junk _ _ _ _).trans (congrArg kmB e1)
    have hVM : arg13.view.read (Elt F) (arg13.view.writes (Elt F) arg13.view.junk (runB.sl.HS1_2 c arg4 harg4 x2)) = vmB x2 :=
      (read_pair3 arg13.view arg13.view.junk _ _ _ _).trans (congrArg vmB e2)
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (read_out i arg2 harg2 arg3 harg3 arg4 harg4 arg5 harg5 arg6 harg6 arg7 harg7 arg8 harg8 arg9 harg9 arg10 harg10 arg11 harg11 arg12 harg12 arg13 harg13 arg14 harg14 _ c _ _ _ _ _ _).trans ?_
      rw [harg2.read_unread, hKM, hVM]
    isplitl [H4]
    · iexists _; isplitr; swap; · iexact H4
      ipureintro
      refine (read_qc i arg2 harg2 arg3 harg3 arg4 harg4 arg5 harg5 arg6 harg6 arg7 harg7 arg8 harg8 arg9 harg9 arg10 harg10 arg11 harg11 arg12 harg12 arg13 harg13 arg14 harg14 _ c _ _ _ _ _ _).trans ?_
      rw [harg2.read_unread]
    have hacc := read_acc i arg2 harg2 arg3 harg3 arg4 harg4 arg5 harg5 arg6 harg6 arg7 harg7 arg8 harg8 arg9 harg9 arg10 harg10 arg11 harg11 arg12 harg12 arg13 harg13 arg14 harg14 Variants.none c none (BitVec.ofNat 32 (i 1).val) (harg2.unread x0) (arg12.view.writes (Elt F) arg12.view.junk (runB.sl.HS0_2 c arg3 harg3 x1)) (arg13.view.writes (Elt F) arg13.view.junk (runB.sl.HS1_2 c arg4 harg4 x2)) (harg14.unread xs2)
    rw [harg2.read_unread, harg14.read_unread] at hacc
    isplitl [H5]
    · iexists _; isplitr; swap; · iexact H5
      ipureintro
      have hv : runB.sl.v285 c i arg2 harg2 arg3 harg3 arg4 harg4 arg5 harg5 arg6 harg6 arg7 harg7 arg8 harg8 arg9 harg9 arg10 harg10 arg11 harg11 arg12 harg12 arg13 harg13 arg14 harg14 x0 x1 x2 xs2 = upd i x0 xs2 :=
        (readAt_whole3 arg14.view _ _).trans hacc
      rw [hv]
      exact read_whole4 arg7.view f5 _ _
    isplitl [H6]
    · iexists _; isplitr; swap; · iexact H6
      ipureintro
      exact (read_pair4 arg8.view arg8.view.junk _ _ _ _).trans (congrArg kcB e1)
    isplitl [H7]
    · iexists _; isplitr; swap; · iexact H7
      ipureintro
      exact (read_pair4 arg9.view arg9.view.junk _ _ _ _).trans (congrArg ksB e1)
    isplitl [H8]
    · iexists _; isplitr; swap; · iexact H8
      ipureintro
      exact (read_pair4 arg10.view arg10.view.junk _ _ _ _).trans (congrArg vcB e2)
    isplitl [H9]
    · iexists _; isplitr; swap; · iexact H9
      ipureintro
      exact (read_pair4 arg11.view arg11.view.junk _ _ _ _).trans (congrArg vsB e2)
    isplitl [HS0]
    · iexists _, _; isplitr; swap; · iexact HS0
      ipureintro; rfl
    isplitl [HS1]
    · iexists _, _; isplitr; swap; · iexact HS1
      ipureintro; rfl
    iexists _; isplitr; swap; · iexact HS2
    ipureintro; exact hacc

end Cert.KernelIdeal.Own

end
-- ==== Proof.KDats.lean ====
/- The run of the whole kernel: what every grid point leaves in its blocks, and the run of the pipelined launch with the lines after it. -/
module

public import proofs.«01_k».proof.Proof.KRunA
public import proofs.«01_k».proof.Proof.KRunB
public import proofs.«01_k».proof.Proof.Gen.KernelIdeal.Frame
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The schedule -/

/-- The last block of queries of a batch. -/
abbrev cond0_0 (i : grid0.Coords) : Prop := k0_cond1 i = 1#1
theorem hcond0_0 : ∀ t : Fin cfg0.N, cond0_0 (grid0.coords t) ↔ t.val % 3 = 2 :=
  (fun t => by
    have ht : t.val < 12 := Nat.lt_of_lt_of_eq t.isLt N_0
    have e0 : (grid0.coords t 0).val = t.val / 3 % 4 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 3 = 2)
theorem coord1 (t : Fin cfg0.N) : (grid0.coords t 1).val = t.val % 3 := by
  have e1 : (grid0.coords t 1).val = t.val / 1 % 3 := Pipeline.Grid.coords_val t 1 (by decide) rfl
  rw [e1, Nat.div_one]
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem idleAt0_5 : ∀ t : Fin cfg0.N, ¬cond0_0 (grid0.coords t) → cfg0.idle 5 (grid0.coords t) = true := by decide +kernel
theorem noFlush0_5 : ∀ t : Fin cfg0.N, ¬cond0_0 (grid0.coords t) → (cfg0.win 5).flush t = false := by decide +kernel
theorem liveAt0_5 : ∀ t : Fin cfg0.N, cond0_0 (grid0.coords t) → cfg0.idle 5 (grid0.coords t) = false := by decide +kernel
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x64x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x48x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x2x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x64x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x16x64 .i8 := win0_9.stage (cfg0.slots t 9)
abbrev hs0_9 (t : Fin cfg0.N) : (ms0_9 t).IsWhole := hstage0_9 ((cfg0.slots t 9).cast nbuf0_9)
abbrev scM0_0 : Memref sig .tc .vmem S2x512x256 .bf16 := Memref.whole cc0_scratch0
abbrev scM0_1 : Memref sig .tc .vmem S2x64x512 .bf16 := Memref.whole cc0_scratch1
abbrev scM0_2 : Memref sig .tc .vmem S2x48x512 .i32 := Memref.whole cc0_scratch2
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What each point leaves -/

/-- The block of queries at a point. -/
abbrev ib0 (c : Dev nD) (t : Fin cfg0.N) : Vec F S1x512x1024 .bf16 := iblk m c 0 t
/-- The block of keys at a point. -/
abbrev ib1 (c : Dev nD) (t : Fin cfg0.N) : Vec F S1x512x128 .bf16 := iblk m c 1 t
/-- The block of values at a point. -/
abbrev ib2 (c : Dev nD) (t : Fin cfg0.N) : Vec F S1x512x128 .bf16 := iblk m c 2 t

theorem lt_N {n : ℕ} (h : n < 12) : n < cfg0.N := lt_of_lt_of_eq h (show cfg0.N = 12 from N_0).symm
/-- All the exponents of the queries of batch `b`. -/
def accW (c : Dev nD) (b : ℕ) : Vec F S2x48x512 .i32 :=
  fun y => qeB (ib0 m c ⟨(3 * b + (y 1).val / 16) % 12, lt_N (Nat.mod_lt _ (by decide))⟩) (y 0) ⟨(y 1).val % 16, Nat.mod_lt _ (by decide)⟩ (y 2)
/-- Before point `t` the accumulator's rows of the batch's earlier points hold their exponents. -/
def accInv (c : Dev nD) (t : ℕ) (d : Vec F S2x48x512 .i32) : Prop := ∀ y, (y 1).val < 16 * (t % 3) → d y = accW m c (t / 3) y

theorem qeB_congr (c : Dev nD) {t t' : Fin cfg0.N} (ht : t.val = t'.val) (n : Fin 2) {r r' : Fin 16} (hr : r.val = r'.val) (s : Fin 512) :
    qeB (ib0 m c t) n r s = qeB (ib0 m c t') n r' s := by
  obtain rfl := Fin.ext ht; obtain rfl := Fin.ext hr; rfl

theorem upd_eq (c : Dev nD) (t : Fin cfg0.N) (d : Vec F S2x48x512 .i32) (hd : accInv m c t.val d) (y : S2x48x512.Idx)
    (hy : (y 1).val < 16 * (t.val % 3) + 16) : upd (grid0.coords t) (ib0 m c t) d y = accW m c (t.val / 3) y := by
  have hN : t.val < 12 := lt_of_lt_of_eq t.isLt (show cfg0.N = 12 from N_0)
  have e1 := coord1 t
  unfold upd
  by_cases h : 16 * (grid0.coords t 1).val ≤ (y 1).val ∧ (y 1).val < 16 * (grid0.coords t 1).val + 16
  · rw [dif_pos h]
    unfold accW
    exact qeB_congr m c (by show t.val = (3 * (t.val / 3) + (y 1).val / 16) % 12; omega) _ (by show (y 1).val - 16 * (grid0.coords t 1).val = (y 1).val % 16; omega) _
  · rw [dif_neg h]
    exact hd y (by omega)
theorem accInv_succ (c : Dev nD) (t : Fin cfg0.N) (d : Vec F S2x48x512 .i32) (hd : accInv m c t.val d) :
    accInv m c (t.val + 1) (upd (grid0.coords t) (ib0 m c t) d) := by
  intro y hy
  rw [upd_eq m c t d hd y (by omega)]
  congr 1; omega
theorem upd_last (c : Dev nD) (t : Fin cfg0.N) (h : t.val % 3 = 2) (d : Vec F S2x48x512 .i32) (hd : accInv m c t.val d) :
    upd (grid0.coords t) (ib0 m c t) d = accW m c (t.val / 3) := by
  funext y
  have hy : (y 1).val < 48 := (y 1).isLt
  exact upd_eq m c t d hd y (by omega)

/-- What the buffers that the points share hold before point `t`. -/
def PhiS (c : Dev nD) (t : ℕ) : sProp 𝕄 :=
  iprop(iprop((∃ d, owns (c : Thread nD τ) scM0_0 fullShare d) ∗ (∃ d, owns (c : Thread nD τ) scM0_1 fullShare d) ∗ (∃ d, ⌜accInv m c t d⌝ ∗ owns (c : Thread nD τ) scM0_2 fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB (ib0 m c t) (kmB (ib1 m c t)) (vmB (ib2 m c t))
    | ⟨4, _⟩ => qcB (ib0 m c t)
    | ⟨5, _⟩ => k0_pay1 (accW m c (t.val / 3))
    | ⟨6, _⟩ => kcB (ib1 m c t)
    | ⟨7, _⟩ => ksB (ib1 m c t)
    | ⟨8, _⟩ => vcB (ib2 m c t)
    | ⟨9, _⟩ => vsB (ib2 m c t)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB (ib0 m c t) (kmB (ib1 m c t)) (vmB (ib2 m c t)) := by dsimp only [dats]
theorem after0_4 (c : Dev nD) (t : Fin cfg0.N) : (dats m 0 c).after 4 t = qcB (ib0 m c t) := by dsimp only [dats]
theorem after0_5 (c : Dev nD) (t : Fin cfg0.N) : (dats m 0 c).after 5 t = k0_pay1 (accW m c (t.val / 3)) := by dsimp only [dats]
theorem after0_6 (c : Dev nD) (t : Fin cfg0.N) : (dats m 0 c).after 6 t = kcB (ib1 m c t) := by dsimp only [dats]
theorem after0_7 (c : Dev nD) (t : Fin cfg0.N) : (dats m 0 c).after 7 t = ksB (ib1 m c t) := by dsimp only [dats]
theorem after0_8 (c : Dev nD) (t : Fin cfg0.N) : (dats m 0 c).after 8 t = vcB (ib2 m c t) := by dsimp only [dats]
theorem after0_9 (c : Dev nD) (t : Fin cfg0.N) : (dats m 0 c).after 9 t = vsB (ib2 m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 12 := lt_of_lt_of_eq t.isLt (show cfg0.N = 12 from N_0)
  by_cases h0 : t.val % 3 = 2
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t ((hcond0_0 t).mpr h0)], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [← upd_last m c t h0 d hd]
    iapply (runB c (grid0.coords t) _ _ _ _ _ _ _ _ _ _ _ _ _ _ _ _ _ _ _ _ _ _ _ _ _ _ ((hcond0_0 t).mpr h0) (ib0 m c t) (ib1 m c t) (ib2 m c t) d Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexact HS0
        isplitl [HS1]
        · iexact HS1
        iexists _
        isplitr
        swap
        · iexact HS2
        ipureintro; exact accInv_succ m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [Dat.leavesExact_idle (dats m 0 c) 5 t (idleAt0_5 t (fun h => h0 ((hcond0_0 t).mp h))) (noFlush0_5 t (fun h => h0 ((hcond0_0 t).mp h)))]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords t) _ _ _ _ _ _ _ _ _ _ _ _ _ _ _ _ _ _ _ _ _ _ _ _ _ _ (fun h => h0 ((hcond0_0 t).mp h)) (ib0 m c t) (ib1 m c t) (ib2 m c t) d _ Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexact HS0
        isplitl [HS1]
        · iexact HS1
        iexists _
        isplitr
        swap
        · iexact HS2
        ipureintro; exact accInv_succ m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := by
  rw [show (dats m 0 c).Φ 0 = PhiS m c 0 from rfl, PhiA0_eq]
  unfold PhiS
  iintro ⟨⟨HS0, HS1, ⟨%d, HS2⟩⟩, Hg⟩
  isplitl [HS0 HS1 HS2]
  · isplitl [HS0]
    · iexact HS0
    isplitl [HS1]
    · iexact HS1
    iexists _
    isplitr
    swap
    · iexact HS2
    ipureintro
    intro y hy
    exact absurd hy (Nat.not_lt_zero _)
  iexact Hg
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨HS0, HS1, ⟨%d, %hd, HS2⟩⟩, Hg⟩
  isplitl [HS0 HS1 HS2]
  · isplitl [HS0]
    · iexact HS0
    isplitl [HS1]
    · iexact HS1
    iexists _; iexact HS2
  iexact Hg
set_option backward.isDefEq.respectTransparency.types false in
set_option maxHeartbeats 800000 in
/-- The run, with every buffer at its end named. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)
/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)
/-- The run ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Own

end
-- ==== Proof.KFinal.lean ====
/- What the seven arrays hold when the program ends: each entry is one point's, and the host's transposes of them. -/
module

public import proofs.«01_k».proof.Proof.KDats
public import Idealize.ShloMosaic.Lib.Pipeline.ValueKit

@[expose] public section

set_option maxRecDepth 16384
set_option maxHeartbeats 1600000

noncomputable section

namespace Cert.KernelIdeal.Own

open Idealize.ShloMosaic Idealize.ShloMosaic.TcCoe Idealize.ShloMosaic.Tactic
open Idealize.ShloMosaic.Pipeline (Dat Cfg Window)
open Cert.KernelIdeal.Gen

variable {F : FTy → Type} [FloatOps F] [Named F]
variable (m : (ℓ : Loc nD τ sig) → Buf (Elt F) ℓ) (ρ : Dev nD → PrngReg)

/-! ## The schedule in numbers -/

theorem ex3 : ∀ t : Fin cfg0.N, win0_3.index t = ![t.val / 3, 0, t.val % 3] := (by decide +kernel : ∀ t : Fin grid0.N, win0_3.index t = ![t.val / 3, 0, t.val % 3])
theorem ex4 : ∀ t : Fin cfg0.N, win0_4.index t = ![t.val / 3, t.val % 3, 0, 0] := (by decide +kernel : ∀ t : Fin grid0.N, win0_4.index t = ![t.val / 3, t.val % 3, 0, 0])
theorem ex5 : ∀ t : Fin cfg0.N, win0_5.index t = ![t.val / 3, 0, 0, 0] := (by decide +kernel : ∀ t : Fin grid0.N, win0_5.index t = ![t.val / 3, 0, 0, 0])
theorem ex6 : ∀ t : Fin cfg0.N, win0_6.index t = ![t.val / 3, t.val % 3, 0, 0] := (by decide +kernel : ∀ t : Fin grid0.N, win0_6.index t = ![t.val / 3, t.val % 3, 0, 0])
theorem ex7 : ∀ t : Fin cfg0.N, win0_7.index t = ![t.val / 3, t.val % 3, 0, 0] := (by decide +kernel : ∀ t : Fin grid0.N, win0_7.index t = ![t.val / 3, t.val % 3, 0, 0])
theorem ex8 : ∀ t : Fin cfg0.N, win0_8.index t = ![t.val / 3, t.val % 3, 0, 0] := (by decide +kernel : ∀ t : Fin grid0.N, win0_8.index t = ![t.val / 3, t.val % 3, 0, 0])
theorem ex9 : ∀ t : Fin cfg0.N, win0_9.index t = ![t.val / 3, t.val % 3, 0, 0] := (by decide +kernel : ∀ t : Fin grid0.N, win0_9.index t = ![t.val / 3, t.val % 3, 0, 0])
theorem ex0 : ∀ t : Fin cfg0.N, win0_0.index t = ![t.val / 3, 0, t.val % 3] := (by decide +kernel : ∀ t : Fin grid0.N, win0_0.index t = ![t.val / 3, 0, t.val % 3])
theorem ex1 : ∀ t : Fin cfg0.N, win0_1.index t = ![t.val / 3, 0, t.val % 3] := (by decide +kernel : ∀ t : Fin grid0.N, win0_1.index t = ![t.val / 3, 0, t.val % 3])
theorem ex2 : ∀ t : Fin cfg0.N, win0_2.index t = ![t.val / 3, 0, t.val % 3] := (by decide +kernel : ∀ t : Fin grid0.N, win0_2.index t = ![t.val / 3, 0, t.val % 3])
theorem flush5 : ∀ t : Fin cfg0.N, (cfg0.win 5).flush t = true → t.val % 3 = 2 := (by decide +kernel : ∀ t : Fin grid0.N, (cfg0.win 5).flush t = true → t.val % 3 = 2)

/-- The point of batch `b` and block `p`. -/
def pt (b p : ℕ) : Fin cfg0.N := ⟨(3 * b + p) % 12, lt_N (Nat.mod_lt _ (by decide))⟩
theorem pt_eq (t : Fin cfg0.N) {b p : ℕ} (hb : b = t.val / 3) (hp : p = t.val % 3) : pt b p = t := by
  subst hb hp
  have hN : t.val < 12 := lt_of_lt_of_eq t.isLt (show cfg0.N = 12 from N_0)
  apply Fin.ext; show (3 * (t.val / 3) + t.val % 3) % 12 = t.val; omega

/-! ## The arrays -/

def outA (c : Dev nD) : Vec F S4x512x3072 .bf16 := fun y =>
  outB (ib0 m c (pt (y 0).val ((y 2).val / 1024))) (kmB (ib1 m c (pt (y 0).val ((y 2).val / 1024)))) (vmB (ib2 m c (pt (y 0).val ((y 2).val / 1024))))
    (ix3 0 (y 1) ⟨(y 2).val % 1024, Nat.mod_lt _ (by decide)⟩)
def qcA (c : Dev nD) : Vec F S4x48x64x512 .fp8e4m3 := fun y =>
  qcB (ib0 m c (pt (y 0).val ((y 1).val / 16))) (ix4 0 ⟨(y 1).val % 16, Nat.mod_lt _ (by decide)⟩ (y 2) (y 3))
def qsA (c : Dev nD) : Vec F S4x2x48x512 .i8 := fun y => k0_pay1 (accW m c (y 0).val) (ix4 0 (y 1) (y 2) (y 3))
def kcA (c : Dev nD) : Vec F S4x6x64x512 .fp8e4m3 := fun y =>
  kcB (ib1 m c (pt (y 0).val ((y 1).val / 2))) (ix4 0 ⟨(y 1).val % 2, Nat.mod_lt _ (by decide)⟩ (y 2) (y 3))
def ksA (c : Dev nD) : Vec F S4x6x2x512 .i8 := fun y =>
  ksB (ib1 m c (pt (y 0).val ((y 1).val / 2))) (ix4 0 ⟨(y 1).val % 2, Nat.mod_lt _ (by decide)⟩ (y 2) (y 3))
def vcA (c : Dev nD) : Vec F S4x6x64x512 .fp8e4m3 := fun y =>
  vcB (ib2 m c (pt (y 0).val ((y 1).val / 2))) (ix4 0 ⟨(y 1).val % 2, Nat.mod_lt _ (by decide)⟩ (y 2) (y 3))
def vsA (c : Dev nD) : Vec F S4x6x16x64 .i8 := fun y =>
  vsB (ib2 m c (pt (y 0).val ((y 1).val / 2))) (ix4 0 ⟨(y 1).val % 2, Nat.mod_lt _ (by decide)⟩ (y 2) (y 3))

theorem arr3 (c : Dev nD) : (dats m 0 c).arrAt 3 cfg0.N = outA m c := by
  refine (dats m 0 c).arrAt_eq_of_covers 3 _ (by decide +kernel) fun t hf y => ?_
  blk_simp
  rw [after0_3]
  have h0 : (y 0).val = 0 := by have : (y 0).val < 1 := (y 0).isLt; omega
  have h2 : (y 2).val < 1024 := (y 2).isLt
  unfold outA
  rw [pt_eq t (by blk_simp [ex3 t]) (by blk_simp [ex3 t]; omega)]
  refine congrArg _ ?_
  blk_ext [ex3 t]

theorem arr4 (c : Dev nD) : (dats m 0 c).arrAt 4 cfg0.N = qcA m c := by
  refine (dats m 0 c).arrAt_eq_of_covers 4 _ (by decide +kernel) fun t hf y => ?_
  blk_simp
  rw [after0_4]
  have h0 : (y 0).val = 0 := by have : (y 0).val < 1 := (y 0).isLt; omega
  have h1 : (y 1).val < 16 := (y 1).isLt
  unfold qcA
  rw [pt_eq t (by blk_simp [ex4 t]) (by blk_simp [ex4 t]; omega)]
  refine congrArg _ ?_
  blk_ext [ex4 t]
theorem arr6 (c : Dev nD) : (dats m 0 c).arrAt 6 cfg0.N = kcA m c := by
  refine (dats m 0 c).arrAt_eq_of_covers 6 _ (by decide +kernel) fun t hf y => ?_
  blk_simp
  rw [after0_6]
  have h0 : (y 0).val = 0 := by have : (y 0).val < 1 := (y 0).isLt; omega
  have h1 : (y 1).val < 2 := (y 1).isLt
  unfold kcA
  rw [pt_eq t (by blk_simp [ex6 t]) (by blk_simp [ex6 t]; omega)]
  refine congrArg _ ?_
  blk_ext [ex6 t]
theorem arr7 (c : Dev nD) : (dats m 0 c).arrAt 7 cfg0.N = ksA m c := by
  refine (dats m 0 c).arrAt_eq_of_covers 7 _ (by decide +kernel) fun t hf y => ?_
  blk_simp
  rw [after0_7]
  have h0 : (y 0).val = 0 := by have : (y 0).val < 1 := (y 0).isLt; omega
  have h1 : (y 1).val < 2 := (y 1).isLt
  unfold ksA
  rw [pt_eq t (by blk_simp [ex7 t]) (by blk_simp [ex7 t]; omega)]
  refine congrArg _ ?_
  blk_ext [ex7 t]
theorem arr8 (c : Dev nD) : (dats m 0 c).arrAt 8 cfg0.N = vcA m c := by
  refine (dats m 0 c).arrAt_eq_of_covers 8 _ (by decide +kernel) fun t hf y => ?_
  blk_simp
  rw [after0_8]
  have h0 : (y 0).val = 0 := by have : (y 0).val < 1 := (y 0).isLt; omega
  have h1 : (y 1).val < 2 := (y 1).isLt
  unfold vcA
  rw [pt_eq t (by blk_simp [ex8 t]) (by blk_simp [ex8 t]; omega)]
  refine congrArg _ ?_
  blk_ext [ex8 t]
theorem arr9 (c : Dev nD) : (dats m 0 c).arrAt 9 cfg0.N = vsA m c := by
  refine (dats m 0 c).arrAt_eq_of_covers 9 _ (by decide +kernel) fun t hf y => ?_
  blk_simp
  rw [after0_9]
  have h0 : (y 0).val = 0 := by have : (y 0).val < 1 := (y 0).isLt; omega
  have h1 : (y 1).val < 2 := (y 1).isLt
  unfold vsA
  rw [pt_eq t (by blk_simp [ex9 t]) (by blk_simp [ex9 t]; omega)]
  refine congrArg _ ?_
  blk_ext [ex9 t]
theorem arr5 (c : Dev nD) : (dats m 0 c).arrAt 5 cfg0.N = qsA m c := by
  refine (dats m 0 c).arrAt_eq_of_covers 5 _ (by decide +kernel) fun t hf y => ?_
  blk_simp
  rw [after0_5]
  have h0 : (y 0).val = 0 := by have : (y 0).val < 1 := (y 0).isLt; omega
  unfold qsA
  refine congr (congrArg k0_pay1 (congrArg _ ?_)) ?_
  · blk_simp [ex5 t]
  · blk_ext [ex5 t]
-- ==== Proof.KRes.lean ====
/- The results of the program: the run with every result named, and the blocks of the arguments that the points read. -/
module

public import proofs.«01_k».proof.Proof.KFinal
public import Idealize.ShloMosaic.Lib.Claim

@[expose] public section

set_option maxRecDepth 16384
set_option maxHeartbeats 1600000

noncomputable section

namespace Cert.KernelIdeal.Own

open Idealize.ShloMosaic Idealize.ShloMosaic.TcCoe Idealize.ShloMosaic.Tactic
open Idealize.ShloMosaic.Pipeline (Dat Cfg Window)
open Cert.KernelIdeal.Gen

variable {F : FTy → Type} [FloatOps F] [Named F]
variable (m : (ℓ : Loc nD τ sig) → Buf (Elt F) ℓ) (ρ : Dev nD → PrngReg)

/-! ## The blocks of the arguments -/

theorem ib0_at (c : Dev nD) (t : Fin cfg0.N) (y : S1x512x1024.Idx) (z : S4x512x3072.Idx) (h0 : (z 0).val = t.val / 3) (h1 : (z 1).val = (y 1).val)
    (h2 : (z 2).val = 1024 * (t.val % 3) + (y 2).val) : ib0 m c t y = m ((c.tc : Thread nD τ).loc main_arg0) z := by
  have h : (y 0).val = 0 := by have : (y 0).val < 1 := (y 0).isLt; omega
  show m ((c.tc : Thread nD τ).loc main_arg0) ((win0_0.blk t).view.emb y) = _
  refine congrArg _ ?_
  blk_ext [ex0 t]
theorem ib1_at (c : Dev nD) (t : Fin cfg0.N) (y : S1x512x128.Idx) (z : S4x512x384.Idx) (h0 : (z 0).val = t.val / 3) (h1 : (z 1).val = (y 1).val)
    (h2 : (z 2).val = 128 * (t.val % 3) + (y 2).val) : ib1 m c t y = m ((c.tc : Thread nD τ).loc main_arg1) z := by
  have h : (y 0).val = 0 := by have : (y 0).val < 1 := (y 0).isLt; omega
  show m ((c.tc : Thread nD τ).loc main_arg1) ((win0_1.blk t).view.emb y) = _
  refine congrArg _ ?_
  blk_ext [ex1 t]
theorem ib2_at (c : Dev nD) (t : Fin cfg0.N) (y : S1x512x128.Idx) (z : S4x512x384.Idx) (h0 : (z 0).val = t.val / 3) (h1 : (z 1).val = (y 1).val)
    (h2 : (z 2).val = 128 * (t.val % 3) + (y 2).val) : ib2 m c t y = m ((c.tc : Thread nD τ).loc main_arg2) z := by
  have h : (y 0).val = 0 := by have : (y 0).val < 1 := (y 0).isLt; omega
  show m ((c.tc : Thread nD τ).loc main_arg2) ((win0_2.blk t).view.emb y) = _
  refine congrArg _ ?_
  blk_ext [ex2 t]

/-! ## The results -/

theorem tail1 (c : Dev nD) : Pipeline.afterTail₀ cfgs (dats m) 0 (V0 m) [hostOps1] c main_v1 = transpose S4x512x48x64 [0, 3, 1, 2] (qcA m c) transposes_S4x48x64x512_S4x512x48x64_0_3_1_2 := by
  unfold Pipeline.afterTail₀
  simp only [List.flatten_cons, List.flatten_nil, List.append_nil, hostOps1, StableHlo.after_cons, StableHlo.after_nil]
  after_results_simp
  rw [← arr4]
  refine congrArg (fun X => transpose S4x512x48x64 [0, 3, 1, 2] X transposes_S4x48x64x512_S4x512x48x64_0_3_1_2) ?_
  exact Pipeline.withArrays_arr spec0 (by decide) c _ _ 4
theorem tail2 (c : Dev nD) : Pipeline.afterTail₀ cfgs (dats m) 0 (V0 m) [hostOps1] c main_v2 = transpose S4x512x48x2 [0, 3, 2, 1] (qsA m c) transposes_S4x2x48x512_S4x512x48x2_0_3_2_1 := by
  unfold Pipeline.afterTail₀
  simp only [List.flatten_cons, List.flatten_nil, List.append_nil, hostOps1, StableHlo.after_cons, StableHlo.after_nil]
  after_results_simp
  rw [← arr5]
  refine congrArg (fun X => transpose S4x512x48x2 [0, 3, 2, 1] X transposes_S4x2x48x512_S4x512x48x2_0_3_2_1) ?_
  exact Pipeline.withArrays_arr spec0 (by decide) c _ _ 5
theorem tail3 (c : Dev nD) : Pipeline.afterTail₀ cfgs (dats m) 0 (V0 m) [hostOps1] c main_v3 = transpose S4x512x6x64 [0, 3, 1, 2] (kcA m c) transposes_S4x6x64x512_S4x512x6x64_0_3_1_2 := by
  unfold Pipeline.afterTail₀
  simp only [List.flatten_cons, List.flatten_nil, List.append_nil, hostOps1, StableHlo.after_cons, StableHlo.after_nil]
  after_results_simp
  rw [← arr6]
  refine congrArg (fun X => transpose S4x512x6x64 [0, 3, 1, 2] X transposes_S4x6x64x512_S4x512x6x64_0_3_1_2) ?_
  exact Pipeline.withArrays_arr spec0 (by decide) c _ _ 6
theorem tail4 (c : Dev nD) : Pipeline.afterTail₀ cfgs (dats m) 0 (V0 m) [hostOps1] c main_v4 = transpose S4x512x6x2 [0, 3, 1, 2] (ksA m c) transposes_S4x6x2x512_S4x512x6x2_0_3_1_2 := by
  unfold Pipeline.afterTail₀
  simp only [List.flatten_cons, List.flatten_nil, List.append_nil, hostOps1, StableHlo.after_cons, StableHlo.after_nil]
  after_results_simp
  rw [← arr7]
  refine congrArg (fun X => transpose S4x512x6x2 [0, 3, 1, 2] X transposes_S4x6x2x512_S4x512x6x2_0_3_1_2) ?_
  exact Pipeline.withArrays_arr spec0 (by decide) c _ _ 7
theorem tail5 (c : Dev nD) : Pipeline.afterTail₀ cfgs (dats m) 0 (V0 m) [hostOps1] c main_v5 = transpose S4x512x6x64 [0, 3, 1, 2] (vcA m c) transposes_S4x6x64x512_S4x512x6x64_0_3_1_2 := by
  unfold Pipeline.afterTail₀
  simp only [List.flatten_cons, List.flatten_nil, List.append_nil, hostOps1, StableHlo.after_cons, StableHlo.after_nil]
  after_results_simp
  rw [← arr8]
  refine congrArg (fun X => transpose S4x512x6x64 [0, 3, 1, 2] X transposes_S4x6x64x512_S4x512x6x64_0_3_1_2) ?_
  exact Pipeline.withArrays_arr spec0 (by decide) c _ _ 8
theorem tail6 (c : Dev nD) : Pipeline.afterTail₀ cfgs (dats m) 0 (V0 m) [hostOps1] c main_v6 = transpose S4x16x6x64 [0, 2, 1, 3] (vsA m c) transposes_S4x6x16x64_S4x16x6x64_0_2_1_3 := by
  unfold Pipeline.afterTail₀
  simp only [List.flatten_cons, List.flatten_nil, List.append_nil, hostOps1, StableHlo.after_cons, StableHlo.after_nil]
  after_results_simp
  rw [← arr9]
  refine congrArg (fun X => transpose S4x16x6x64 [0, 2, 1, 3] X transposes_S4x6x16x64_S4x16x6x64_0_2_1_3) ?_
  exact Pipeline.withArrays_arr spec0 (by decide) c _ _ 9

/-- The run: every result and the arguments. -/
theorem results : θ_run defs (onTc (τ := τ) (main (F := F))) ⟨m, fun _ => 0, ρ⟩ (fun r => ∀ c : Dev nD,
      r.2.mem ((c.tc : Thread nD τ).loc main_v0_0) = outA m c
      ∧ r.2.mem ((c.tc : Thread nD τ).loc main_v1) = transpose S4x512x48x64 [0, 3, 1, 2] (qcA m c) transposes_S4x48x64x512_S4x512x48x64_0_3_1_2
      ∧ r.2.mem ((c.tc : Thread nD τ).loc main_v2) = transpose S4x512x48x2 [0, 3, 2, 1] (qsA m c) transposes_S4x2x48x512_S4x512x48x2_0_3_2_1
      ∧ r.2.mem ((c.tc : Thread nD τ).loc main_v3) = transpose S4x512x6x64 [0, 3, 1, 2] (kcA m c) transposes_S4x6x64x512_S4x512x6x64_0_3_1_2
      ∧ r.2.mem ((c.tc : Thread nD τ).loc main_v4) = transpose S4x512x6x2 [0, 3, 1, 2] (ksA m c) transposes_S4x6x2x512_S4x512x6x2_0_3_1_2
      ∧ r.2.mem ((c.tc : Thread nD τ).loc main_v5) = transpose S4x512x6x64 [0, 3, 1, 2] (vcA m c) transposes_S4x6x64x512_S4x512x6x64_0_3_1_2
      ∧ r.2.mem ((c.tc : Thread nD τ).loc main_v6) = transpose S4x16x6x64 [0, 2, 1, 3] (vsA m c) transposes_S4x6x16x64_S4x16x6x64_0_2_1_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(((h.1 c).1 3).trans (arr3 m c)), ((h.1 c).2 main_v1 (by decide)).trans (tail1 m c), ((h.1 c).2 main_v2 (by decide)).trans (tail2 m c), ((h.1 c).2 main_v3 (by decide)).trans (tail3 m c), ((h.1 c).2 main_v4 (by decide)).trans (tail4 m c), ((h.1 c).2 main_v5 (by decide)).trans (tail5 m c), ((h.1 c).2 main_v6 (by decide)).trans (tail6 m c), (h.2 c).1, (h.2 c).2.1, (h.2 c).2.2⟩)
    (θ_run_and (run_main m ρ) (unchanged m ρ))

end Cert.KernelIdeal.Own

end
-- ==== Proof.Quant.lean ====
/- The scalar mathematics of the quantiser: the exponent that the kernel finds by a search over the powers of two is the one
   that the reference computes with a logarithm. -/
module

public import Idealize.ShloMosaic.PureOps.Ideal
public import Idealize.ShloMosaic.PureOps.Ideal.Laws

@[expose] public section

set_option maxRecDepth 16384

noncomputable section

namespace Cert.Quant

open Idealize.ShloMosaic

/-! ## Powers of two by their bits -/

/-- The pattern of exponent field `b`, an `f32`. -/
abbrev pat (b : BitVec 32) : EReal := Ideal.ofBits .f32 (b <<< 23)

theorem ext_facts : ∀ n : Fin 256, (((BitVec.ofNat 32 n.val <<< 23).extractLsb' 31 1 == 1#1) = false)
    ∧ ((BitVec.ofNat 32 n.val <<< 23).extractLsb' 23 8).toNat = n.val
    ∧ ((BitVec.ofNat 32 n.val <<< 23).extractLsb' 0 23).toNat = 0 := by decide +kernel

theorem pow_split (z : ℤ) : (2:ℝ) ^ (z - 127) = 8388608 * 2 ^ (z - 150) := by
  have e : (2:ℝ) ^ (23:ℤ) = 8388608 := by
    rw [show (23:ℤ) = ((23:ℕ):ℤ) from rfl, zpow_natCast]; norm_num
  rw [← e, ← zpow_add₀ two_ne_zero]
  exact congrArg _ (by ring)

theorem pat_real (n : ℕ) (h1 : 1 ≤ n) (h2 : n ≤ 254) : pat (BitVec.ofNat 32 n) = (((2:ℝ) ^ ((n:ℤ) - 127) : ℝ) : EReal) := by
  obtain ⟨e0, e1, e2⟩ := ext_facts ⟨n, by omega⟩
  simp only at e0 e1 e2
  simp only [pat, Ideal.ofBits, Ideal.ieee, e0, e1, e2, Nat.reduceAdd]
  rw [if_neg (by omega), if_neg (by omega), EReal.coe_eq_coe_iff, pow_split]
  have e : (n:ℤ) - (2 ^ (8 - 1) - 1) - (23:ℕ) = (n:ℤ) - 150 := by
    norm_num; ring
  rw [e]
  have k : (((2 ^ 23 + 0 : ℕ) : ℕ) : ℝ) = 8388608 := by norm_num
  rw [k]
  simp

theorem pat_top : pat 255#32 = ⊤ := by
  obtain ⟨e0, e1, e2⟩ := ext_facts ⟨255, by omega⟩
  simp only at e0 e1 e2
  simp only [pat, Ideal.ofBits, Ideal.ieee, e0, e1, e2, Nat.reduceAdd]
  rw [if_pos (by norm_num)]; simp

/-! ## The search -/

/-- One step of the search: the field `b + p` if its power of two is at most `t`, else `b`. -/
def stp (t : EReal) (b p : BitVec 32) : BitVec 32 := if pat (b + p) ≤ t then b + p else b
/-- The eight steps. -/
def srch (t : EReal) : BitVec 32 :=
  stp t (stp t (stp t (stp t (stp t (stp t (stp t (stp t 0#32 128#32) 64#32) 32#32) 16#32) 8#32) 4#32) 2#32) 1#32
/-- The exponent field, the two exceptional fields replaced. -/
def fld (b : BitVec 32) : BitVec 32 := if b = 0#32 ∨ b = 255#32 then 126#32 else b

/-- The search over the fields at most `N`. -/
def nstp (N b p : ℕ) : ℕ := if b + p ≤ N then b + p else b
theorem nsrch (N : Fin 256) :
    nstp N (nstp N (nstp N (nstp N (nstp N (nstp N (nstp N (nstp N 0 128) 64) 32) 16) 8) 4) 2) 1 = N := by
  revert N; decide +kernel

theorem nstp_le {N b p q : ℕ} (hb : b ≤ q) : nstp N b p ≤ q + p := by unfold nstp; split <;> omega

theorem stp_eq {t : EReal} {N : ℕ} (hN : ∀ g : ℕ, 1 ≤ g → g ≤ 255 → (pat (BitVec.ofNat 32 g) ≤ t ↔ g ≤ N)) (b p : ℕ)
    (h1 : 1 ≤ p) (h2 : b + p ≤ 255) : stp t (BitVec.ofNat 32 b) (BitVec.ofNat 32 p) = BitVec.ofNat 32 (nstp N b p) := by
  have e : BitVec.ofNat 32 b + BitVec.ofNat 32 p = BitVec.ofNat 32 (b + p) := by rw [BitVec.ofNat_add]
  unfold stp nstp
  rw [e]
  by_cases h : b + p ≤ N
  · rw [if_pos h, if_pos ((hN _ (by omega) h2).mpr h)]
  · rw [if_neg h, if_neg (fun q => h ((hN _ (by omega) h2).mp q))]

theorem srch_eq {t : EReal} {N : ℕ} (hN : ∀ g : ℕ, 1 ≤ g → g ≤ 255 → (pat (BitVec.ofNat 32 g) ≤ t ↔ g ≤ N)) (hN' : N ≤ 255) :
    srch t = BitVec.ofNat 32 N := by
  have l0 : nstp N 0 128 ≤ 128 := nstp_le (q := 0) le_rfl
  have l1 := nstp_le (N := N) (p := 64) l0
  have l2 := nstp_le (N := N) (p := 32) l1
  have l3 := nstp_le (N := N) (p := 16) l2
  have l4 := nstp_le (N := N) (p := 8) l3
  have l5 := nstp_le (N := N) (p := 4) l4
  have l6 := nstp_le (N := N) (p := 2) l5
  unfold srch
  rw [show stp t 0#32 128#32 = _ from stp_eq hN 0 128 (by omega) (by omega)]
  rw [stp_eq hN _ 64 (by omega) (by omega), stp_eq hN _ 32 (by omega) (by omega), stp_eq hN _ 16 (by omega) (by omega),
    stp_eq hN _ 8 (by omega) (by omega), stp_eq hN _ 4 (by omega) (by omega), stp_eq hN _ 2 (by omega) (by omega),
    stp_eq hN _ 1 (by omega) (by omega)]
  exact congrArg _ (nsrch ⟨N, by omega⟩)

/-! ## The reference's exponent -/

/-- The logarithm of two, as the reference's quotient takes it. -/
def ln2 : EReal := ((Real.log 2 : ℝ) : EReal)
/-- The exponent as the reference computes it. -/
def expo (t : EReal) : EReal :=
  if t < Ideal.ofBits .f32 0x00800000#32 ∨ t = Ideal.ofBits .f32 0x7F800000#32 then 0
  else Ideal.liftRound Int.floor (Ideal.div (Ideal.log t) ln2) + 1

/-- The scales that the quantiser may meet: from zero below `2 ^ 121`, and infinity. -/
def Ok (t : EReal) : Prop := (∃ r : ℝ, t = (r : EReal) ∧ 0 ≤ r ∧ r < 2 ^ (121:ℤ)) ∨ t = ⊤

theorem min_normal : Ideal.ofBits .f32 0x00800000#32 = (((2:ℝ) ^ (-126:ℤ) : ℝ) : EReal) := by
  have := pat_real 1 (by omega) (by omega)
  rw [show ((1:ℕ):ℤ) - 127 = -126 by norm_num] at this
  exact this
theorem inf_eq : Ideal.ofBits .f32 0x7F800000#32 = ⊤ := pat_top

/-- The whole part of the logarithm to base two. -/
def lg (r : ℝ) : ℤ := ⌊Real.log r / Real.log 2⌋
theorem le_lg {r : ℝ} (hr : 0 < r) (g : ℤ) : (2:ℝ) ^ g ≤ r ↔ g ≤ lg r := by
  have l2 : 0 < Real.log 2 := Real.log_pos (by norm_num)
  unfold lg
  rw [Int.le_floor, le_div_iff₀ l2, ← Real.log_zpow, Real.log_le_log_iff (by positivity) hr]

/-- The exponent is one whole number `z` on both sides. -/
theorem both (t : EReal) (ht : Ok t) : ∃ z : ℤ, -125 ≤ z ∧ z ≤ 121 ∧ expo t = ((z:ℝ) : EReal) ∧ fld (srch t) = BitVec.ofNat 32 (z + 126).toNat := by
  rcases ht with ⟨r, rfl, h0, h1⟩ | rfl
  · by_cases hs : r < 2 ^ (-126:ℤ)
    · refine ⟨0, by omega, by omega, ?_, ?_⟩
      · unfold expo
        rw [min_normal, if_pos (Or.inl (EReal.coe_lt_coe_iff.mpr hs))]; norm_num
      · rw [srch_eq (N := 0) ?_ (by omega)]
        · rfl
        · intro g g1 g2
          refine iff_of_false ?_ (by omega)
          rw [not_le]
          by_cases g3 : g = 255
          · subst g3; rw [show pat (BitVec.ofNat 32 255) = ⊤ from pat_top]; exact EReal.coe_lt_top _
          · rw [pat_real g g1 (by omega)]
            refine EReal.coe_lt_coe_iff.mpr (hs.trans_le ?_)
            exact zpow_le_zpow_right₀ (by norm_num) (by omega)
    · rw [not_lt] at hs
      have hr : 0 < r := lt_of_lt_of_le (by positivity) hs
      have a1 : -126 ≤ lg r := (le_lg hr _).mp hs
      have a2 : lg r < 121 := lt_of_not_ge fun h => absurd h1 (not_lt.mpr ((le_lg hr _).mpr h))
      refine ⟨lg r + 1, by omega, by omega, ?_, ?_⟩
      · unfold expo
        rw [min_normal, inf_eq, if_neg (by rw [not_or]; exact ⟨not_lt.mpr (EReal.coe_le_coe_iff.mpr hs), EReal.coe_ne_top r⟩)]
        have l2 : Real.log 2 ≠ 0 := (Real.log_pos (by norm_num)).ne'
        have q : Ideal.div (Ideal.log (r : EReal)) ln2 = ((Real.log r / Real.log 2 : ℝ) : EReal) := by
          rw [Ideal.log_coe, if_neg (not_le.mpr hr)]
          unfold Ideal.div ln2
          rw [if_neg (by exact_mod_cast l2), ← EReal.coe_inv, ← EReal.coe_mul]; rfl
        rw [q]
        show (((lg r : ℤ) : ℝ) : EReal) + 1 = _
        push_cast
        rfl
      · rw [srch_eq (N := (lg r + 127).toNat) ?_ (by omega)]
        · have e : (lg r + 1 + 126).toNat = (lg r + 127).toNat := by congr 1; omega
          rw [e]
          unfold fld
          rw [if_neg]
          have b1 : 1 ≤ (lg r + 127).toNat := by omega
          have b2 : (lg r + 127).toNat ≤ 247 := by omega
          generalize (lg r + 127).toNat = n at b1 b2
          rw [not_or]
          constructor
          · intro h; have := congrArg BitVec.toNat h; simp at this; omega
          · intro h; have := congrArg BitVec.toNat h; simp at this; omega
        · intro g g1 g2
          by_cases g3 : g = 255
          · subst g3; rw [show pat (BitVec.ofNat 32 255) = ⊤ from pat_top]
            exact iff_of_false (by rw [top_le_iff]; exact EReal.coe_ne_top r) (by omega)
          · rw [pat_real g g1 (by omega), EReal.coe_le_coe_iff]
            rw [le_lg hr]
            omega
  · refine ⟨0, by omega, by omega, ?_, ?_⟩
    · unfold expo
      rw [inf_eq, if_pos (Or.inr rfl)]; norm_num
    · rw [srch_eq (N := 255) (fun g g1 g2 => iff_of_true le_top g2) (by omega)]
      rfl

/-! ## What both sides make of the exponent -/

theorem exp2_int (z : ℤ) : Ideal.exp2 ((z:ℝ) : EReal) = (((2:ℝ) ^ z : ℝ) : EReal) := by
  rw [Ideal.exp2_coe]; congr 1; exact Real.rpow_intCast 2 z

theorem inv_eq (t : EReal) (ht : Ok t) : pat (253#32 - fld (srch t)) = Ideal.exp2 (0 - expo t) := by
  obtain ⟨z, h1, h2, h3, h4⟩ := both t ht
  have e : 253#32 - fld (srch t) = BitVec.ofNat 32 (127 - z).toNat := by
    rw [h4]; apply BitVec.eq_of_toNat_eq
    rw [BitVec.toNat_sub]; simp; omega
  rw [e, pat_real _ (by omega) (by omega), h3, zero_sub, ← EReal.coe_neg, ← Int.cast_neg, exp2_int]
  congr 2; omega
theorem scale_eq (t : EReal) (ht : Ok t) : pat (fld (srch t) + 1#32) = Ideal.exp2 (expo t) := by
  obtain ⟨z, h1, h2, h3, h4⟩ := both t ht
  have e : fld (srch t) + 1#32 = BitVec.ofNat 32 (z + 127).toNat := by
    rw [h4]; apply BitVec.eq_of_toNat_eq
    rw [BitVec.toNat_add]; simp; omega
  rw [e, pat_real _ (by omega) (by omega), h3, exp2_int]
  congr 2; omega
theorem code_eq (t : EReal) (ht : Ok t) : fld (srch t) + 1#32 = Ideal.fptosi 32 (expo t) + 127#32 := by
  obtain ⟨z, h1, h2, h3, h4⟩ := both t ht
  have e : fld (srch t) + 1#32 = BitVec.ofInt 32 (z + 127) := by
    rw [h4]
    obtain ⟨n, hn⟩ : ∃ n : ℕ, z + 126 = n := ⟨(z + 126).toNat, by omega⟩
    rw [show z + 127 = ((n + 1 : ℕ) : ℤ) by push_cast; omega, hn, BitVec.ofInt_natCast, Int.toNat_natCast, BitVec.ofNat_add]
  rw [e, h3]
  have f : Ideal.fptosi 32 ((z:ℝ) : EReal) = BitVec.ofInt 32 z := by
    unfold Ideal.fptosi
    congr 1
    show max _ (min _ (if 0 ≤ ((z:ℤ):ℝ) then ⌊((z:ℤ):ℝ)⌋ else ⌈((z:ℤ):ℝ)⌉)) = z
    rw [Int.floor_intCast, Int.ceil_intCast, ite_self]
    norm_num
    omega
  rw [f, BitVec.ofInt_add]; rfl
theorem scale_real (t : EReal) (ht : Ok t) : ∃ r : ℝ, Ideal.exp2 (expo t) = (r : EReal) := by
  obtain ⟨z, h1, h2, h3, h4⟩ := both t ht
  exact ⟨_, by rw [h3, exp2_int]⟩

/-! ## A block of 32 values -/

/-- The largest magnitude of a block over 448: the scale that the exponent is taken of. -/
def sc (w : Fin 32 → EReal) : EReal :=
  Finset.univ.fold max (Ideal.ofBits .f32 0xFF800000#32) (fun k => max (w k) (-(w k))) * Ideal.ofBits .f32 0x3B124925#32
/-- A value held to the range of the codes. -/
def cl (y : EReal) : EReal := min (Ideal.ofBits .f32 0x43E00000#32) (max (Ideal.ofBits .f32 0xC3E00000#32) y)
/-- What the precondition says of a value. -/
def In (x : EReal) : Prop := max x (-x) ≤ Ideal.ofBits .bf16 0x7F7F#16 ∨ max x (-x) = ⊤

theorem bot_eq : Ideal.ofBits .f32 0xFF800000#32 = ⊥ := by simp [Ideal.ofBits, Ideal.ieee]
theorem bf16_max : ∃ r : ℝ, Ideal.ofBits .bf16 0x7F7F#16 = (r : EReal) ∧ r < 2 ^ (128:ℤ) := by
  refine ⟨255 * 2 ^ (120:ℤ), ?_, ?_⟩
  · simp [Ideal.ofBits, Ideal.ieee]
  · rw [show (128:ℤ) = 8 + 120 by norm_num, zpow_add₀ two_ne_zero]
    exact mul_lt_mul_of_pos_right (by norm_num) (by positivity)
theorem seventh : ∃ r : ℝ, Ideal.ofBits .f32 0x3B124925#32 = (r : EReal) ∧ 0 < r ∧ r < 2 ^ (-8:ℤ) := by
  refine ⟨9586981 * 2 ^ (-32:ℤ), ?_, by positivity, ?_⟩
  · simp [Ideal.ofBits, Ideal.ieee]
  · norm_num
theorem c448 : Ideal.ofBits .f32 0x43E00000#32 = ((448 : ℝ) : EReal) := by
  simp [Ideal.ofBits, Ideal.ieee]; norm_num; rw [← EReal.coe_mul]; norm_num
theorem cm448 : Ideal.ofBits .f32 0xC3E00000#32 = ((-448 : ℝ) : EReal) := by
  simp [Ideal.ofBits, Ideal.ieee]; norm_num; rw [← EReal.coe_mul]; norm_num

theorem cl_real (y : EReal) : ∃ r : ℝ, cl y = (r : EReal) := by
  unfold cl; rw [c448, cm448]
  have h1 : min ((448:ℝ) : EReal) (max ((-448:ℝ) : EReal) y) ≠ ⊤ := ne_top_of_le_ne_top (EReal.coe_ne_top 448) (min_le_left _ _)
  have h2 : min ((448:ℝ) : EReal) (max ((-448:ℝ) : EReal) y) ≠ ⊥ := by
    refine ne_of_gt (lt_min (EReal.bot_lt_coe _) (lt_max_of_lt_left (EReal.bot_lt_coe _)))
  exact ⟨_, (EReal.coe_toReal h1 h2).symm⟩

theorem mag_nonneg (x : EReal) : 0 ≤ max x (-x) := by
  rcases le_total 0 x with h | h
  · exact le_max_of_le_left h
  · exact le_max_of_le_right (EReal.neg_nonneg.mpr h)

theorem ok_sc (w : Fin 32 → EReal) (h : ∀ k, In (w k)) : Ok (sc w) := by
  unfold sc
  obtain ⟨c, hc, c0, c1⟩ := seventh
  obtain ⟨b, hb, b1⟩ := bf16_max
  rw [hc, bot_eq]
  generalize hA : Finset.univ.fold max (⊥ : EReal) (fun k => max (w k) (-(w k))) = A
  have hA0 : 0 ≤ A := by
    rw [← hA]; exact (Finset.le_fold_max _).mpr (Or.inr ⟨0, Finset.mem_univ _, mag_nonneg _⟩)
  by_cases hT : A = ⊤
  · right; rw [hT]; exact EReal.top_mul_coe_of_pos c0
  · have hle : A ≤ (b : EReal) := by
      rw [← hA]
      refine (Finset.fold_max_le _).mpr ⟨bot_le, fun k _ => ?_⟩
      rcases h k with h | h
      · rwa [hb] at h
      · exact absurd (top_le_iff.mp (by rw [← hA, ← h]; exact (Finset.le_fold_max _).mpr (Or.inr ⟨k, Finset.mem_univ _, le_rfl⟩))) hT
    left
    lift A to ℝ using ⟨hT, (lt_of_lt_of_le EReal.bot_lt_zero hA0).ne'⟩
    have a0 : 0 ≤ A := by exact_mod_cast hA0
    have a1 : A ≤ b := by exact_mod_cast hle
    refine ⟨A * c, by rw [EReal.coe_mul], by positivity, ?_⟩
    calc A * c ≤ 2 ^ (128:ℤ) * c := by gcongr; linarith
      _ < 2 ^ (128:ℤ) * 2 ^ (-8:ℤ) := by gcongr
      _ ≤ 2 ^ (121:ℤ) := by rw [← zpow_add₀ two_ne_zero]; exact zpow_le_zpow_right₀ (by norm_num) (by norm_num)

/-- The code of `x` in a block of scale `t`. -/
def code (t x : EReal) : EReal := cl (x * pat (253#32 - fld (srch t)))
/-- The dequantised value of `x` in a block of scale `t`. -/
def deq (t x : EReal) : EReal := code t x * pat (fld (srch t) + 1#32)
/-- The stored exponent of a block of scale `t`. -/
def stored (t : EReal) : BitVec 32 := fld (srch t) + 1#32

theorem code_ref (t x : EReal) (ht : Ok t) : code t x = cl (x * Ideal.exp2 (0 - expo t)) := by unfold code; rw [inv_eq t ht]
theorem deq_ref (t x : EReal) (ht : Ok t) : deq t x = code t x * Ideal.exp2 (expo t) := by unfold deq; rw [scale_eq t ht]
theorem deq_real (t x : EReal) (ht : Ok t) : ∃ r : ℝ, deq t x = (r : EReal) := by
  obtain ⟨a, ha⟩ := cl_real (x * pat (253#32 - fld (srch t)))
  obtain ⟨b, hb⟩ := scale_real t ht
  exact ⟨a * b, by rw [deq_ref t x ht, hb]; unfold code; rw [ha, EReal.coe_mul]⟩

end Cert.Quant

end
-- ==== Proof.KVal.lean ====
/- The kernel's values on one point, each read at an index: the quantiser of the queries, of the keys and of the values. -/
module

public import proofs.«01_k».proof.Proof.KRes
public import proofs.«01_k».proof.Proof.Quant
public import Idealize.ShloMosaic.Lib.Pointwise

@[expose] public section

set_option maxRecDepth 16384
set_option maxHeartbeats 1600000

noncomputable section

namespace Cert.KernelIdeal.Own

open Idealize.ShloMosaic Idealize.ShloMosaic.TcCoe Idealize.ShloMosaic.Tactic
open Cert.KernelIdeal.Gen
open Cert.Quant

/-! ## One step of the search, as the kernel writes it -/

def stp' (t : Ideal .f32) (b p : BitVec 32) : BitVec 32 :=
  Scalar.select (FloatOps.cmpf .oge t (FloatOps.ofBits .f32 (IntOp.shli .vector (IntOp.addi b p) 23#32))) (IntOp.addi b p) b
def srch' (t : Ideal .f32) : BitVec 32 :=
  stp' t (stp' t (stp' t (stp' t (stp' t (stp' t (stp' t (stp' t 0#32 128#32) 64#32) 32#32) 16#32) 8#32) 4#32) 2#32) 1#32
def fld' (b : BitVec 32) : BitVec 32 := Scalar.select (IntOp.ori (IntOp.cmpi .eq b 0#32) (IntOp.cmpi .eq b 255#32)) 126#32 b

theorem shl23 (b : BitVec 32) : IntOp.shli .vector b 23#32 = b <<< 23 := rfl
theorem stp'_eq (t : Ideal .f32) (b p : BitVec 32) : stp' t b p = stp t b p := by
  unfold stp' stp
  show (if BitVec.ofBool (decide (pat (b + p) ≤ t)) = 1#1 then b + p else b) = _
  by_cases h : pat (b + p) ≤ t <;> simp [h]
theorem srch'_eq (t : Ideal .f32) : srch' t = srch t := by
  unfold srch' srch; simp only [stp'_eq]
theorem fld'_eq (b : BitVec 32) : fld' b = fld b := by
  unfold fld' fld
  show (if (BitVec.ofBool (b == 0#32) ||| BitVec.ofBool (b == 255#32)) = 1#1 then 126#32 else b) = _
  by_cases h : b = 0#32
  · simp [h]
  · by_cases h' : b = 255#32
    · simp [h']
    · have e : (b == 0#32) = false := by simpa using h
      have e' : (b == 255#32) = false := by simpa using h'
      simp [h, h', e, e']

/-! ## Queries -/

theorem fq_at (v : Vec Ideal S1x512x128 .bf16) (i : S4x1x512.Idx) : fq v i = srch (k0_pay3 v i) := by
  rw [← srch'_eq]; rfl
theorem f9_at (v : Vec Ideal S1x512x128 .bf16) (i : S4x1x512.Idx) : k0_pay9 (fq v) (fz v) i = fld (srch (k0_pay3 v i)) := by
  rw [← fq_at, ← fld'_eq]; rfl

/-- The block of 32 columns of a row. -/
def bq (v : Vec Ideal S1x512x128 .bf16) (g : Fin 4) (s : Fin 512) : Fin 32 → EReal := fun k => v (ix3 0 s ⟨32 * g.val + k.val, by omega⟩)

theorem p3_at (v : Vec Ideal S1x512x128 .bf16) (g : Fin 4) (s : Fin 512) : k0_pay3 v (ix3 g 0 s) = sc (bq v g s) := by
  pointwise [k0_pay3, k0_pay2]
  unfold sc bq
  simp only [Nat.mul_comm 32]
  rfl
theorem qc_at (v : Vec Ideal S1x512x128 .bf16) (r : Fin 128) (s : Fin 512) :
    qc v (ix2 r s) = code (sc (bq v ⟨r.val / 32, by omega⟩ s)) (v (ix3 0 s r)) := by
  pointwise [qc, k0_pay11, k0_pay10, k0_pay2]
  rw [f9_at, p3_at]
  rfl
theorem qd_at (v : Vec Ideal S1x512x128 .bf16) (r : Fin 128) (s : Fin 512) :
    qd v (ix2 r s) = deq (sc (bq v ⟨r.val / 32, by omega⟩ s)) (v (ix3 0 s r)) := by
  pointwise [qd, k0_pay12, k0_pay10, k0_pay2]
  rw [f9_at, p3_at]
  rfl
theorem qe_at (v : Vec Ideal S1x512x128 .bf16) (g : Fin 4) (s : Fin 512) : qe v (ix2 g s) = stored (sc (bq v g s)) := by
  pointwise [qe, k0_pay13]
  rw [f9_at, p3_at]
  rfl

/-! ## Keys: the same quantiser -/

theorem kcd_eq (v : Vec Ideal S1x512x128 .bf16) : kcd v = k0_pay10 (k0_pay2 v) (fq v) (fz v) := rfl
theorem kf_eq (v : Vec Ideal S1x512x128 .bf16) : kf v = k0_pay9 (fq v) (fz v) := rfl

theorem kc_at (v : Vec Ideal S1x512x128 .bf16) (r : Fin 128) (s : Fin 512) :
    k0_pay33 (kcd v) (ix2 r s) = code (sc (bq v ⟨r.val / 32, by omega⟩ s)) (v (ix3 0 s r)) := qc_at v r s
theorem kd_at (v : Vec Ideal S1x512x128 .bf16) (r : Fin 128) (s : Fin 512) :
    k0_pay34 (kcd v) (ksc v) (ix2 r s) = deq (sc (bq v ⟨r.val / 32, by omega⟩ s)) (v (ix3 0 s r)) := qd_at v r s
theorem ke_at (v : Vec Ideal S1x512x128 .bf16) (g : Fin 4) (s : Fin 512) : k0_pay35 (kf v) (ix2 g s) = stored (sc (bq v g s)) := qe_at v g s

/-! ## Values: blocks of 32 rows -/

theorem fv_at (v : Vec Ideal S1x512x128 .bf16) (i : S16x1x128.Idx) : k0_pay50 (k0_pay44 v) (vf v) (vz v) i = fld (srch (k0_pay44 v i)) := by
  rw [← srch'_eq, ← fld'_eq]; rfl

/-- The block of 32 rows of a column. -/
def bv (v : Vec Ideal S1x512x128 .bf16) (b : Fin 16) (d : Fin 128) : Fin 32 → EReal := fun k => v (ix3 0 ⟨32 * b.val + k.val, by omega⟩ d)

theorem p44_at (v : Vec Ideal S1x512x128 .bf16) (b : Fin 16) (d : Fin 128) : k0_pay44 v (ix3 b 0 d) = sc (bv v b d) := by
  pointwise [k0_pay44, k0_pay43]
  unfold sc bv
  simp only [Nat.mul_comm 32]
  rfl
theorem vc_at (v : Vec Ideal S1x512x128 .bf16) (d : Fin 128) (s : Fin 512) :
    k0_pay53 (k0_pay43 v) (k0_pay44 v) (vf v) (vz v) (ix2 d s) = code (sc (bv v ⟨s.val / 32, by omega⟩ d)) (v (ix3 0 s d)) := by
  pointwise [k0_pay53, k0_pay51, k0_pay43]
  rw [fv_at, p44_at]
  rfl
theorem vd_at (v : Vec Ideal S1x512x128 .bf16) (d : Fin 128) (s : Fin 512) :
    k0_pay52 (k0_pay43 v) (k0_pay44 v) (vf v) (vz v) (ix2 d s) = deq (sc (bv v ⟨s.val / 32, by omega⟩ d)) (v (ix3 0 s d)) := by
  pointwise [k0_pay52, k0_pay51, k0_pay43]
  rw [fv_at, p44_at]
  rfl
theorem ve_at (v : Vec Ideal S1x512x128 .bf16) (b : Fin 16) (d : Fin 128) :
    k0_pay54 (k0_pay44 v) (vf v) (vz v) (ix2 b d) = stored (sc (bv v b d)) := by
  pointwise [k0_pay54]
  rw [fv_at, p44_at]
  rfl

end Cert.KernelIdeal.Own

end
-- ==== Proof.Attn.lean ====
/- The scalar mathematics of the attention of one query row: the kernel's base-two softmax, its gain folded into the keys and its
   result scaled by 256, is the reference's natural softmax. -/
module

public import Idealize.ShloMosaic.PureOps.Ideal
public import Idealize.ShloMosaic.PureOps.Ideal.Laws

@[expose] public section

set_option maxRecDepth 16384

noncomputable section

namespace Cert.Attn

open Idealize.ShloMosaic

/-! ## Literals -/

theorem bot_eq : Ideal.ofBits .f32 0xFF800000#32 = ⊥ := by simp [Ideal.ofBits, Ideal.ieee]
theorem c0 : Ideal.ofBits .f32 0x00000000#32 = ((0 : ℝ) : EReal) := by simp [Ideal.ofBits, Ideal.ieee]
theorem c8 : Ideal.ofBits .f32 0x41000000#32 = ((8 : ℝ) : EReal) := by
  simp [Ideal.ofBits, Ideal.ieee]; norm_num; rw [← EReal.coe_mul]; norm_num
theorem c448 : Ideal.ofBits .f32 0x43E00000#32 = ((448 : ℝ) : EReal) := by
  simp [Ideal.ofBits, Ideal.ieee]; norm_num; rw [← EReal.coe_mul]; norm_num
theorem c256 : Ideal.ofBits .f32 0x43800000#32 = ((256 : ℝ) : EReal) := by
  simp [Ideal.ofBits, Ideal.ieee]; norm_num; rw [← EReal.coe_mul]; norm_num
theorem eighth : Ideal.ofBits .f32 0x3E000000#32 = ((1 / 8 : ℝ) : EReal) := by
  simp [Ideal.ofBits, Ideal.ieee]; norm_num; rw [← EReal.coe_mul]; norm_num
theorem c2m8 : Ideal.ofBits .f32 0x3B800000#32 = ((1 / 256 : ℝ) : EReal) := by
  simp [Ideal.ofBits, Ideal.ieee]; norm_num; rw [← EReal.coe_mul]; norm_num

/-! ## The two softmaxes -/

/-- The greatest score. -/
def mx (s : Fin 512 → EReal) : EReal := Finset.fold max (Ideal.ofBits .f32 0xFF800000#32) s Finset.univ
/-- The kernel's weight of key `i`. -/
def wK (s : Fin 512 → EReal) (i : Fin 512) : EReal := Ideal.exp2 (s i - (mx s - Ideal.ofBits .f32 0x41000000#32))
/-- The kernel's result at one element: scores `s`, values `v`. -/
def attK (s v : Fin 512 → EReal) : EReal :=
  Ideal.div (∑ i, v i * min (Ideal.ofBits .f32 0x43E00000#32) (max (Ideal.ofBits .f32 0x00000000#32) (wK s i))) (∑ i, wK s i)
/-- The reference's weight of key `i`. -/
def wR (s : Fin 512 → EReal) (i : Fin 512) : EReal := Ideal.exp (s i - mx s)
/-- The reference's result at one element. -/
def attR (s v : Fin 512 → EReal) : EReal :=
  Ideal.div ((∑ i, v i * min (Ideal.ofBits .f32 0x43E00000#32) (max (Ideal.ofBits .f32 0x00000000#32)
    (wR s i * Ideal.ofBits .f32 0x43800000#32))) * Ideal.ofBits .f32 0x3B800000#32) (∑ i, wR s i)

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem sum_coe {ι : Type} (A : Finset ι) (f : ι → ℝ) : ∑ i ∈ A, ((f i : ℝ) : EReal) = ((∑ i ∈ A, f i : ℝ) : EReal) := by
  classical
  induction A using Finset.induction_on with
  | empty => simp
  | insert a A ha ih => rw [Finset.sum_insert ha, Finset.sum_insert ha, ih, EReal.coe_add]

theorem mx_eq (s : Fin 512 → EReal) (i0 : Fin 512) (h : ∀ i, s i ≤ s i0) : mx s = s i0 := by
  unfold mx
  rw [bot_eq]
  apply le_antisymm
  · rw [Finset.fold_max_le]; exact ⟨bot_le, fun i _ => h i⟩
  · rw [Finset.le_fold_max]; exact .inr ⟨i0, Finset.mem_univ _, le_rfl⟩

theorem exists_max (S : Fin 512 → ℝ) : ∃ i0, ∀ i, S i ≤ S i0 := by
  obtain ⟨i0, -, h⟩ := Finset.exists_max_image Finset.univ S ⟨0, Finset.mem_univ _⟩
  exact ⟨i0, fun i => h i (Finset.mem_univ _)⟩

/-- The kernel's gain. -/
def gain : ℝ := (Real.sqrt 64)⁻¹ * (Real.log 2)⁻¹
theorem gain_eq : gain * Real.log 2 = 1 / 8 := by
  have h : Real.sqrt 64 = 8 := by
    rw [show (64:ℝ) = 8 ^ 2 by norm_num]; exact Real.sqrt_sq (by norm_num)
  have l : Real.log 2 ≠ 0 := ne_of_gt (Real.log_pos (by norm_num))
  unfold gain; rw [h, mul_assoc, inv_mul_cancel₀ l]; norm_num
theorem gain_pos : 0 < gain := by
  unfold gain
  exact mul_pos (inv_pos.2 (Real.sqrt_pos.2 (by norm_num))) (inv_pos.2 (Real.log_pos (by norm_num)))

theorem att_real (S V : Fin 512 → ℝ) :
    attK (fun i => ((S i * gain : ℝ) : EReal)) (fun i => (V i : EReal)) = attR (fun i => ((S i * (1 / 8) : ℝ) : EReal)) (fun i => (V i : EReal)) := by
  obtain ⟨i0, h⟩ := exists_max S
  have hK : mx (fun i => ((S i * gain : ℝ) : EReal)) = ((S i0 * gain : ℝ) : EReal) :=
    mx_eq _ i0 fun i => EReal.coe_le_coe_iff.2 (mul_le_mul_of_nonneg_right (h i) gain_pos.le)
  have hR : mx (fun i => ((S i * (1 / 8) : ℝ) : EReal)) = ((S i0 * (1 / 8) : ℝ) : EReal) :=
    mx_eq _ i0 fun i => EReal.coe_le_coe_iff.2 (mul_le_mul_of_nonneg_right (h i) (by norm_num))
  have eR : ∀ i, wR (fun i => ((S i * (1 / 8) : ℝ) : EReal)) i = ((Real.exp ((S i - S i0) / 8) : ℝ) : EReal) := by
    intro i
    unfold wR
    rw [hR, ← EReal.coe_sub, Ideal.exp_coe, EReal.coe_eq_coe_iff]
    congr 1; ring
  have eK : ∀ i, wK (fun i => ((S i * gain : ℝ) : EReal)) i = ((Real.exp ((S i - S i0) / 8) * 256 : ℝ) : EReal) := by
    intro i
    unfold wK
    rw [hK, c8, ← EReal.coe_sub, ← EReal.coe_sub, Ideal.exp2_coe, EReal.coe_eq_coe_iff]
    have e : S i * gain - (S i0 * gain - 8) = (S i - S i0) * gain + 8 := by ring
    show (2:ℝ) ^ (S i * gain - (S i0 * gain - 8)) = _
    rw [e, Real.rpow_add (by norm_num), Real.rpow_def_of_pos (by norm_num), show Real.log 2 * ((S i - S i0) * gain) = (S i - S i0) * (gain * Real.log 2) by ring,
      gain_eq]
    have e8 : (2:ℝ) ^ (8:ℝ) = 256 := by
      rw [show (8:ℝ) = ((8:ℕ):ℝ) by norm_num, Real.rpow_natCast]; norm_num
    rw [e8]
    congr 2; ring
  unfold attK attR
  simp only [eK, eR, c448, c0, c256, c2m8, ← EReal.coe_mul, coe_max, coe_min, sum_coe]
  have hD : 0 < ∑ i, Real.exp ((S i - S i0) / 8) := Finset.sum_pos (fun i _ => Real.exp_pos _) ⟨0, Finset.mem_univ _⟩
  rw [← Finset.sum_mul]
  generalize (∑ i, Real.exp ((S i - S i0) / 8)) = D at hD
  generalize (∑ i, V i * _) = N
  have d1 : (((D * 256 : ℝ)) : EReal) ≠ 0 := by
    rw [← EReal.coe_zero, Ne, EReal.coe_eq_coe_iff]; positivity
  have d2 : ((D : ℝ) : EReal) ≠ 0 := by
    rw [← EReal.coe_zero, Ne, EReal.coe_eq_coe_iff]; positivity
  unfold Ideal.div
  rw [if_neg d1, if_neg d2, ← EReal.coe_inv, ← EReal.coe_inv, ← EReal.coe_mul, ← EReal.coe_mul, EReal.coe_eq_coe_iff]
  field_simp

/-- The two results agree where keys, queries and values are real numbers. -/
theorem att_eq (k : Fin 512 → Fin 64 → EReal) (q : Fin 64 → EReal) (v : Fin 512 → EReal)
    (hk : ∀ i x, ∃ r : ℝ, k i x = r) (hq : ∀ x, ∃ r : ℝ, q x = r) (hv : ∀ i, ∃ r : ℝ, v i = r) :
    attK (fun i => ∑ x, k i x * (gain : EReal) * q x) v = attR (fun i => (∑ x, k i x * q x) * Ideal.ofBits .f32 0x3E000000#32) v := by
  choose K hK using hk
  choose Q hQ using hq
  choose V hV using hv
  obtain rfl : v = fun i => (V i : EReal) := funext hV
  have e1 : (fun i => ∑ x, k i x * (gain : EReal) * q x) = fun i => (((∑ x, K i x * Q x) * gain : ℝ) : EReal) := by
    funext i
    simp only [hK, hQ, ← EReal.coe_mul, sum_coe]
    rw [EReal.coe_eq_coe_iff, Finset.sum_mul]
    exact Finset.sum_congr rfl fun x _ => by ring
  have e2 : (fun i => (∑ x, k i x * q x) * Ideal.ofBits .f32 0x3E000000#32) = fun i => (((∑ x, K i x * Q x) * (1 / 8) : ℝ) : EReal) := by
    funext i
    simp only [hK, hQ, ← EReal.coe_mul, sum_coe, eighth]
  rw [e1, e2]
  exact att_real _ _

/-- A row of 256 products, of which all after the 64th vanish. -/
theorem sum64 (f : Fin 256 → EReal) (h : ∀ x : Fin 256, 64 ≤ x.val → f x = 0) : ∑ x, f x = ∑ x : Fin 64, f ⟨x.val, by omega⟩ := by
  have e := Fin.sum_univ_add (a := 64) (b := 192) f
  refine e.trans ?_
  rw [Finset.sum_eq_zero (s := Finset.univ) (f := fun i : Fin 192 => f (Fin.natAdd 64 i))
    (fun i _ => h _ (by show 64 ≤ 64 + i.val; omega)), add_zero]
  rfl

end Cert.Attn

end
-- ==== Proof.KAttn.lean ====
/- The kernel's attention of two heads, read at an index. -/
module

public import proofs.«01_k».proof.Proof.KVal
public import proofs.«01_k».proof.Proof.Attn

@[expose] public section

set_option maxRecDepth 16384
set_option maxHeartbeats 1600000

noncomputable section

namespace Cert.KernelIdeal.Own

open Idealize.ShloMosaic Idealize.ShloMosaic.TcCoe Idealize.ShloMosaic.Tactic
open Cert.KernelIdeal Cert.KernelIdeal.Gen
open Cert.Quant Cert.Attn

/-! ## The steps by themselves -/

/-- The queries of a head, four times below one another. -/
def rep4 (q : FVec Ideal S64x256 .bf16) : FVec Ideal S256x256 .bf16 :=
  concatenate S256x256 0 [⟨S64x256, q⟩, ⟨S64x256, q⟩, ⟨S64x256, q⟩, ⟨S64x256, q⟩] concatenates_S64x256_S64x256_S64x256_S64x256_S256x256_d0
/-- The scores. -/
def mmS (K : FVec Ideal S1x512x256 .bf16) (q : FVec Ideal S256x256 .bf16) : FVec Ideal S512x256 .f32 :=
  matmul dot_S512x256_S256x256_S512x256_1_0_0_1_n_n none (shapeCast S512x256 K shapeCasts_S1x512x256_S512x256) q (constant S512x256 .f32 0x00000000#32)
/-- The greatest score of every query. -/
def mxS (s : FVec Ideal S512x256 .f32) : FVec Ideal S1x256 .f32 :=
  shapeCast S1x256 (multiReduction .maximumf [0] S256 s 0xFF800000#32 reduces_S512x256_S256 (.inl rfl) rfl) shapeCasts_S256_S1x256
/-- The sum over the keys. -/
def smS (s : FVec Ideal S512x256 .f32) : FVec Ideal S1x256 .f32 :=
  shapeCast S1x256 (multiReduction .add [0] S256 s 0x00000000#32 reduces_S512x256_S256 (.inl rfl) rfl) shapeCasts_S256_S1x256
def b512 (x : FVec Ideal S1x256 .f32) : FVec Ideal S512x256 .f32 := broadcastTo S512x256 x broadcasts_S1x256_S512x256
def b64 (x : FVec Ideal S1x256 .f32) : FVec Ideal S64x256 .f32 := broadcastTo S64x256 x broadcasts_S1x256_S64x256
/-- The weighted values. -/
def mmV (W : FVec Ideal S1x64x512 .bf16) (p : FVec Ideal S512x256 .fp8e4m3) : FVec Ideal S64x256 .f32 :=
  matmul dot_S64x512_S512x256_S64x256_1_0_0_1_n_n none (shapeCast S64x512 W shapeCasts_S1x64x512_S64x512) p (constant S64x256 .f32 0x00000000#32)
def sub8 (S : Shape) (x : FVec Ideal S .f32) : FVec Ideal S .f32 := subf x (broadcast S (Scalar.ofBits .f32 0x41000000#32))
def exs (S : Shape) (x y : FVec Ideal S .f32) : FVec Ideal S .f32 := exp2 (subf x y)
def cut (S : Shape) (h : FTy.fp8e4m3.bits < FTy.f32.bits) (p : FVec Ideal S .f32) : FVec Ideal S .fp8e4m3 :=
  truncf .fp8e4m3 (minimumf (broadcast S (Scalar.ofBits .f32 0x43E00000#32)) (maximumf (broadcast S (Scalar.ofBits .f32 0x00000000#32)) p)) h
def dvd (S : Shape) (x y : FVec Ideal S .f32) : FVec Ideal S .f32 := divf x y
def t16 (S : Shape) (h : FTy.bf16.bits < FTy.f32.bits) (x : FVec Ideal S .f32) : FVec Ideal S .bf16 := truncf .bf16 x h
/-- Two halves of the queries, beside one another. -/
def cat1 (x y : FVec Ideal S64x256 .bf16) : FVec Ideal S64x512 .bf16 := concatenate S64x512 1 [⟨S64x256, x⟩, ⟨S64x256, y⟩] concatenates_S64x256_S64x256_S64x512_d1
/-- Two heads, below one another. -/
def cat0 (x y : FVec Ideal S64x512 .bf16) : FVec Ideal S128x512 .bf16 := concatenate S128x512 0 [⟨S64x512, x⟩, ⟨S64x512, y⟩] concatenates_S64x512_S64x512_S128x512_d0
def outT (x : FVec Ideal S128x512 .bf16) : FVec Ideal S1x512x128 .bf16 :=
  shapeCast S1x512x128 (transpose S512x128 [1, 0] x transposes_S128x512_p1_0_S512x128) shapeCasts_S512x128_S1x512x128
def q00 (v : FVec Ideal S128x512 .bf16) : FVec Ideal S64x256 .bf16 := extractStridedSlice S64x256 ![0, 0] v slices_S128x512_o0_0_S64x256
def q01 (v : FVec Ideal S128x512 .bf16) : FVec Ideal S64x256 .bf16 := extractStridedSlice S64x256 ![0, 256] v slices_S128x512_o0_256_S64x256
def q10 (v : FVec Ideal S128x512 .bf16) : FVec Ideal S64x256 .bf16 := extractStridedSlice S64x256 ![64, 0] v slices_S128x512_o64_0_S64x256
def q11 (v : FVec Ideal S128x512 .bf16) : FVec Ideal S64x256 .bf16 := extractStridedSlice S64x256 ![64, 256] v slices_S128x512_o64_256_S64x256

theorem rep4_at (q : FVec Ideal S64x256 .bf16) (x j : Fin 256) : rep4 q (ix2 x j) = q (ix2 ⟨x.val % 64, by omega⟩ j) := by
  pointwise [rep4]
  split_ifs <;> (congr 2; apply Fin.ext; simp only; omega)
theorem mmS_at (K : FVec Ideal S1x512x256 .bf16) (q : FVec Ideal S256x256 .bf16) (i : Fin 512) (j : Fin 256) :
    mmS K q (ix2 i j) = ∑ x : Fin 256, K (ix3 0 i x) * q (ix2 x j) := by
  pointwise [mmS]
theorem mxS_at (s : FVec Ideal S512x256 .f32) (j : Fin 256) : mxS s (ix2 0 j) = mx (fun i => s (ix2 i j)) := by
  pointwise [mxS]
  rfl
theorem smS_at (s : FVec Ideal S512x256 .f32) (j : Fin 256) : smS s (ix2 0 j) = ∑ i : Fin 512, s (ix2 i j) := by
  pointwise [smS]
theorem b512_at (x : FVec Ideal S1x256 .f32) (i : Fin 512) (j : Fin 256) : b512 x (ix2 i j) = x (ix2 0 j) := by
  pointwise [b512]
theorem b64_at (x : FVec Ideal S1x256 .f32) (i : Fin 64) (j : Fin 256) : b64 x (ix2 i j) = x (ix2 0 j) := by
  pointwise [b64]
theorem mmV_at (W : FVec Ideal S1x64x512 .bf16) (p : FVec Ideal S512x256 .fp8e4m3) (d : Fin 64) (j : Fin 256) :
    mmV W p (ix2 d j) = ∑ i : Fin 512, W (ix3 0 d i) * p (ix2 i j) := by
  pointwise [mmV]
theorem sub8_at (S : Shape) (x : FVec Ideal S .f32) (i : S.Idx) : sub8 S x i = x i - Ideal.ofBits .f32 0x41000000#32 := rfl
theorem exs_at (S : Shape) (x y : FVec Ideal S .f32) (i : S.Idx) : exs S x y i = Ideal.exp2 (x i - y i) := rfl
theorem cut_at (S : Shape) (h : FTy.fp8e4m3.bits < FTy.f32.bits) (p : FVec Ideal S .f32) (i : S.Idx) :
    cut S h p i = min (Ideal.ofBits .f32 0x43E00000#32) (max (Ideal.ofBits .f32 0x00000000#32) (p i)) := rfl
theorem dvd_at (S : Shape) (x y : FVec Ideal S .f32) (i : S.Idx) : dvd S x y i = Ideal.div (x i) (y i) := rfl
theorem t16_at (S : Shape) (h : FTy.bf16.bits < FTy.f32.bits) (x : FVec Ideal S .f32) (i : S.Idx) : t16 S h x i = x i := rfl
theorem cat1_at (x y : FVec Ideal S64x256 .bf16) (d : Fin 64) (s : Fin 512) :
    cat1 x y (ix2 d s) = if h : s.val < 256 then x (ix2 d ⟨s.val, h⟩) else y (ix2 d ⟨s.val - 256, by omega⟩) := by
  pointwise [cat1]
theorem cat0_at (x y : FVec Ideal S64x512 .bf16) (r : Fin 128) (s : Fin 512) :
    cat0 x y (ix2 r s) = if h : r.val < 64 then x (ix2 ⟨r.val, h⟩ s) else y (ix2 ⟨r.val - 64, by omega⟩ s) := by
  pointwise [cat0]
theorem outT_at (x : FVec Ideal S128x512 .bf16) (s : Fin 512) (r : Fin 128) : outT x (ix3 0 s r) = x (ix2 r s) := by
  pointwise [outT]
theorem q00_at (v : FVec Ideal S128x512 .bf16) (x : Fin 64) (j : Fin 256) : q00 v (ix2 x j) = v (ix2 ⟨x.val, by omega⟩ ⟨j.val, by omega⟩) := by
  pointwise [q00]
theorem q01_at (v : FVec Ideal S128x512 .bf16) (x : Fin 64) (j : Fin 256) : q01 v (ix2 x j) = v (ix2 ⟨x.val, by omega⟩ ⟨256 + j.val, by omega⟩) := by
  pointwise [q01]
theorem q10_at (v : FVec Ideal S128x512 .bf16) (x : Fin 64) (j : Fin 256) : q10 v (ix2 x j) = v (ix2 ⟨64 + x.val, by omega⟩ ⟨j.val, by omega⟩) := by
  pointwise [q10]
theorem q11_at (v : FVec Ideal S128x512 .bf16) (x : Fin 64) (j : Fin 256) : q11 v (ix2 x j) = v (ix2 ⟨64 + x.val, by omega⟩ ⟨256 + j.val, by omega⟩) := by
  pointwise [q11]

/-! ## One head, half of its queries -/

/-- The weights. -/
def wts (s : FVec Ideal S512x256 .f32) : FVec Ideal S512x256 .f32 := exs _ s (b512 (sub8 _ (mxS s)))
theorem wts_at (s : FVec Ideal S512x256 .f32) (i : Fin 512) (j : Fin 256) : wts s (ix2 i j) = wK (fun i => s (ix2 i j)) i := by
  rw [wts, exs_at, b512_at, sub8_at, mxS_at, wK]
/-- The result. -/
def core (p : FVec Ideal S512x256 .f32) (W : FVec Ideal S1x64x512 .bf16) : FVec Ideal S64x256 .f32 :=
  dvd _ (mmV W (cut _ bitsLt_fp8e4m3_f32 p)) (b64 (smS p))
theorem core_at (p : FVec Ideal S512x256 .f32) (W : FVec Ideal S1x64x512 .bf16) (d : Fin 64) (j : Fin 256) :
    core p W (ix2 d j) = Ideal.div (∑ i : Fin 512, W (ix3 0 d i) * min (Ideal.ofBits .f32 0x43E00000#32) (max (Ideal.ofBits .f32 0x00000000#32) (p (ix2 i j)))) (∑ i : Fin 512, p (ix2 i j)) := by
  rw [core, dvd_at, mmV_at, b64_at, smS_at]
  simp only [cut_at]
/-- One head and half of its queries, from the queries on. -/
def hd (q : FVec Ideal S64x256 .bf16) (K : FVec Ideal S1x512x256 .bf16) (W : FVec Ideal S1x64x512 .bf16) : FVec Ideal S64x256 .f32 :=
  core (wts (mmS K (rep4 q))) W
theorem hd_at (q : FVec Ideal S64x256 .bf16) (K : FVec Ideal S1x512x256 .bf16) (W : FVec Ideal S1x64x512 .bf16) (d : Fin 64) (j : Fin 256) :
    hd q K W (ix2 d j) = attK (fun i => ∑ x : Fin 256, K (ix3 0 i x) * q (ix2 ⟨x.val % 64, by omega⟩ j)) (fun i => W (ix3 0 d i)) := by
  rw [hd, core_at, attK]
  simp only [wts_at, mmS_at, rep4_at]

/-! ## The two heads -/

theorem at2_eq (v : Vec Ideal S1x512x128 .bf16) (K : Vec Ideal S1x512x256 .bf16) (W : Vec Ideal S1x64x512 .bf16) :
    at2 v K W = outT (cat0 (cat1 (t16 _ bitsLt_bf16_f32 (hd (q00 (qd v)) K W)) (t16 _ bitsLt_bf16_f32 (hd (q01 (qd v)) K W)))
      (cat1 (t16 _ bitsLt_bf16_f32 (hd (q10 (qd v)) K W)) (t16 _ bitsLt_bf16_f32 (hd (q11 (qd v)) K W)))) := rfl
theorem at2_at (v : Vec Ideal S1x512x128 .bf16) (K : Vec Ideal S1x512x256 .bf16) (W : Vec Ideal S1x64x512 .bf16) (s : Fin 512) (r : Fin 128) :
    at2 v K W (ix3 0 s r) = attK (fun i => ∑ x : Fin 256, K (ix3 0 i x) * qd v (ix2 ⟨64 * (r.val / 64) + x.val % 64, by omega⟩ s))
      (fun i => W (ix3 0 ⟨r.val % 64, by omega⟩ i)) := by
  rw [at2_eq, outT_at, cat0_at]
  by_cases hr : r.val < 64
  · have er : r.val / 64 = 0 := by omega
    have em : r.val % 64 = r.val := by omega
    rw [dif_pos hr, cat1_at]
    by_cases hs : s.val < 256
    · rw [dif_pos hs, t16_at, hd_at]
      simp only [q00_at, er, em, Nat.mul_zero, Nat.zero_add]
    · have es : 256 + (s.val - 256) = s.val := by omega
      rw [dif_neg hs, t16_at, hd_at]
      simp only [q01_at, er, em, es, Nat.mul_zero, Nat.zero_add]
  · have er : r.val / 64 = 1 := by omega
    have em : r.val % 64 = r.val - 64 := by omega
    rw [dif_neg hr, cat1_at]
    by_cases hs : s.val < 256
    · rw [dif_pos hs, t16_at, hd_at]
      simp only [q10_at, er, em, Nat.mul_one]
    · have es : 256 + (s.val - 256) = s.val := by omega
      rw [dif_neg hs, t16_at, hd_at]
      simp only [q11_at, er, em, es, Nat.mul_one]

/-! ## The key matrices: the gain's product, and then rows that vanish -/

def s0 (x : FVec Ideal S128x512 .bf16) : FVec Ideal S64x512 .bf16 := extractStridedSlice S64x512 ![0, 0] x slices_S128x512_o0_0_S64x512
def s64 (x : FVec Ideal S128x512 .bf16) : FVec Ideal S64x512 .bf16 := extractStridedSlice S64x512 ![64, 0] x slices_S128x512_o64_0_S64x512
/-- The product with the gain. -/
def gn (S : Shape) (h : FTy.bf16.bits < FTy.f32.bits) (x : FVec Ideal S .bf16) : FVec Ideal S .f32 :=
  mulf (extf .f32 x h) (broadcast S (Named.named κ "key_gain" 0x3E38AA3B#32))
/-- What the format leaves of a number. -/
def lo (S : Shape) (h : FTy.bf16.bits < FTy.f32.bits) (x : FVec Ideal S .f32) : FVec Ideal S .f32 := subf x (extf .f32 (truncf .bf16 x h) h)
def nl (S : Shape) : FVec Ideal S .bf16 := broadcast S (Scalar.ofBits .bf16 0x0000#16)
/-- Four blocks of rows, transposed. -/
def kt (a b c d : FVec Ideal S64x512 .bf16) : FVec Ideal S1x512x256 .bf16 :=
  shapeCast S1x512x256 (transpose S512x256 [1, 0] (concatenate S256x512 0 [⟨S64x512, a⟩, ⟨S64x512, b⟩, ⟨S64x512, c⟩, ⟨S64x512, d⟩] concatenates_S64x512_S64x512_S64x512_S64x512_S256x512_d0)
    transposes_S256x512_p1_0_S512x256) shapeCasts_S512x256_S1x512x256
/-- The whole key matrix of one head. -/
def km (x : FVec Ideal S64x512 .bf16) : FVec Ideal S1x512x256 .bf16 :=
  kt (t16 _ bitsLt_bf16_f32 (gn _ bitsLt_bf16_f32 x)) (t16 _ bitsLt_bf16_f32 (lo _ bitsLt_bf16_f32 (gn _ bitsLt_bf16_f32 x)))
    (t16 _ bitsLt_bf16_f32 (lo _ bitsLt_bf16_f32 (lo _ bitsLt_bf16_f32 (gn _ bitsLt_bf16_f32 x)))) (nl _)

theorem s0_at (x : FVec Ideal S128x512 .bf16) (d : Fin 64) (s : Fin 512) : s0 x (ix2 d s) = x (ix2 ⟨d.val, by omega⟩ s) := by
  pointwise [s0]
theorem s64_at (x : FVec Ideal S128x512 .bf16) (d : Fin 64) (s : Fin 512) : s64 x (ix2 d s) = x (ix2 ⟨64 + d.val, by omega⟩ s) := by
  pointwise [s64]
theorem named_gain : (Named.named κ "key_gain" 0x3E38AA3B#32 : Ideal .f32) = (gain : EReal) :=
  IdealRules.named_const.ideal_named_scalar _ _ _ _ rfl
theorem gn_at (S : Shape) (h : FTy.bf16.bits < FTy.f32.bits) (x : FVec Ideal S .bf16) (i : S.Idx) : gn S h x i = x i * (gain : EReal) := by
  rw [← named_gain]; rfl
theorem lo_at (S : Shape) (h : FTy.bf16.bits < FTy.f32.bits) (x : FVec Ideal S .f32) (i : S.Idx) : lo S h x i = x i - x i := rfl
theorem nl_at (S : Shape) (i : S.Idx) : nl S i = 0 := by
  show Ideal.ofBits .bf16 0x0000#16 = 0
  simp [Ideal.ofBits, Ideal.ieee]
theorem kt_at (a b c d : FVec Ideal S64x512 .bf16) (i : Fin 512) (x : Fin 256) :
    kt a b c d (ix3 0 i x) = (if h : x.val < 64 then a (ix2 ⟨x.val, h⟩ i) else if h : x.val - 64 < 64 then b (ix2 ⟨x.val - 64, h⟩ i)
      else if h : x.val - 64 - 64 < 64 then c (ix2 ⟨x.val - 64 - 64, h⟩ i) else d (ix2 ⟨x.val - 64 - 64 - 64, by omega⟩ i)) := by
  pointwise [kt]
theorem km_lt (y : FVec Ideal S64x512 .bf16) (i : Fin 512) (x : Fin 256) (h : x.val < 64) : km y (ix3 0 i x) = y (ix2 ⟨x.val, h⟩ i) * (gain : EReal) := by
  rw [km, kt_at, dif_pos h, t16_at, gn_at]
theorem self_sub (r : ℝ) : (r : EReal) - (r : EReal) = 0 := by rw [← EReal.coe_sub, sub_self]; rfl
theorem km_ge (y : FVec Ideal S64x512 .bf16) (hy : ∀ j, ∃ r : ℝ, y j = (r : EReal)) (i : Fin 512) (x : Fin 256) (h : 64 ≤ x.val) : km y (ix3 0 i x) = 0 := by
  have e : ∀ j, lo _ bitsLt_bf16_f32 (gn _ bitsLt_bf16_f32 y) j = ((0 : ℝ) : EReal) := by
    intro j
    obtain ⟨r, hr⟩ := hy j
    rw [lo_at, gn_at, hr, ← EReal.coe_mul, self_sub]; rfl
  rw [km, kt_at, dif_neg (by omega)]
  split_ifs
  · rw [t16_at, e]; rfl
  · rw [t16_at, lo_at, e, self_sub]
  · exact nl_at _ _

theorem p38_eq (a : FVec Ideal S4x32x512 .fp8e4m3) (e : IVec S4x1x512 32) : k0_pay38 a e = km (s0 (k0_pay34 a e)) := rfl
theorem p42_eq (x : FVec Ideal S128x512 .bf16) : k0_pay42 x = km (s64 x) := rfl

/-! ## The value matrices -/

theorem p57_at (x : FVec Ideal S128x512 .bf16) (d : Fin 64) (s : Fin 512) : k0_pay57 x (ix3 0 d s) = x (ix2 ⟨d.val, by omega⟩ s) := by
  pointwise [k0_pay57]
theorem p60_at (x : FVec Ideal S128x512 .bf16) (d : Fin 64) (s : Fin 512) : k0_pay60 x (ix3 0 d s) = x (ix2 ⟨64 + d.val, by omega⟩ s) := by
  pointwise [k0_pay60]

end Cert.KernelIdeal.Own

end
-- ==== Proof.RVal.lean ====
/- The reference's quantiser, read at an index. -/
module

public import proofs.«01_k».proof.Proof.Gen.ReferenceIdeal
public import proofs.«01_k».proof.Proof.Gen.ReferenceIdeal.Skeleton
public import proofs.«01_k».proof.Proof.Gen.ReferenceIdeal.Frame
public import proofs.«01_k».proof.Proof.Quant
public import Idealize.ShloMosaic.Lib.Pointwise

@[expose] public section

set_option maxRecDepth 16384
set_option maxHeartbeats 1600000

noncomputable section

namespace Cert.ReferenceIdeal.Own

open Idealize.ShloMosaic Idealize.ShloMosaic.TcCoe Idealize.ShloMosaic.Tactic
open Cert.ReferenceIdeal Cert.ReferenceIdeal.Gen
open Cert.Quant

/-! ## The exponent, as the reference writes it -/

def expo' (t : Ideal .f32) : Ideal .f32 :=
  Scalar.select (IntOp.ori (FloatOps.cmpf .olt t (FloatOps.ofBits .f32 0x00800000#32)) (FloatOps.cmpf .oeq t (FloatOps.ofBits .f32 0x7F800000#32)))
    (FloatOps.ofBits .f32 0x00000000#32)
    (FloatOps.addf (FloatOps.floor (FloatOps.divf (FloatOps.log t) (Named.named κ "ln2" 0x3F317218#32))) (FloatOps.ofBits .f32 0x3F800000#32))

theorem one_eq : Ideal.ofBits .f32 0x3F800000#32 = 1 := by
  simp [Ideal.ofBits, Ideal.ieee]; norm_num; rw [← EReal.coe_mul]; norm_num
theorem zero_eq : Ideal.ofBits .f32 0x00000000#32 = 0 := by simp
theorem named_ln2 : (Named.named κ "ln2" 0x3F317218#32 : Ideal .f32) = ln2 :=
  IdealRules.named_const.ideal_named_scalar _ _ _ _ rfl
theorem expo'_eq (t : Ideal .f32) : expo' t = expo t := by
  unfold expo' expo
  rw [named_ln2]
  show (if (BitVec.ofBool (decide (t < Ideal.ofBits .f32 0x00800000#32)) ||| BitVec.ofBool (decide (t = Ideal.ofBits .f32 0x7F800000#32))) = 1#1
    then Ideal.ofBits .f32 0x00000000#32 else Ideal.liftRound Int.floor (Ideal.div (Ideal.log t) ln2) + Ideal.ofBits .f32 0x3F800000#32) = _
  rw [one_eq, zero_eq]
  by_cases h : t < Ideal.ofBits .f32 0x00800000#32 <;> by_cases h' : t = Ideal.ofBits .f32 0x7F800000#32 <;> simp only [h, h', decide_true, decide_false, true_or, or_true, or_self] <;> rfl

/-! ## The quantiser over vectors of any shape -/

/-- The exponents of a vector of scales. -/
def ev (S : Shape) (t : FVec Ideal S .f32) : FVec Ideal S .f32 :=
  select (ori (cmpf .olt t (broadcast S (Scalar.ofBits .f32 0x00800000#32))) (cmpf .oeq t (broadcast S (Scalar.ofBits .f32 0x7F800000#32))))
    (broadcast S (Scalar.ofBits .f32 0x00000000#32))
    (addf (floor (divf (log t) (broadcast S (Named.named κ "ln2" 0x3F317218#32)))) (broadcast S (Scalar.ofBits .f32 0x3F800000#32)))
theorem ev_at (S : Shape) (t : FVec Ideal S .f32) (i : S.Idx) : ev S t i = expo (t i) := by
  rw [← expo'_eq]; rfl
/-- `2 ^ (- e)`. -/
def nv (S : Shape) (e : FVec Ideal S .f32) : FVec Ideal S .f32 := exp2 (subf (broadcast S (Scalar.ofBits .f32 0x00000000#32)) e)
theorem nv_at (S : Shape) (e : FVec Ideal S .f32) (i : S.Idx) : nv S e i = Ideal.exp2 (0 - e i) := by
  rw [← zero_eq]; rfl
/-- A product cut off at the largest finite eight-bit number. -/
def cv (S : Shape) (h : FTy.fp8e4m3.bits < FTy.f32.bits) (x z : FVec Ideal S .f32) : FVec Ideal S .fp8e4m3 :=
  truncf .fp8e4m3 (minimumf (broadcast S (Scalar.ofBits .f32 0x43E00000#32)) (maximumf (broadcast S (Scalar.ofBits .f32 0xC3E00000#32)) (mulf x z))) h
theorem cv_at (S : Shape) (h : FTy.fp8e4m3.bits < FTy.f32.bits) (x z : FVec Ideal S .f32) (i : S.Idx) : cv S h x z i = cl (x i * z i) := by
  rfl
/-- The stored byte of an exponent. -/
def sv (S : Shape) (h : 8 < 32) (e : FVec Ideal S .f32) : IVec S 8 := trunci 8 (addi (fptosi 32 e) (broadcast S 127#32)) h
theorem sv_at (S : Shape) (h : 8 < 32) (e : FVec Ideal S .f32) (i : S.Idx) :
    sv S h e i = BitVec.setWidth 8 (Ideal.fptosi 32 (e i) + 127#32) := rfl

/-- The scale of a block of largest magnitude `X`. -/
def scl (S : Shape) (X : FVec Ideal S .f32) : FVec Ideal S .f32 := mulf X (broadcast S (Scalar.ofBits .f32 0x3B124925#32))
theorem scl_at (S : Shape) (X : FVec Ideal S .f32) (i : S.Idx) : scl S X i = X i * Ideal.ofBits .f32 0x3B124925#32 := rfl

/-! ## Queries -/

/-- The block of 32 columns of a head's half. -/
def bx (x : Vec Ideal S4x512x3072 .bf16) (b : Fin 4) (s : Fin 512) (h : Fin 48) (n : Fin 2) : Fin 32 → EReal :=
  fun k => x (ix3 b s ⟨64 * h.val + 32 * n.val + k.val, by omega⟩)

theorem xq_at (x : Vec Ideal S4x512x3072 .bf16) (b : Fin 4) (s : Fin 512) (h : Fin 48) (n : Fin 2) (k : Fin 32) :
    k0_pay2 x (ix5 b s h n k) = bx x b s h n k := by
  pointwise [k0_pay2]
  unfold bx
  simp only [Nat.mul_comm 64, Nat.mul_comm 32]
def tqr (A : FVec Ideal S4x512x48x2x32 .f32) : FVec Ideal S4x512x48x2 .f32 :=
  multiReduction .maximumf [4] S4x512x48x2 A 0xFF800000#32 reduces_S4x512x48x2x32_S4x512x48x2 (.inl rfl) rfl
theorem tqr_at (A : FVec Ideal S4x512x48x2x32 .f32) (b : Fin 4) (s : Fin 512) (h : Fin 48) (n : Fin 2) :
    tqr A (ix4 b s h n) = Finset.univ.fold max (Ideal.ofBits .f32 0xFF800000#32) (fun k : Fin 32 => A (ix5 b s h n k)) := by
  pointwise [tqr]
def tqc (A : FVec Ideal S4x512x48x2 .f32) : FVec Ideal S4x512x48x2x1 .f32 := shapeCast S4x512x48x2x1 A shapeCasts_S4x512x48x2_S4x512x48x2x1
theorem tqc_at (A : FVec Ideal S4x512x48x2 .f32) (b : Fin 4) (s : Fin 512) (h : Fin 48) (n : Fin 2) : tqc A (ix5 b s h n 0) = A (ix4 b s h n) := by
  pointwise [tqc]
/-- The scale of every block. -/
def tq (A : FVec Ideal S4x512x48x2x32 .f32) : FVec Ideal S4x512x48x2x1 .f32 :=
  scl _ (tqc (tqr (absf A)))
theorem tq_abs (A : FVec Ideal S4x512x48x2x32 .f32) (i : S4x512x48x2x32.Idx) : absf A i = max (A i) (-(A i)) := rfl
theorem tq_at (A : FVec Ideal S4x512x48x2x32 .f32) (b : Fin 4) (s : Fin 512) (h : Fin 48) (n : Fin 2) :
    tq A (ix5 b s h n 0) = sc (fun k => A (ix5 b s h n k)) := by
  rw [tq, scl_at, tqc_at, tqr_at, sc]
  simp only [tq_abs]
theorem eq_eq (x : Vec Ideal S4x512x3072 .bf16) : k0_pay3 x = ev _ (tq (k0_pay2 x)) := rfl
theorem eq_at (x : Vec Ideal S4x512x3072 .bf16) (b : Fin 4) (s : Fin 512) (h : Fin 48) (n : Fin 2) :
    k0_pay3 x (ix5 b s h n 0) = expo (sc (bx x b s h n)) := by
  rw [eq_eq, ev_at, tq_at]
  simp only [xq_at]
def zq (z : FVec Ideal S4x512x48x2x1 .f32) : FVec Ideal S4x512x48x2x32 .f32 := broadcastTo S4x512x48x2x32 z broadcasts_S4x512x48x2x1_S4x512x48x2x32
theorem zq_at (z : FVec Ideal S4x512x48x2x1 .f32) (b : Fin 4) (s : Fin 512) (h : Fin 48) (n : Fin 2) (k : Fin 32) :
    zq z (ix5 b s h n k) = z (ix5 b s h n 0) := by
  pointwise [zq]
theorem cq_eq (x : Vec Ideal S4x512x3072 .bf16) : k0_pay4 x = cv _ bitsLt_fp8e4m3_f32 (k0_pay2 x) (zq (nv _ (k0_pay3 x))) := rfl
theorem cq_at (x : Vec Ideal S4x512x3072 .bf16) (b : Fin 4) (s : Fin 512) (h : Fin 48) (n : Fin 2) (k : Fin 32) :
    k0_pay4 x (ix5 b s h n k) = cl (bx x b s h n k * Ideal.exp2 (0 - expo (sc (bx x b s h n)))) := by
  rw [cq_eq, cv_at, zq_at, nv_at, xq_at, eq_at]

theorem r19_at (A : FVec Ideal S4x512x48x2x32 .fp8e4m3) (b : Fin 4) (s : Fin 512) (h : Fin 48) (d : Fin 64) :
    k0_pay19 A (ix4 b s h d) = A (ix5 b s h ⟨d.val / 32, by omega⟩ ⟨d.val % 32, by omega⟩) := by
  pointwise [k0_pay19]
def uq (e : IVec S4x512x48x2x1 8) : IVec S4x512x48x2 8 := shapeCast S4x512x48x2 e shapeCasts_S4x512x48x2x1_S4x512x48x2
theorem uq_at (e : IVec S4x512x48x2x1 8) (b : Fin 4) (s : Fin 512) (h : Fin 48) (n : Fin 2) : uq e (ix4 b s h n) = e (ix5 b s h n 0) := by
  pointwise [uq]
theorem r20_eq (e : FVec Ideal S4x512x48x2x1 .f32) : k0_pay20 e = uq (sv _ natLt_8_32 e) := rfl
theorem r20_at (e : FVec Ideal S4x512x48x2x1 .f32) (b : Fin 4) (s : Fin 512) (h : Fin 48) (n : Fin 2) :
    k0_pay20 e (ix4 b s h n) = BitVec.setWidth 8 (Ideal.fptosi 32 (e (ix5 b s h n 0)) + 127#32) := by
  rw [r20_eq, uq_at, sv_at]

/-! ## Keys -/

/-- The block of 32 columns of a head's half. -/
def bk (x : Vec Ideal S4x512x384 .bf16) (b : Fin 4) (s : Fin 512) (h : Fin 6) (n : Fin 2) : Fin 32 → EReal :=
  fun k => x (ix3 b s ⟨64 * h.val + 32 * n.val + k.val, by omega⟩)

theorem xk_at (x : Vec Ideal S4x512x384 .bf16) (b : Fin 4) (s : Fin 512) (h : Fin 6) (n : Fin 2) (k : Fin 32) :
    k0_pay5 x (ix5 b s h n k) = bk x b s h n k := by
  pointwise [k0_pay5]
  unfold bk
  simp only [Nat.mul_comm 64, Nat.mul_comm 32]
def tkr (A : FVec Ideal S4x512x6x2x32 .f32) : FVec Ideal S4x512x6x2 .f32 :=
  multiReduction .maximumf [4] S4x512x6x2 A 0xFF800000#32 reduces_S4x512x6x2x32_S4x512x6x2 (.inl rfl) rfl
theorem tkr_at (A : FVec Ideal S4x512x6x2x32 .f32) (b : Fin 4) (s : Fin 512) (h : Fin 6) (n : Fin 2) :
    tkr A (ix4 b s h n) = Finset.univ.fold max (Ideal.ofBits .f32 0xFF800000#32) (fun k : Fin 32 => A (ix5 b s h n k)) := by
  pointwise [tkr]
def tkc (A : FVec Ideal S4x512x6x2 .f32) : FVec Ideal S4x512x6x2x1 .f32 := shapeCast S4x512x6x2x1 A shapeCasts_S4x512x6x2_S4x512x6x2x1
theorem tkc_at (A : FVec Ideal S4x512x6x2 .f32) (b : Fin 4) (s : Fin 512) (h : Fin 6) (n : Fin 2) : tkc A (ix5 b s h n 0) = A (ix4 b s h n) := by
  pointwise [tkc]
/-- The scale of every block. -/
def tk (A : FVec Ideal S4x512x6x2x32 .f32) : FVec Ideal S4x512x6x2x1 .f32 :=
  scl _ (tkc (tkr (absf A)))
theorem tk_abs (A : FVec Ideal S4x512x6x2x32 .f32) (i : S4x512x6x2x32.Idx) : absf A i = max (A i) (-(A i)) := rfl
theorem tk_at (A : FVec Ideal S4x512x6x2x32 .f32) (b : Fin 4) (s : Fin 512) (h : Fin 6) (n : Fin 2) :
    tk A (ix5 b s h n 0) = sc (fun k => A (ix5 b s h n k)) := by
  rw [tk, scl_at, tkc_at, tkr_at, sc]
  simp only [tk_abs]
theorem ek_eq (x : Vec Ideal S4x512x384 .bf16) : k0_pay9 (k0_pay6 x) (k0_pay7 x) (k0_pay8) = ev _ (tk (k0_pay5 x)) := rfl
theorem ek_at (x : Vec Ideal S4x512x384 .bf16) (b : Fin 4) (s : Fin 512) (h : Fin 6) (n : Fin 2) :
    k0_pay9 (k0_pay6 x) (k0_pay7 x) (k0_pay8) (ix5 b s h n 0) = expo (sc (bk x b s h n)) := by
  rw [ek_eq, ev_at, tk_at]
  simp only [xk_at]
def zk (z : FVec Ideal S4x512x6x2x1 .f32) : FVec Ideal S4x512x6x2x32 .f32 := broadcastTo S4x512x6x2x32 z broadcasts_S4x512x6x2x1_S4x512x6x2x32
theorem zk_at (z : FVec Ideal S4x512x6x2x1 .f32) (b : Fin 4) (s : Fin 512) (h : Fin 6) (n : Fin 2) (k : Fin 32) :
    zk z (ix5 b s h n k) = z (ix5 b s h n 0) := by
  pointwise [zk]
theorem ck_eq (x : Vec Ideal S4x512x384 .bf16) : k0_pay10 (k0_pay5 x) (k0_pay6 x) (k0_pay7 x) (k0_pay8) = cv _ bitsLt_fp8e4m3_f32 (k0_pay5 x) (zk (nv _ (k0_pay9 (k0_pay6 x) (k0_pay7 x) (k0_pay8)))) := rfl
theorem ck_at (x : Vec Ideal S4x512x384 .bf16) (b : Fin 4) (s : Fin 512) (h : Fin 6) (n : Fin 2) (k : Fin 32) :
    k0_pay10 (k0_pay5 x) (k0_pay6 x) (k0_pay7 x) (k0_pay8) (ix5 b s h n k) = cl (bk x b s h n k * Ideal.exp2 (0 - expo (sc (bk x b s h n)))) := by
  rw [ck_eq, cv_at, zk_at, nv_at, xk_at, ek_at]

theorem r21_at (A : FVec Ideal S4x512x6x2x32 .fp8e4m3) (b : Fin 4) (s : Fin 512) (h : Fin 6) (d : Fin 64) :
    k0_pay21 A (ix4 b s h d) = A (ix5 b s h ⟨d.val / 32, by omega⟩ ⟨d.val % 32, by omega⟩) := by
  pointwise [k0_pay21]
def uk (e : IVec S4x512x6x2x1 8) : IVec S4x512x6x2 8 := shapeCast S4x512x6x2 e shapeCasts_S4x512x6x2x1_S4x512x6x2
theorem uk_at (e : IVec S4x512x6x2x1 8) (b : Fin 4) (s : Fin 512) (h : Fin 6) (n : Fin 2) : uk e (ix4 b s h n) = e (ix5 b s h n 0) := by
  pointwise [uk]
theorem r22_eq (e : FVec Ideal S4x512x6x2x1 .f32) : k0_pay22 e = uk (sv _ natLt_8_32 e) := rfl
theorem r22_at (e : FVec Ideal S4x512x6x2x1 .f32) (b : Fin 4) (s : Fin 512) (h : Fin 6) (n : Fin 2) :
    k0_pay22 e (ix4 b s h n) = BitVec.setWidth 8 (Ideal.fptosi 32 (e (ix5 b s h n 0)) + 127#32) := by
  rw [r22_eq, uk_at, sv_at]

/-! ## Values -/

/-- The block of 32 rows of a column. -/
def bw (x : Vec Ideal S4x512x384 .bf16) (b : Fin 4) (r : Fin 16) (h : Fin 6) (d : Fin 64) : Fin 32 → EReal :=
  fun k => x (ix3 b ⟨32 * r.val + k.val, by omega⟩ ⟨64 * h.val + d.val, by omega⟩)

theorem xv_at (x : Vec Ideal S4x512x384 .bf16) (b : Fin 4) (r : Fin 16) (k : Fin 32) (h : Fin 6) (d : Fin 64) :
    k0_pay11 x (ix5 b r k h d) = bw x b r h d k := by
  pointwise [k0_pay11]
  unfold bw
  simp only [Nat.mul_comm 64, Nat.mul_comm 32]
def tvr (A : FVec Ideal S4x16x32x6x64 .f32) : FVec Ideal S4x16x6x64 .f32 :=
  multiReduction .maximumf [2] S4x16x6x64 A 0xFF800000#32 reduces_S4x16x32x6x64_S4x16x6x64 (.inl rfl) rfl
theorem tvr_at (A : FVec Ideal S4x16x32x6x64 .f32) (b : Fin 4) (r : Fin 16) (h : Fin 6) (d : Fin 64) :
    tvr A (ix4 b r h d) = Finset.univ.fold max (Ideal.ofBits .f32 0xFF800000#32) (fun k : Fin 32 => A (ix5 b r k h d)) := by
  pointwise [tvr]
def tvc (A : FVec Ideal S4x16x6x64 .f32) : FVec Ideal S4x16x1x6x64 .f32 := shapeCast S4x16x1x6x64 A shapeCasts_S4x16x6x64_S4x16x1x6x64
theorem tvc_at (A : FVec Ideal S4x16x6x64 .f32) (b : Fin 4) (r : Fin 16) (h : Fin 6) (d : Fin 64) : tvc A (ix5 b r 0 h d) = A (ix4 b r h d) := by
  pointwise [tvc]
/-- The scale of every block. -/
def tv (A : FVec Ideal S4x16x32x6x64 .f32) : FVec Ideal S4x16x1x6x64 .f32 :=
  scl _ (tvc (tvr (absf A)))
theorem tv_abs (A : FVec Ideal S4x16x32x6x64 .f32) (i : S4x16x32x6x64.Idx) : absf A i = max (A i) (-(A i)) := rfl
theorem tv_at (A : FVec Ideal S4x16x32x6x64 .f32) (b : Fin 4) (r : Fin 16) (h : Fin 6) (d : Fin 64) :
    tv A (ix5 b r 0 h d) = sc (fun k => A (ix5 b r k h d)) := by
  rw [tv, scl_at, tvc_at, tvr_at, sc]
  simp only [tv_abs]
theorem ew_eq (x : Vec Ideal S4x512x384 .bf16) : k0_pay12 x = ev _ (tv (k0_pay11 x)) := rfl
theorem ew_at (x : Vec Ideal S4x512x384 .bf16) (b : Fin 4) (r : Fin 16) (h : Fin 6) (d : Fin 64) :
    k0_pay12 x (ix5 b r 0 h d) = expo (sc (bw x b r h d)) := by
  rw [ew_eq, ev_at, tv_at]
  simp only [xv_at]
def zv (z : FVec Ideal S4x16x1x6x64 .f32) : FVec Ideal S4x16x32x6x64 .f32 := broadcastTo S4x16x32x6x64 z broadcasts_S4x16x1x6x64_S4x16x32x6x64
theorem zv_at (z : FVec Ideal S4x16x1x6x64 .f32) (b : Fin 4) (r : Fin 16) (k : Fin 32) (h : Fin 6) (d : Fin 64) :
    zv z (ix5 b r k h d) = z (ix5 b r 0 h d) := by
  pointwise [zv]
theorem cw_eq (x : Vec Ideal S4x512x384 .bf16) : k0_pay13 (k0_pay11 x) (k0_pay12 x) (Scalar.ofBits .f32 0x00000000#32) = cv _ bitsLt_fp8e4m3_f32 (k0_pay11 x) (zv (nv _ (k0_pay12 x))) := rfl
theorem cw_at (x : Vec Ideal S4x512x384 .bf16) (b : Fin 4) (r : Fin 16) (k : Fin 32) (h : Fin 6) (d : Fin 64) :
    k0_pay13 (k0_pay11 x) (k0_pay12 x) (Scalar.ofBits .f32 0x00000000#32) (ix5 b r k h d) = cl (bw x b r h d k * Ideal.exp2 (0 - expo (sc (bw x b r h d)))) := by
  rw [cw_eq, cv_at, zv_at, nv_at, xv_at, ew_at]

theorem r23_at (A : FVec Ideal S4x16x32x6x64 .fp8e4m3) (b : Fin 4) (s : Fin 512) (h : Fin 6) (d : Fin 64) :
    k0_pay23 A (ix4 b s h d) = A (ix5 b ⟨s.val / 32, by omega⟩ ⟨s.val % 32, by omega⟩ h d) := by
  pointwise [k0_pay23]
def uv (e : IVec S4x16x1x6x64 8) : IVec S4x16x6x64 8 := shapeCast S4x16x6x64 e shapeCasts_S4x16x1x6x64_S4x16x6x64
theorem uv_at (e : IVec S4x16x1x6x64 8) (b : Fin 4) (r : Fin 16) (h : Fin 6) (d : Fin 64) : uv e (ix4 b r h d) = e (ix5 b r 0 h d) := by
  pointwise [uv]
theorem r1_eq (e : FVec Ideal S4x16x1x6x64 .f32) : k0_pay1 (k0_pay24 e) k0_pay25 = uv (sv _ natLt_8_32 e) := rfl
theorem r1_at (e : FVec Ideal S4x16x1x6x64 .f32) (b : Fin 4) (r : Fin 16) (h : Fin 6) (d : Fin 64) :
    k0_pay1 (k0_pay24 e) k0_pay25 (ix4 b r h d) = BitVec.setWidth 8 (Ideal.fptosi 32 (e (ix5 b r 0 h d)) + 127#32) := by
  rw [r1_eq, uv_at, sv_at]

/-! ## The reference's results as functions of the arguments -/

section
variable (a0 : Vec Ideal S4x512x3072 .bf16) (a1 a2 : Vec Ideal S4x512x384 .bf16)

theorem hz : (![0, 0, 0] : Fin 3 → Nat) = fun _ => 0 := by decide
theorem l0 : View.ld a0 r0_0 = a0 := View.ld_unit_zero hz _ _
theorem l1 : View.ld a1 r0_1 = a1 := View.ld_unit_zero hz _ _

theorem u26 : k0_pay26 a0 a1 a2 = k0_pay3 a0 := by unfold k0_pay26; rw [l0]
theorem u27 : k0_pay27 a0 a1 a2 = k0_pay4 a0 := by unfold k0_pay27; rw [l0]
theorem u31 : k0_pay31 a0 a1 a2 = k0_pay9 (k0_pay6 a1) (k0_pay7 a1) k0_pay8 := by unfold k0_pay31 k0_pay28 k0_pay29 k0_pay30; rw [l1]
theorem u32 : k0_pay32 a0 a1 a2 = k0_pay10 (k0_pay5 a1) (k0_pay6 a1) (k0_pay7 a1) k0_pay8 := by unfold k0_pay32 k0_pay28 k0_pay29 k0_pay30; rw [l1]
theorem u33 : k0_pay33 a0 a1 a2 = k0_pay11 a2 := by unfold k0_pay33; rw [l1]
theorem u34 : k0_pay34 a0 a1 a2 = k0_pay12 a2 := by unfold k0_pay34; rw [l1]
end

end Cert.ReferenceIdeal.Own

end
-- ==== Proof.KCode.lean ====
/- The kernel's codes and stored exponents, each read at an index of its result as the quantiser applied to entries of an argument. -/
module

public import proofs.«01_k».proof.Proof.KVal
public import proofs.«01_k».proof.Proof.RVal

@[expose] public section

set_option maxRecDepth 16384
set_option maxHeartbeats 1600000

noncomputable section

namespace Cert.KernelIdeal.Own

open Idealize.ShloMosaic Idealize.ShloMosaic.TcCoe Idealize.ShloMosaic.Tactic
open Cert.KernelIdeal.Gen
open Cert.Quant
open Cert.ReferenceIdeal.Own (bx bk bw)

/-! ## One block -/

theorem y36_at (A : FVec Ideal S4x32x512 .fp8e4m3) (d : Fin 64) (s : Fin 512) : k0_pay36 A (ix4 0 0 d s) = k0_pay33 A (ix2 ⟨d.val, by omega⟩ s) := by
  unfold k0_pay36
  generalize k0_pay33 A = B
  pointwise
theorem y40_at (A : FVec Ideal S4x32x512 .fp8e4m3) (d : Fin 64) (s : Fin 512) : k0_pay40 (k0_pay39 A) (ix4 0 0 d s) = k0_pay33 A (ix2 ⟨64 + d.val, by omega⟩ s) := by
  unfold k0_pay40 k0_pay39
  generalize k0_pay33 A = B
  pointwise
theorem y37_at (A : IVec S4x1x512 32) (n : Fin 2) (s : Fin 512) : k0_pay37 A (ix4 0 0 n s) = BitVec.setWidth 8 (k0_pay35 A (ix2 ⟨n.val, by omega⟩ s)) := by
  unfold k0_pay37
  generalize k0_pay35 A = B
  pointwise
theorem y41_at (B : IVec S4x512 32) (n : Fin 2) (s : Fin 512) : k0_pay41 B (ix4 0 0 n s) = BitVec.setWidth 8 (B (ix2 ⟨2 + n.val, by omega⟩ s)) := by
  pointwise [k0_pay41]
theorem y55_at (X : FVec Ideal S16x32x128 .f32) (T : FVec Ideal S16x1x128 .f32) (P Q : IVec S16x1x128 32) (d : Fin 64) (s : Fin 512) :
    k0_pay56 (k0_pay55 X T P Q) (ix4 0 0 d s) = k0_pay53 X T P Q (ix2 ⟨d.val, by omega⟩ s) := by
  unfold k0_pay56 k0_pay55
  generalize k0_pay53 X T P Q = B
  pointwise
theorem y59_at (B : FVec Ideal S128x512 .fp8e4m3) (d : Fin 64) (s : Fin 512) : k0_pay59 B (ix4 0 0 d s) = B (ix2 ⟨64 + d.val, by omega⟩ s) := by
  pointwise [k0_pay59]
theorem y58_at (B : IVec S16x128 32) (r : Fin 16) (d : Fin 64) : k0_pay58 B (ix4 0 0 r d) = BitVec.setWidth 8 (B (ix2 r ⟨d.val, by omega⟩)) := by
  pointwise [k0_pay58]
theorem y61_at (B : IVec S16x128 32) (r : Fin 16) (d : Fin 64) : k0_pay61 B (ix4 0 0 r d) = BitVec.setWidth 8 (B (ix2 r ⟨64 + d.val, by omega⟩)) := by
  pointwise [k0_pay61]
theorem y1_at (B : IVec S2x48x512 32) (n : Fin 2) (h : Fin 48) (s : Fin 512) : k0_pay1 (F := Ideal) B (ix4 0 n h s) = BitVec.setWidth 8 (B (ix3 n h s)) := by
  pointwise [k0_pay1]

/-- Two halves read together, from a reading of the first and one of the second. -/
theorem pair4_of {e : EltTy} {n2 n3 : ℕ} (a b : (⟨4, ![1, 1, n2, n3]⟩ : Shape).Idx → Elt Ideal e) (f : Fin 2 → Elt Ideal e) (g : Fin 2) (d : Fin n2) (s : Fin n3)
    (ha : a (ix4 0 0 d s) = f 0) (hb : b (ix4 0 0 d s) = f 1) : pair4 (Val := Elt Ideal) a b (ix4 0 g d s) = f g := by
  match g with
  | 0 => exact ha
  | 1 => exact hb

theorem kcB_at (v : Vec Ideal S1x512x128 .bf16) (g : Fin 2) (d : Fin 64) (s : Fin 512) :
    kcB v (ix4 0 g d s) = code (sc (bq v ⟨2 * g.val + d.val / 32, by omega⟩ s)) (v (ix3 0 s ⟨64 * g.val + d.val, by omega⟩)) := by
  refine pair4_of (e := .fp8e4m3) _ _ (fun g => code (sc (bq v ⟨2 * g.val + d.val / 32, by omega⟩ s)) (v (ix3 0 s ⟨64 * g.val + d.val, by omega⟩))) g d s ?_ ?_
  · rw [y36_at, kc_at]
    congr <;> simp
  · rw [y40_at, kc_at]
    have h : (64 + d.val) / 32 = 2 * (1 : Fin 2).val + d.val / 32 := by show _ = 2 * 1 + _; omega
    simp only [h]
    rfl
theorem ksB_at (v : Vec Ideal S1x512x128 .bf16) (g n : Fin 2) (s : Fin 512) :
    ksB v (ix4 0 g n s) = BitVec.setWidth 8 (stored (sc (bq v ⟨2 * g.val + n.val, by omega⟩ s))) := by
  refine pair4_of (e := .i8) _ _ (fun g => BitVec.setWidth 8 (stored (sc (bq v ⟨2 * g.val + n.val, by omega⟩ s)))) g n s ?_ ?_
  · rw [y37_at, ke_at]
    congr <;> simp
  · rw [y41_at, ke_at]; rfl
theorem vcB_at (v : Vec Ideal S1x512x128 .bf16) (g : Fin 2) (d : Fin 64) (s : Fin 512) :
    vcB v (ix4 0 g d s) = code (sc (bv v ⟨s.val / 32, by omega⟩ ⟨64 * g.val + d.val, by omega⟩)) (v (ix3 0 s ⟨64 * g.val + d.val, by omega⟩)) := by
  refine pair4_of (e := .fp8e4m3) _ _ (fun g => code (sc (bv v ⟨s.val / 32, by omega⟩ ⟨64 * g.val + d.val, by omega⟩)) (v (ix3 0 s ⟨64 * g.val + d.val, by omega⟩))) g d s ?_ ?_
  · rw [y55_at, vc_at]
    congr <;> simp
  · rw [y59_at, vc_at]; rfl
theorem vsB_at (v : Vec Ideal S1x512x128 .bf16) (g : Fin 2) (r : Fin 16) (d : Fin 64) :
    vsB v (ix4 0 g r d) = BitVec.setWidth 8 (stored (sc (bv v r ⟨64 * g.val + d.val, by omega⟩))) := by
  refine pair4_of (e := .i8) _ _ (fun g => BitVec.setWidth 8 (stored (sc (bv v r ⟨64 * g.val + d.val, by omega⟩)))) g r d ?_ ?_
  · rw [y58_at, ve_at]
    congr <;> simp
  · rw [y61_at, ve_at]; rfl

/-! ## The blocks of the arguments -/

variable (m : (ℓ : Loc nD τ sig) → Buf (Elt Ideal) ℓ) (c : Dev nD)

/-- The three arguments. -/
def A0 : Vec Ideal S4x512x3072 .bf16 := m ((c.tc : Thread nD τ).loc main_arg0)
def A1 : Vec Ideal S4x512x384 .bf16 := m ((c.tc : Thread nD τ).loc main_arg1)
def A2 : Vec Ideal S4x512x384 .bf16 := m ((c.tc : Thread nD τ).loc main_arg2)

theorem pt_div {b p : ℕ} (hb : b < 4) (hp : p < 3) : (pt b p).val / 3 = b := by show (3 * b + p) % 12 / 3 = b; omega
theorem pt_mod {b p : ℕ} (hb : b < 4) (hp : p < 3) : (pt b p).val % 3 = p := by show (3 * b + p) % 12 % 3 = p; omega

theorem el0 (b : Fin 4) {p : ℕ} (hp : p < 3) (j : Fin 8) (s : Fin 512) (r : Fin 128) (e : Fin 3072) (he : e.val = 1024 * p + 128 * j.val + r.val) :
    slab (ib0 m c (pt b.val p)) j (ix3 0 s r) = A0 m c (ix3 b s e) :=
  ib0_at m c (pt b.val p) (ix3 0 s ⟨128 * j.val + r.val, by omega⟩) (ix3 b s e) (pt_div b.isLt hp).symm rfl
    (by rw [pt_mod b.isLt hp]; show e.val = 1024 * p + (128 * j.val + r.val); omega)
theorem el1 (b : Fin 4) {p : ℕ} (hp : p < 3) (s : Fin 512) (r : Fin 128) (e : Fin 384) (he : e.val = 128 * p + r.val) :
    ib1 m c (pt b.val p) (ix3 0 s r) = A1 m c (ix3 b s e) :=
  ib1_at m c (pt b.val p) (ix3 0 s r) (ix3 b s e) (pt_div b.isLt hp).symm rfl (by rw [pt_mod b.isLt hp]; exact he)
theorem el2 (b : Fin 4) {p : ℕ} (hp : p < 3) (s : Fin 512) (r : Fin 128) (e : Fin 384) (he : e.val = 128 * p + r.val) :
    ib2 m c (pt b.val p) (ix3 0 s r) = A2 m c (ix3 b s e) :=
  ib2_at m c (pt b.val p) (ix3 0 s r) (ix3 b s e) (pt_div b.isLt hp).symm rfl (by rw [pt_mod b.isLt hp]; exact he)

theorem blk0 (b : Fin 4) {p : ℕ} (hp : p < 3) (j : Fin 8) (g : Fin 4) (s : Fin 512) (h : Fin 48) (n : Fin 2) (e : 64 * h.val + 32 * n.val = 1024 * p + 128 * j.val + 32 * g.val) :
    bq (slab (ib0 m c (pt b.val p)) j) g s = bx (A0 m c) b s h n :=
  funext fun k => el0 m c b hp j s ⟨32 * g.val + k.val, by omega⟩ ⟨64 * h.val + 32 * n.val + k.val, by omega⟩ (by show 64 * h.val + 32 * n.val + k.val = 1024 * p + 128 * j.val + (32 * g.val + k.val); omega)
theorem blk1 (b : Fin 4) {p : ℕ} (hp : p < 3) (g : Fin 4) (s : Fin 512) (h : Fin 6) (n : Fin 2) (e : 64 * h.val + 32 * n.val = 128 * p + 32 * g.val) :
    bq (ib1 m c (pt b.val p)) g s = bk (A1 m c) b s h n :=
  funext fun k => el1 m c b hp s ⟨32 * g.val + k.val, by omega⟩ ⟨64 * h.val + 32 * n.val + k.val, by omega⟩ (by show 64 * h.val + 32 * n.val + k.val = 128 * p + (32 * g.val + k.val); omega)
theorem blk2 (b : Fin 4) {p : ℕ} (hp : p < 3) (r : Fin 16) (x : Fin 128) (h : Fin 6) (d : Fin 64) (e : 64 * h.val + d.val = 128 * p + x.val) :
    bv (ib2 m c (pt b.val p)) r x = bw (A2 m c) b r h d :=
  funext fun k => el2 m c b hp ⟨32 * r.val + k.val, by omega⟩ x ⟨64 * h.val + d.val, by omega⟩ e

/-! ## The results -/

theorem qcA_at (b : Fin 4) (h : Fin 48) (d : Fin 64) (s : Fin 512) :
    qcA m c (ix4 b h d s) = code (sc (bx (A0 m c) b s h ⟨d.val / 32, by omega⟩)) (A0 m c (ix3 b s ⟨64 * h.val + d.val, by omega⟩)) := by
  show qc (slab (ib0 m c (pt b.val (h.val / 16))) ⟨h.val % 16 / 2, _⟩) (ix2 ⟨64 * (h.val % 16 % 2) + d.val, _⟩ s) = _
  rw [qc_at, blk0 m c b (by omega) _ _ s h ⟨d.val / 32, by omega⟩ (by show 64 * h.val + 32 * (d.val / 32) = _ + 128 * (h.val % 16 / 2) + 32 * ((64 * (h.val % 16 % 2) + d.val) / 32); omega),
    el0 m c b (by omega) _ s _ ⟨64 * h.val + d.val, by omega⟩ (by show 64 * h.val + d.val = _ + 128 * (h.val % 16 / 2) + (64 * (h.val % 16 % 2) + d.val); omega)]
theorem qsA_at (b : Fin 4) (n : Fin 2) (h : Fin 48) (s : Fin 512) :
    qsA m c (ix4 b n h s) = BitVec.setWidth 8 (stored (sc (bx (A0 m c) b s h n))) := by
  show k0_pay1 (F := Ideal) (accW m c b.val) (ix4 0 n h s) = _
  rw [y1_at]
  show BitVec.setWidth 8 (qe (slab (ib0 m c (pt b.val (h.val / 16))) ⟨h.val % 16 / 2, _⟩) (ix2 ⟨2 * (h.val % 16 % 2) + n.val, _⟩ s)) = _
  rw [qe_at, blk0 m c b (by omega) _ _ s h n (by show _ = _ + 128 * (h.val % 16 / 2) + 32 * (2 * (h.val % 16 % 2) + n.val); omega)]
theorem kcA_at (b : Fin 4) (h : Fin 6) (d : Fin 64) (s : Fin 512) :
    kcA m c (ix4 b h d s) = code (sc (bk (A1 m c) b s h ⟨d.val / 32, by omega⟩)) (A1 m c (ix3 b s ⟨64 * h.val + d.val, by omega⟩)) := by
  show kcB (ib1 m c (pt b.val (h.val / 2))) (ix4 0 ⟨h.val % 2, _⟩ d s) = _
  rw [kcB_at, blk1 m c b (by omega) _ s h ⟨d.val / 32, by omega⟩ (by show 64 * h.val + 32 * (d.val / 32) = _ + 32 * (2 * (h.val % 2) + d.val / 32); omega),
    el1 m c b (by omega) s _ ⟨64 * h.val + d.val, by omega⟩ (by show 64 * h.val + d.val = _ + (64 * (h.val % 2) + d.val); omega)]
theorem ksA_at (b : Fin 4) (h : Fin 6) (n : Fin 2) (s : Fin 512) :
    ksA m c (ix4 b h n s) = BitVec.setWidth 8 (stored (sc (bk (A1 m c) b s h n))) := by
  show ksB (ib1 m c (pt b.val (h.val / 2))) (ix4 0 ⟨h.val % 2, _⟩ n s) = _
  rw [ksB_at, blk1 m c b (by omega) _ s h n (by show _ = _ + 32 * (2 * (h.val % 2) + n.val); omega)]
theorem vcA_at (b : Fin 4) (h : Fin 6) (d : Fin 64) (s : Fin 512) :
    vcA m c (ix4 b h d s) = code (sc (bw (A2 m c) b ⟨s.val / 32, by omega⟩ h d)) (A2 m c (ix3 b s ⟨64 * h.val + d.val, by omega⟩)) := by
  show vcB (ib2 m c (pt b.val (h.val / 2))) (ix4 0 ⟨h.val % 2, _⟩ d s) = _
  rw [vcB_at, blk2 m c b (by omega) _ _ h d (by show _ = _ + (64 * (h.val % 2) + d.val); omega),
    el2 m c b (by omega) s _ ⟨64 * h.val + d.val, by omega⟩ (by show 64 * h.val + d.val = _ + (64 * (h.val % 2) + d.val); omega)]
theorem vsA_at (b : Fin 4) (h : Fin 6) (r : Fin 16) (d : Fin 64) :
    vsA m c (ix4 b h r d) = BitVec.setWidth 8 (stored (sc (bw (A2 m c) b r h d))) := by
  show vsB (ib2 m c (pt b.val (h.val / 2))) (ix4 0 ⟨h.val % 2, _⟩ r d) = _
  rw [vsB_at, blk2 m c b (by omega) r _ h d (by show _ = _ + (64 * (h.val % 2) + d.val); omega)]

end Cert.KernelIdeal.Own

end
-- ==== Proof.Same.lean ====
/- The kernel's codes and stored exponents are the reference's. -/
module

public import proofs.«01_k».proof.Proof.KCode
public import proofs.«01_k».proof.Proof.Gen.ReferenceIdeal.Value

@[expose] public section

set_option maxRecDepth 16384
set_option maxHeartbeats 1600000

noncomputable section

namespace Cert.KernelIdeal.Own

open Idealize.ShloMosaic Idealize.ShloMosaic.TcCoe Idealize.ShloMosaic.Tactic
open Cert.KernelIdeal.Gen
open Cert.Quant
open Cert.ReferenceIdeal.Own (bx bk bw)

/-! ## The transposes of the results -/

theorem t1_at (X : Vec Ideal S4x48x64x512 .fp8e4m3) (b : Fin 4) (s : Fin 512) (h : Fin 48) (d : Fin 64) :
    transpose S4x512x48x64 [0, 3, 1, 2] X transposes_S4x48x64x512_S4x512x48x64_0_3_1_2 (ix4 b s h d) = X (ix4 b h d s) := by
  pointwise
theorem t2_at (X : Vec Ideal S4x2x48x512 .i8) (b : Fin 4) (s : Fin 512) (h : Fin 48) (n : Fin 2) :
    transpose S4x512x48x2 [0, 3, 2, 1] X transposes_S4x2x48x512_S4x512x48x2_0_3_2_1 (ix4 b s h n) = X (ix4 b n h s) := by
  pointwise
theorem t3_at (X : Vec Ideal S4x6x64x512 .fp8e4m3) (b : Fin 4) (s : Fin 512) (h : Fin 6) (d : Fin 64) :
    transpose S4x512x6x64 [0, 3, 1, 2] X transposes_S4x6x64x512_S4x512x6x64_0_3_1_2 (ix4 b s h d) = X (ix4 b h d s) := by
  pointwise
theorem t4_at (X : Vec Ideal S4x6x2x512 .i8) (b : Fin 4) (s : Fin 512) (h : Fin 6) (n : Fin 2) :
    transpose S4x512x6x2 [0, 3, 1, 2] X transposes_S4x6x2x512_S4x512x6x2_0_3_1_2 (ix4 b s h n) = X (ix4 b h n s) := by
  pointwise
theorem t6_at (X : Vec Ideal S4x6x16x64 .i8) (b : Fin 4) (r : Fin 16) (h : Fin 6) (d : Fin 64) :
    transpose S4x16x6x64 [0, 2, 1, 3] X transposes_S4x6x16x64_S4x16x6x64_0_2_1_3 (ix4 b r h d) = X (ix4 b h r d) := by
  pointwise

/-! ## The scales are in range -/

theorem ok_bx {x : Vec Ideal S4x512x3072 .bf16} (hx : ∀ i, In (x i)) (b : Fin 4) (s : Fin 512) (h : Fin 48) (n : Fin 2) : Ok (sc (bx x b s h n)) := ok_sc _ fun k => hx _
theorem ok_bk {x : Vec Ideal S4x512x384 .bf16} (hx : ∀ i, In (x i)) (b : Fin 4) (s : Fin 512) (h : Fin 6) (n : Fin 2) : Ok (sc (bk x b s h n)) := ok_sc _ fun k => hx _
theorem ok_bw {x : Vec Ideal S4x512x384 .bf16} (hx : ∀ i, In (x i)) (b : Fin 4) (r : Fin 16) (h : Fin 6) (d : Fin 64) : Ok (sc (bw x b r h d)) := ok_sc _ fun k => hx _

/-! ## Entries of the blocks -/

theorem bx_el (x : Vec Ideal S4x512x3072 .bf16) (b : Fin 4) (s : Fin 512) (h : Fin 48) (d : Fin 64) :
    bx x b s h ⟨d.val / 32, by omega⟩ ⟨d.val % 32, by omega⟩ = x (ix3 b s ⟨64 * h.val + d.val, by omega⟩) := by
  have e : 64 * h.val + 32 * (d.val / 32) + d.val % 32 = 64 * h.val + d.val := by omega
  show x (ix3 b s ⟨64 * h.val + 32 * (d.val / 32) + d.val % 32, _⟩) = _
  simp only [e]
theorem bk_el (x : Vec Ideal S4x512x384 .bf16) (b : Fin 4) (s : Fin 512) (h : Fin 6) (d : Fin 64) :
    bk x b s h ⟨d.val / 32, by omega⟩ ⟨d.val % 32, by omega⟩ = x (ix3 b s ⟨64 * h.val + d.val, by omega⟩) := by
  have e : 64 * h.val + 32 * (d.val / 32) + d.val % 32 = 64 * h.val + d.val := by omega
  show x (ix3 b s ⟨64 * h.val + 32 * (d.val / 32) + d.val % 32, _⟩) = _
  simp only [e]
theorem bw_el (x : Vec Ideal S4x512x384 .bf16) (b : Fin 4) (s : Fin 512) (h : Fin 6) (d : Fin 64) :
    bw x b ⟨s.val / 32, by omega⟩ h d ⟨s.val % 32, by omega⟩ = x (ix3 b s ⟨64 * h.val + d.val, by omega⟩) := by
  have e : 32 * (s.val / 32) + s.val % 32 = s.val := by omega
  show x (ix3 b ⟨32 * (s.val / 32) + s.val % 32, _⟩ _) = _
  simp only [e]

/-! ## The six results -/

variable (m : (ℓ : Loc nD τ sig) → Buf (Elt Ideal) ℓ) (c : Dev nD)

theorem same1 (hx : ∀ i, In (A0 m c i)) :
    transpose S4x512x48x64 [0, 3, 1, 2] (qcA m c) transposes_S4x48x64x512_S4x512x48x64_0_3_1_2 = Cert.ReferenceIdeal.Value.G4 (F := Ideal) (A0 m c) (A1 m c) (A2 m c) := by
  funext y
  obtain ⟨b, s, h, d, rfl⟩ : ∃ b s h d, y = ix4 b s h d := ⟨_, _, _, _, eq_ix4 y⟩
  rw [t1_at, qcA_at]
  rw [Cert.ReferenceIdeal.Value.G4, Cert.ReferenceIdeal.Own.u27, Cert.ReferenceIdeal.Own.r19_at]
  rw [Cert.ReferenceIdeal.Own.cq_at, code_ref _ _ (ok_bx hx _ _ _ _), bx_el]
theorem same2 (hx : ∀ i, In (A0 m c i)) :
    transpose S4x512x48x2 [0, 3, 2, 1] (qsA m c) transposes_S4x2x48x512_S4x512x48x2_0_3_2_1 = Cert.ReferenceIdeal.Value.G5 (F := Ideal) (A0 m c) (A1 m c) (A2 m c) := by
  funext y
  obtain ⟨b, s, h, n, rfl⟩ : ∃ b s h n, y = ix4 b s h n := ⟨_, _, _, _, eq_ix4 y⟩
  rw [t2_at, qsA_at]
  rw [Cert.ReferenceIdeal.Value.G5, Cert.ReferenceIdeal.Own.u26, Cert.ReferenceIdeal.Own.r20_at]
  rw [Cert.ReferenceIdeal.Own.eq_at, ← code_eq _ (ok_bx hx _ _ _ _)]
  rfl
theorem same3 (hx : ∀ i, In (A1 m c i)) :
    transpose S4x512x6x64 [0, 3, 1, 2] (kcA m c) transposes_S4x6x64x512_S4x512x6x64_0_3_1_2 = Cert.ReferenceIdeal.Value.G6 (F := Ideal) (A0 m c) (A1 m c) (A2 m c) := by
  funext y
  obtain ⟨b, s, h, d, rfl⟩ : ∃ b s h d, y = ix4 b s h d := ⟨_, _, _, _, eq_ix4 y⟩
  rw [t3_at, kcA_at]
  rw [Cert.ReferenceIdeal.Value.G6, Cert.ReferenceIdeal.Own.u32, Cert.ReferenceIdeal.Own.r21_at]
  rw [Cert.ReferenceIdeal.Own.ck_at, code_ref _ _ (ok_bk hx _ _ _ _), bk_el]
theorem same4 (hx : ∀ i, In (A1 m c i)) :
    transpose S4x512x6x2 [0, 3, 1, 2] (ksA m c) transposes_S4x6x2x512_S4x512x6x2_0_3_1_2 = Cert.ReferenceIdeal.Value.G7 (F := Ideal) (A0 m c) (A1 m c) (A2 m c) := by
  funext y
  obtain ⟨b, s, h, n, rfl⟩ : ∃ b s h n, y = ix4 b s h n := ⟨_, _, _, _, eq_ix4 y⟩
  rw [t4_at, ksA_at]
  rw [Cert.ReferenceIdeal.Value.G7, Cert.ReferenceIdeal.Own.u31, Cert.ReferenceIdeal.Own.r22_at]
  rw [Cert.ReferenceIdeal.Own.ek_at, ← code_eq _ (ok_bk hx _ _ _ _)]
  rfl
theorem same5 (hx : ∀ i, In (A2 m c i)) :
    transpose S4x512x6x64 [0, 3, 1, 2] (vcA m c) transposes_S4x6x64x512_S4x512x6x64_0_3_1_2 = Cert.ReferenceIdeal.Value.G8 (F := Ideal) (A0 m c) (A1 m c) (A2 m c) := by
  funext y
  obtain ⟨b, s, h, d, rfl⟩ : ∃ b s h d, y = ix4 b s h d := ⟨_, _, _, _, eq_ix4 y⟩
  rw [t3_at, vcA_at]
  rw [Cert.ReferenceIdeal.Value.G8, Cert.ReferenceIdeal.Own.u33, Cert.ReferenceIdeal.Own.u34, Cert.ReferenceIdeal.Own.r23_at]
  rw [Cert.ReferenceIdeal.Own.cw_at, code_ref _ _ (ok_bw hx _ _ _ _), bw_el]
theorem same6 (hx : ∀ i, In (A2 m c i)) :
    transpose S4x16x6x64 [0, 2, 1, 3] (vsA m c) transposes_S4x6x16x64_S4x16x6x64_0_2_1_3 = Cert.ReferenceIdeal.Value.G9 (F := Ideal) (A0 m c) (A1 m c) (A2 m c) := by
  funext y
  obtain ⟨b, r, h, d, rfl⟩ : ∃ b r h d, y = ix4 b r h d := ⟨_, _, _, _, eq_ix4 y⟩
  rw [t6_at, vsA_at]
  rw [Cert.ReferenceIdeal.Value.G9, Cert.ReferenceIdeal.Own.u34, Cert.ReferenceIdeal.Own.r1_at]
  rw [Cert.ReferenceIdeal.Own.ew_at, ← code_eq _ (ok_bw hx _ _ _ _)]
  rfl

end Cert.KernelIdeal.Own

end
-- ==== Proof.RAttn.lean ====
/- The reference's attention, read at an index. -/
module

public import proofs.«01_k».proof.Proof.Same
public import proofs.«01_k».proof.Proof.Attn

@[expose] public section

set_option maxRecDepth 16384
set_option maxHeartbeats 1600000

noncomputable section

namespace Cert.ReferenceIdeal.Own

open Idealize.ShloMosaic Idealize.ShloMosaic.TcCoe Idealize.ShloMosaic.Tactic
open Cert.ReferenceIdeal Cert.ReferenceIdeal.Gen
open Cert.Quant Cert.Attn
open Cert.KernelIdeal.Own (ok_bx ok_bk ok_bw bx_el bk_el bw_el)

/-! ## Each re-indexing, product and reduction by itself -/

def rq (x : FVec Ideal S4x512x48x2x32 .bf16) : FVec Ideal S4x512x6x8x64 .bf16 := shapeCast S4x512x6x8x64 x shapeCasts_S4x512x48x2x32_S4x512x6x8x64
def rk (x : FVec Ideal S4x512x6x2x32 .bf16) : FVec Ideal S4x512x6x64 .bf16 := shapeCast S4x512x6x64 x shapeCasts_S4x512x6x2x32_S4x512x6x64
def rv (x : FVec Ideal S4x16x32x6x64 .bf16) : FVec Ideal S4x512x6x64 .bf16 := shapeCast S4x512x6x64 x shapeCasts_S4x16x32x6x64_S4x512x6x64
def zqb (z : FVec Ideal S4x512x48x2x1 .bf16) : FVec Ideal S4x512x48x2x32 .bf16 := broadcastTo S4x512x48x2x32 z broadcasts_S4x512x48x2x1_S4x512x48x2x32
def zkb (z : FVec Ideal S4x512x6x2x1 .bf16) : FVec Ideal S4x512x6x2x32 .bf16 := broadcastTo S4x512x6x2x32 z broadcasts_S4x512x6x2x1_S4x512x6x2x32
def zvb (z : FVec Ideal S4x16x1x6x64 .bf16) : FVec Ideal S4x16x32x6x64 .bf16 := broadcastTo S4x16x32x6x64 z broadcasts_S4x16x1x6x64_S4x16x32x6x64
def mm1 (k : FVec Ideal S4x512x6x64 .bf16) (q : FVec Ideal S4x512x6x8x64 .bf16) : FVec Ideal S4x6x512x512x8 .f32 :=
  matmul dot_S4x512x6x64_S4x512x6x8x64_S4x6x512x512x8_3_4_1_13_02_02 none k q (constant S4x6x512x512x8 .f32 0x00000000#32)
def tr1 (x : FVec Ideal S4x6x512x512x8 .f32) : FVec Ideal S4x6x8x512x512 .f32 := transpose S4x6x8x512x512 [0, 1, 4, 3, 2] x transposes_S4x6x512x512x8_p0_1_4_3_2_S4x6x8x512x512
def mx1 (x : FVec Ideal S4x6x8x512x512 .f32) : FVec Ideal S4x6x8x512 .f32 := multiReduction .maximumf [4] S4x6x8x512 x 0xFF800000#32 reduces_S4x6x8x512x512_S4x6x8x512 (.inl rfl) rfl
def sm1 (x : FVec Ideal S4x6x8x512x512 .f32) : FVec Ideal S4x6x8x512 .f32 := multiReduction .add [4] S4x6x8x512 x 0x00000000#32 reduces_S4x6x8x512x512_S4x6x8x512 (.inl rfl) rfl
def bc1 (x : FVec Ideal S4x6x8x512 .f32) : FVec Ideal S4x6x8x512x512 .f32 :=
  broadcastTo S4x6x8x512x512 (shapeCast S4x6x8x512x1 x shapeCasts_S4x6x8x512_S4x6x8x512x1) broadcasts_S4x6x8x512x1_S4x6x8x512x512
def mm2 (v : FVec Ideal S4x512x6x64 .bf16) (p : FVec Ideal S4x6x8x512x512 .bf16) : FVec Ideal S4x6x64x8x512 .f32 :=
  matmul dot_S4x512x6x64_S4x6x8x512x512_S4x6x64x8x512_1_4_3_23_02_01 none v p (constant S4x6x64x8x512 .f32 0x00000000#32)
def tr2 (x : FVec Ideal S4x6x64x8x512 .f32) : FVec Ideal S4x512x6x8x64 .f32 := transpose S4x512x6x8x64 [0, 4, 1, 3, 2] x transposes_S4x6x64x8x512_p0_4_1_3_2_S4x512x6x8x64
def tr3 (x : FVec Ideal S4x6x8x512 .f32) : FVec Ideal S4x512x6x8x64 .f32 :=
  broadcastTo S4x512x6x8x64 (shapeCast S4x512x6x8x1 (transpose S4x512x6x8 [0, 3, 1, 2] x transposes_S4x6x8x512_p0_3_1_2_S4x512x6x8) shapeCasts_S4x512x6x8_S4x512x6x8x1) broadcasts_S4x512x6x8x1_S4x512x6x8x64
def ro (x : FVec Ideal S4x512x6x8x64 .f32) : FVec Ideal S4x512x3072 .f32 := shapeCast S4x512x3072 x shapeCasts_S4x512x6x8x64_S4x512x3072

theorem rq_at (x : FVec Ideal S4x512x48x2x32 .bf16) (b : Fin 4) (s : Fin 512) (h : Fin 6) (g : Fin 8) (d : Fin 64) :
    rq x (ix5 b s h g d) = x (ix5 b s ⟨h.val * 8 + g.val, by omega⟩ ⟨d.val / 32, by omega⟩ ⟨d.val % 32, by omega⟩) := by
  pointwise [rq]
theorem rk_at (x : FVec Ideal S4x512x6x2x32 .bf16) (b : Fin 4) (s : Fin 512) (h : Fin 6) (d : Fin 64) :
    rk x (ix4 b s h d) = x (ix5 b s h ⟨d.val / 32, by omega⟩ ⟨d.val % 32, by omega⟩) := by
  pointwise [rk]
theorem rv_at (x : FVec Ideal S4x16x32x6x64 .bf16) (b : Fin 4) (s : Fin 512) (h : Fin 6) (d : Fin 64) :
    rv x (ix4 b s h d) = x (ix5 b ⟨s.val / 32, by omega⟩ ⟨s.val % 32, by omega⟩ h d) := by
  pointwise [rv]
theorem zqb_at (z : FVec Ideal S4x512x48x2x1 .bf16) (b : Fin 4) (s : Fin 512) (h : Fin 48) (n : Fin 2) (k : Fin 32) :
    zqb z (ix5 b s h n k) = z (ix5 b s h n 0) := by
  pointwise [zqb]
theorem zkb_at (z : FVec Ideal S4x512x6x2x1 .bf16) (b : Fin 4) (s : Fin 512) (h : Fin 6) (n : Fin 2) (k : Fin 32) :
    zkb z (ix5 b s h n k) = z (ix5 b s h n 0) := by
  pointwise [zkb]
theorem zvb_at (z : FVec Ideal S4x16x1x6x64 .bf16) (b : Fin 4) (r : Fin 16) (k : Fin 32) (h : Fin 6) (d : Fin 64) :
    zvb z (ix5 b r k h d) = z (ix5 b r 0 h d) := by
  pointwise [zvb]
theorem mm1_at (k : FVec Ideal S4x512x6x64 .bf16) (q : FVec Ideal S4x512x6x8x64 .bf16) (b : Fin 4) (h : Fin 6) (i s : Fin 512) (g : Fin 8) :
    mm1 k q (ix5 b h i s g) = ∑ x : Fin 64, k (ix4 b i h x) * q (ix5 b s h g x) := by
  pointwise [mm1]
theorem tr1_at (x : FVec Ideal S4x6x512x512x8 .f32) (b : Fin 4) (h : Fin 6) (i s : Fin 512) (g : Fin 8) : tr1 x (ix5 b h g s i) = x (ix5 b h i s g) := by
  pointwise [tr1]
theorem mx1_at (x : FVec Ideal S4x6x8x512x512 .f32) (b : Fin 4) (h : Fin 6) (s : Fin 512) (g : Fin 8) :
    mx1 x (ix4 b h g s) = mx (fun i => x (ix5 b h g s i)) := by
  pointwise [mx1]
  rfl
theorem sm1_at (x : FVec Ideal S4x6x8x512x512 .f32) (b : Fin 4) (h : Fin 6) (s : Fin 512) (g : Fin 8) :
    sm1 x (ix4 b h g s) = ∑ i : Fin 512, x (ix5 b h g s i) := by
  pointwise [sm1]
theorem bc1_at (x : FVec Ideal S4x6x8x512 .f32) (b : Fin 4) (h : Fin 6) (i s : Fin 512) (g : Fin 8) : bc1 x (ix5 b h g s i) = x (ix4 b h g s) := by
  pointwise [bc1]
theorem mm2_at (v : FVec Ideal S4x512x6x64 .bf16) (p : FVec Ideal S4x6x8x512x512 .bf16) (b : Fin 4) (h : Fin 6) (s : Fin 512) (g : Fin 8) (d : Fin 64) :
    mm2 v p (ix5 b h d g s) = ∑ i : Fin 512, v (ix4 b i h d) * p (ix5 b h g s i) := by
  pointwise [mm2]
theorem tr2_at (x : FVec Ideal S4x6x64x8x512 .f32) (b : Fin 4) (h : Fin 6) (s : Fin 512) (g : Fin 8) (d : Fin 64) : tr2 x (ix5 b s h g d) = x (ix5 b h d g s) := by
  pointwise [tr2]
theorem tr3_at (x : FVec Ideal S4x6x8x512 .f32) (b : Fin 4) (h : Fin 6) (s : Fin 512) (g : Fin 8) (d : Fin 64) : tr3 x (ix5 b s h g d) = x (ix4 b h g s) := by
  pointwise [tr3]
theorem ro_at (x : FVec Ideal S4x512x6x8x64 .f32) (b : Fin 4) (s : Fin 512) (e : Fin 3072) :
    ro x (ix3 b s e) = x (ix5 b s ⟨e.val / 512, by omega⟩ ⟨e.val / 64 % 8, by omega⟩ ⟨e.val % 64, by omega⟩) := by
  pointwise [ro]

/-! ## The elementwise steps over vectors of any shape -/

/-- `2 ^ e`, the scale. -/
def pv (S : Shape) (h : FTy.bf16.bits < FTy.f32.bits) (e : FVec Ideal S .f32) : FVec Ideal S .bf16 := truncf .bf16 (exp2 e) h
theorem pv_at (S : Shape) (h : FTy.bf16.bits < FTy.f32.bits) (e : FVec Ideal S .f32) (i : S.Idx) : pv S h e i = Ideal.exp2 (e i) := rfl
/-- Codes times scales. -/
def dv (S : Shape) (h : FTy.fp8e4m3.bits < FTy.bf16.bits) (c : FVec Ideal S .fp8e4m3) (z : FVec Ideal S .bf16) : FVec Ideal S .bf16 := mulf (extf .bf16 c h) z
theorem dv_at (S : Shape) (h : FTy.fp8e4m3.bits < FTy.bf16.bits) (c : FVec Ideal S .fp8e4m3) (z : FVec Ideal S .bf16) (i : S.Idx) : dv S h c z i = c i * z i := rfl
/-- The scores, divided by the root of the head's width. -/
def ev8 (S : Shape) (s : FVec Ideal S .f32) : FVec Ideal S .f32 := mulf s (broadcast S (Scalar.ofBits .f32 0x3E000000#32))
theorem ev8_at (S : Shape) (s : FVec Ideal S .f32) (i : S.Idx) : ev8 S s i = s i * Ideal.ofBits .f32 0x3E000000#32 := rfl
/-- The weights. -/
def wv (S : Shape) (s m : FVec Ideal S .f32) : FVec Ideal S .f32 := exp (subf s m)
theorem wv_at (S : Shape) (s m : FVec Ideal S .f32) (i : S.Idx) : wv S s m i = Ideal.exp (s i - m i) := rfl
/-- The weights, scaled by 256 and cut off for eight bits. -/
def cp (S : Shape) (h : FTy.fp8e4m3.bits < FTy.f32.bits) (h' : FTy.fp8e4m3.bits < FTy.bf16.bits) (p : FVec Ideal S .f32) : FVec Ideal S .bf16 :=
  extf .bf16 (truncf .fp8e4m3 (minimumf (broadcast S (Scalar.ofBits .f32 0x43E00000#32)) (maximumf (broadcast S (Scalar.ofBits .f32 0x00000000#32))
    (mulf p (broadcast S (Scalar.ofBits .f32 0x43800000#32))))) h) h'
theorem cp_at (S : Shape) (h : FTy.fp8e4m3.bits < FTy.f32.bits) (h' : FTy.fp8e4m3.bits < FTy.bf16.bits) (p : FVec Ideal S .f32) (i : S.Idx) :
    cp S h h' p i = min (Ideal.ofBits .f32 0x43E00000#32) (max (Ideal.ofBits .f32 0x00000000#32) (p i * Ideal.ofBits .f32 0x43800000#32)) := rfl
/-- The quotient. -/
def ov (S : Shape) (a c l : FVec Ideal S .f32) : FVec Ideal S .f32 := divf (mulf a c) l
theorem ov_at (S : Shape) (a c l : FVec Ideal S .f32) (i : S.Idx) : ov S a c l i = Ideal.div (a i * c i) (l i) := rfl
/-- A splat. -/
def sp (S : Shape) : FVec Ideal S .f32 := broadcast S (Scalar.ofBits .f32 0x3B800000#32)
theorem sp_at (S : Shape) (i : S.Idx) : sp S i = Ideal.ofBits .f32 0x3B800000#32 := rfl
/-- A change of format. -/
def tv16 (S : Shape) (h : FTy.bf16.bits < FTy.f32.bits) (x : FVec Ideal S .f32) : FVec Ideal S .bf16 := truncf .bf16 x h
theorem tv16_at (S : Shape) (h : FTy.bf16.bits < FTy.f32.bits) (x : FVec Ideal S .f32) (i : S.Idx) : tv16 S h x i = x i := rfl

/-! ## The dequantised arrays -/

/-- A query, dequantised. -/
def DQ (x : Vec Ideal S4x512x3072 .bf16) (b : Fin 4) (s : Fin 512) (h : Fin 48) (d : Fin 64) : EReal :=
  deq (sc (bx x b s h ⟨d.val / 32, by omega⟩)) (x (ix3 b s ⟨64 * h.val + d.val, by omega⟩))
/-- A key, dequantised. -/
def DK (x : Vec Ideal S4x512x384 .bf16) (b : Fin 4) (s : Fin 512) (h : Fin 6) (d : Fin 64) : EReal :=
  deq (sc (bk x b s h ⟨d.val / 32, by omega⟩)) (x (ix3 b s ⟨64 * h.val + d.val, by omega⟩))
/-- A value, dequantised. -/
def DV (x : Vec Ideal S4x512x384 .bf16) (b : Fin 4) (s : Fin 512) (h : Fin 6) (d : Fin 64) : EReal :=
  deq (sc (bw x b ⟨s.val / 32, by omega⟩ h d)) (x (ix3 b s ⟨64 * h.val + d.val, by omega⟩))

section
variable (a0 : Vec Ideal S4x512x3072 .bf16) (a1 a2 : Vec Ideal S4x512x384 .bf16)

def qd : FVec Ideal S4x512x6x8x64 .bf16 := rq (dv _ bitsLt_fp8e4m3_bf16 (k0_pay4 a0) (zqb (pv _ bitsLt_bf16_f32 (k0_pay3 a0))))
def kd : FVec Ideal S4x512x6x64 .bf16 := rk (dv _ bitsLt_fp8e4m3_bf16 (k0_pay10 (k0_pay5 a1) (k0_pay6 a1) (k0_pay7 a1) k0_pay8) (zkb (pv _ bitsLt_bf16_f32 (k0_pay9 (k0_pay6 a1) (k0_pay7 a1) k0_pay8))))
def vd : FVec Ideal S4x512x6x64 .bf16 := rv (dv _ bitsLt_fp8e4m3_bf16 (k0_pay13 (k0_pay11 a2) (k0_pay12 a2) (Scalar.ofBits .f32 0x00000000#32)) (zvb (pv _ bitsLt_bf16_f32 (k0_pay12 a2))))

theorem qd_at (h0 : ∀ i, In (a0 i)) (b : Fin 4) (s : Fin 512) (h : Fin 6) (g : Fin 8) (d : Fin 64) :
    qd a0 (ix5 b s h g d) = DQ a0 b s ⟨h.val * 8 + g.val, by omega⟩ d := by
  rw [qd, rq_at, dv_at, zqb_at, pv_at, cq_at, eq_at, ← code_ref _ _ (ok_bx h0 _ _ _ _), ← deq_ref _ _ (ok_bx h0 _ _ _ _), bx_el]
  rfl
theorem kd_at (h1 : ∀ i, In (a1 i)) (b : Fin 4) (s : Fin 512) (h : Fin 6) (d : Fin 64) :
    kd a1 (ix4 b s h d) = DK a1 b s h d := by
  rw [kd, rk_at, dv_at, zkb_at, pv_at, ck_at, ek_at, ← code_ref _ _ (ok_bk h1 _ _ _ _), ← deq_ref _ _ (ok_bk h1 _ _ _ _), bk_el]
  rfl
theorem vd_at (h2 : ∀ i, In (a2 i)) (b : Fin 4) (s : Fin 512) (h : Fin 6) (d : Fin 64) :
    vd a2 (ix4 b s h d) = DV a2 b s h d := by
  rw [vd, rv_at, dv_at, zvb_at, pv_at, cw_at, ew_at, ← code_ref _ _ (ok_bw h2 _ _ _ _), ← deq_ref _ _ (ok_bw h2 _ _ _ _), bw_el]
  rfl

/-! ## The attention -/

/-- The scores. -/
def sv1 (q : FVec Ideal S4x512x6x8x64 .bf16) (k : FVec Ideal S4x512x6x64 .bf16) : FVec Ideal S4x6x8x512x512 .f32 := ev8 _ (tr1 (mm1 k q))
/-- The weights of the scores. -/
def pv1 (s : FVec Ideal S4x6x8x512x512 .f32) : FVec Ideal S4x6x8x512x512 .f32 := wv _ s (bc1 (mx1 s))
/-- The result of the weights and the values. -/
def ov1 (p : FVec Ideal S4x6x8x512x512 .f32) (v : FVec Ideal S4x512x6x64 .bf16) : FVec Ideal S4x512x3072 .bf16 :=
  tv16 _ bitsLt_bf16_f32 (ro (ov _ (tr2 (mm2 v (cp _ bitsLt_fp8e4m3_f32 bitsLt_fp8e4m3_bf16 p))) (sp _) (tr3 (sm1 p))))

theorem sv1_at (q : FVec Ideal S4x512x6x8x64 .bf16) (k : FVec Ideal S4x512x6x64 .bf16) (b : Fin 4) (h : Fin 6) (g : Fin 8) (s i : Fin 512) :
    sv1 q k (ix5 b h g s i) = (∑ x : Fin 64, k (ix4 b i h x) * q (ix5 b s h g x)) * Ideal.ofBits .f32 0x3E000000#32 := by
  rw [sv1, ev8_at, tr1_at, mm1_at]
theorem pv1_at (s : FVec Ideal S4x6x8x512x512 .f32) (b : Fin 4) (h : Fin 6) (g : Fin 8) (r i : Fin 512) :
    pv1 s (ix5 b h g r i) = wR (fun i => s (ix5 b h g r i)) i := by
  rw [pv1, wv_at, bc1_at, mx1_at, wR]
theorem ov1_at (p : FVec Ideal S4x6x8x512x512 .f32) (v : FVec Ideal S4x512x6x64 .bf16) (b : Fin 4) (s : Fin 512) (e : Fin 3072) :
    ov1 p v (ix3 b s e) = Ideal.div ((∑ i : Fin 512, v (ix4 b i ⟨e.val / 512, by omega⟩ ⟨e.val % 64, by omega⟩)
        * min (Ideal.ofBits .f32 0x43E00000#32) (max (Ideal.ofBits .f32 0x00000000#32) (p (ix5 b ⟨e.val / 512, by omega⟩ ⟨e.val / 64 % 8, by omega⟩ s i) * Ideal.ofBits .f32 0x43800000#32)))
        * Ideal.ofBits .f32 0x3B800000#32)
      (∑ i : Fin 512, p (ix5 b ⟨e.val / 512, by omega⟩ ⟨e.val / 64 % 8, by omega⟩ s i)) := by
  rw [ov1, tv16_at, ro_at, ov_at, tr2_at, sp_at, tr3_at, mm2_at, sm1_at]
  simp only [cp_at]

theorem g3_eq : Cert.ReferenceIdeal.Value.G3 (F := Ideal) a0 a1 a2 = ov1 (pv1 (sv1 (qd a0) (kd a1))) (vd a2) := by
  rw [Cert.ReferenceIdeal.Value.G3, u26, u27, u31, u32, u33, u34]
  rfl

theorem g3_at (h0 : ∀ i, In (a0 i)) (h1 : ∀ i, In (a1 i)) (h2 : ∀ i, In (a2 i)) (b : Fin 4) (s : Fin 512) (e : Fin 3072) :
    Cert.ReferenceIdeal.Value.G3 (F := Ideal) a0 a1 a2 (ix3 b s e)
      = attR (fun i => (∑ x : Fin 64, DK a1 b i ⟨e.val / 512, by omega⟩ x * DQ a0 b s ⟨e.val / 512 * 8 + e.val / 64 % 8, by omega⟩ x) * Ideal.ofBits .f32 0x3E000000#32)
          (fun i => DV a2 b i ⟨e.val / 512, by omega⟩ ⟨e.val % 64, by omega⟩) := by
  rw [g3_eq, ov1_at, attR]
  simp only [pv1_at, sv1_at, qd_at a0 h0, kd_at a1 h1, vd_at a2 h2]
end

end Cert.ReferenceIdeal.Own

end
-- ==== Proof.Same0.lean ====
/- The kernel's attention is the reference's. -/
module

public import proofs.«01_k».proof.Proof.KAttn
public import proofs.«01_k».proof.Proof.RAttn

@[expose] public section

set_option maxRecDepth 16384
set_option maxHeartbeats 1600000

noncomputable section

namespace Cert.KernelIdeal.Own

open Idealize.ShloMosaic Idealize.ShloMosaic.TcCoe Idealize.ShloMosaic.Tactic
open Cert.KernelIdeal Cert.KernelIdeal.Gen
open Cert.Quant Cert.Attn
open Cert.ReferenceIdeal.Own (bx bk bw DQ DK DV)

/-! ## The two matrices of a block of keys and of a block of values -/

section
variable (v : Vec Ideal S1x512x128 .bf16)

theorem kmB_pair (g : Fin 2) (i : Fin 512) (x : Fin 256) :
    kslab (kmB v) g (ix3 0 i x) = (if g.val = 0 then km (s0 (k0_pay34 (kcd v) (ksc v))) (ix3 0 i x) else km (s64 (k0_pay34 (kcd v) (ksc v))) (ix3 0 i x)) := by
  rw [← p38_eq, ← p42_eq]; rfl
theorem vmB_pair (g : Fin 2) (d : Fin 64) (i : Fin 512) :
    vslab (vmB v) g (ix3 0 d i) = (if g.val = 0 then k0_pay57 (k0_pay52 (k0_pay43 v) (k0_pay44 v) (vf v) (vz v)) (ix3 0 d i)
      else k0_pay60 (k0_pay52 (k0_pay43 v) (k0_pay44 v) (vf v) (vz v)) (ix3 0 d i)) := rfl

theorem kmB_lt (g : Fin 2) (i : Fin 512) (x : Fin 256) (h : x.val < 64) :
    kslab (kmB v) g (ix3 0 i x) = deq (sc (bq v ⟨(64 * g.val + x.val) / 32, by omega⟩ i)) (v (ix3 0 i ⟨64 * g.val + x.val, by omega⟩)) * (gain : EReal) := by
  rw [kmB_pair]
  obtain e | e : g.val = 0 ∨ g.val = 1 := by omega
  · rw [if_pos e, km_lt _ _ _ h, s0_at, kd_at]
    simp only [e, Nat.mul_zero, Nat.zero_add]
  · rw [if_neg (by omega), km_lt _ _ _ h, s64_at, kd_at]
    simp only [e, Nat.mul_one]
theorem kmB_ge (hv : ∀ i r, In (v (ix3 0 i r))) (g : Fin 2) (i : Fin 512) (x : Fin 256) (h : 64 ≤ x.val) : kslab (kmB v) g (ix3 0 i x) = 0 := by
  have ok : ∀ a s, Ok (sc (bq v a s)) := fun a s => ok_sc _ fun k => hv _ _
  rw [kmB_pair]
  split_ifs
  · refine km_ge _ (fun j => ?_) _ _ h
    obtain ⟨d, s, rfl⟩ : ∃ d s, j = ix2 d s := ⟨_, _, eq_ix2 j⟩
    rw [s0_at, kd_at]; exact deq_real _ _ (ok _ _)
  · refine km_ge _ (fun j => ?_) _ _ h
    obtain ⟨d, s, rfl⟩ : ∃ d s, j = ix2 d s := ⟨_, _, eq_ix2 j⟩
    rw [s64_at, kd_at]; exact deq_real _ _ (ok _ _)
theorem vmB_at (g : Fin 2) (d : Fin 64) (i : Fin 512) :
    vslab (vmB v) g (ix3 0 d i) = deq (sc (bv v ⟨i.val / 32, by omega⟩ ⟨64 * g.val + d.val, by omega⟩)) (v (ix3 0 i ⟨64 * g.val + d.val, by omega⟩)) := by
  rw [vmB_pair]
  obtain e | e : g.val = 0 ∨ g.val = 1 := by omega
  · rw [if_pos e, p57_at, vd_at]
    simp only [e, Nat.mul_zero, Nat.zero_add]
  · rw [if_neg (by omega), p60_at, vd_at]
    simp only [e, Nat.mul_one]
end

/-! ## In terms of the arguments -/

variable (m : (ℓ : Loc nD τ sig) → Buf (Elt Ideal) ℓ) (c : Dev nD)

theorem qd_arg (b : Fin 4) {p : ℕ} (hp : p < 3) (j : Fin 8) (s : Fin 512) (r : Fin 128) (h : Fin 48) (d : Fin 64)
    (e : 64 * h.val + d.val = 1024 * p + 128 * j.val + r.val) :
    qd (slab (ib0 m c (pt b.val p)) j) (ix2 r s) = DQ (A0 m c) b s h d := by
  rw [qd_at, blk0 m c b hp j _ s h ⟨d.val / 32, by omega⟩ (by show 64 * h.val + 32 * (d.val / 32) = _ + 32 * (r.val / 32); omega),
    el0 m c b hp j s r ⟨64 * h.val + d.val, by omega⟩ e]
  rfl
theorem k_arg (b : Fin 4) {p : ℕ} (hp : p < 3) (g : Fin 2) (i : Fin 512) (x : Fin 64) (h : Fin 6) (e : h.val = 2 * p + g.val) :
    kslab (kmB (ib1 m c (pt b.val p))) g (ix3 0 i ⟨x.val, by omega⟩) = DK (A1 m c) b i h x * (gain : EReal) := by
  rw [kmB_lt _ _ _ _ (show x.val < 64 from x.isLt),
    blk1 m c b hp _ i h ⟨x.val / 32, by omega⟩ (by show 64 * h.val + 32 * (x.val / 32) = 128 * p + 32 * ((64 * g.val + x.val) / 32); omega),
    el1 m c b hp i _ ⟨64 * h.val + x.val, by omega⟩ (by show 64 * h.val + x.val = 128 * p + (64 * g.val + x.val); omega)]
  rfl
theorem k_zero (hx : ∀ i, In (A1 m c i)) (b : Fin 4) {p : ℕ} (hp : p < 3) (g : Fin 2) (i : Fin 512) (x : Fin 256) (h : 64 ≤ x.val) :
    kslab (kmB (ib1 m c (pt b.val p))) g (ix3 0 i x) = 0 := by
  refine kmB_ge _ (fun i r => ?_) g i x h
  rw [el1 m c b hp i r ⟨128 * p + r.val, by omega⟩ rfl]
  exact hx _
theorem v_arg (b : Fin 4) {p : ℕ} (hp : p < 3) (g : Fin 2) (d : Fin 64) (i : Fin 512) (h : Fin 6) (e : h.val = 2 * p + g.val) :
    vslab (vmB (ib2 m c (pt b.val p))) g (ix3 0 d i) = DV (A2 m c) b i h d := by
  rw [vmB_at, blk2 m c b hp _ _ h d (by show 64 * h.val + d.val = 128 * p + (64 * g.val + d.val); omega),
    el2 m c b hp i _ ⟨64 * h.val + d.val, by omega⟩ (by show 64 * h.val + d.val = 128 * p + (64 * g.val + d.val); omega)]
  rfl

theorem outA_at (hx : ∀ i, In (A1 m c i)) (b : Fin 4) (s : Fin 512) (e : Fin 3072) :
    outA m c (ix3 b s e) = attK (fun i => ∑ x : Fin 64, DK (A1 m c) b i ⟨e.val / 512, by omega⟩ x * (gain : EReal) * DQ (A0 m c) b s ⟨e.val / 512 * 8 + e.val / 64 % 8, by omega⟩ x)
      (fun i => DV (A2 m c) b i ⟨e.val / 512, by omega⟩ ⟨e.val % 64, by omega⟩) := by
  have hp : e.val / 1024 < 3 := by omega
  show at2 (slab (ib0 m c (pt b.val (e.val / 1024))) ⟨e.val % 1024 / 128, _⟩) (kslab (kmB (ib1 m c (pt b.val (e.val / 1024)))) ⟨e.val % 1024 / 512, _⟩)
    (vslab (vmB (ib2 m c (pt b.val (e.val / 1024)))) ⟨e.val % 1024 / 512, _⟩) (ix3 0 s ⟨e.val % 1024 % 128, _⟩) = _
  rw [at2_at]
  congr 1
  · funext i
    rw [sum64 _ fun x h => by rw [k_zero m c hx b hp _ _ _ h, zero_mul]]
    refine Finset.sum_congr rfl fun x _ => ?_
    rw [k_arg m c b hp _ i x ⟨e.val / 512, by omega⟩ (by show e.val / 512 = 2 * (e.val / 1024) + e.val % 1024 / 512; omega),
      qd_arg m c b hp _ s _ ⟨e.val / 512 * 8 + e.val / 64 % 8, by omega⟩ x
        (by show 64 * (e.val / 512 * 8 + e.val / 64 % 8) + x.val = 1024 * (e.val / 1024) + 128 * (e.val % 1024 / 128) + (64 * (e.val % 1024 % 128 / 64) + x.val % 64); omega)]
  · funext i
    rw [v_arg m c b hp _ _ i ⟨e.val / 512, by omega⟩ (by show e.val / 512 = 2 * (e.val / 1024) + e.val % 1024 / 512; omega)]
    congr 1
    apply Fin.ext
    show e.val % 1024 % 128 % 64 = e.val % 64
    omega

theorem same0 (h0 : ∀ i, In (A0 m c i)) (h1 : ∀ i, In (A1 m c i)) (h2 : ∀ i, In (A2 m c i)) :
    outA m c = Cert.ReferenceIdeal.Value.G3 (F := Ideal) (A0 m c) (A1 m c) (A2 m c) := by
  funext y
  obtain ⟨b, s, e, rfl⟩ : ∃ b s e, y = ix3 b s e := ⟨_, _, _, eq_ix3 y⟩
  rw [outA_at m c h1, Cert.ReferenceIdeal.Own.g3_at _ _ _ h0 h1 h2]
  exact att_eq (fun i x => DK (A1 m c) b i ⟨e.val / 512, by omega⟩ x) _ _ (fun i x => deq_real _ _ (ok_bk h1 _ _ _ _)) (fun x => deq_real _ _ (ok_bx h0 _ _ _ _))
    (fun i => deq_real _ _ (ok_bw h2 _ _ _ _))

end Cert.KernelIdeal.Own

end
-- ==== Proof.Pre.lean ====
/- What the precondition says of each element of the three arguments. -/
module

public import proofs.«01_k».proof.Pre_in_format
public import proofs.«01_k».proof.Proof.Quant
public import Idealize.ShloMosaic.Lib.ReduceAll

@[expose] public section

set_option maxRecDepth 16384

noncomputable section

namespace Cert.Pre_in_format.Own

open Idealize.ShloMosaic
open Cert.Pre_in_format Cert.Quant

instance facts : Cert.Pre_in_format.Facts where
  bcast_S_S4x512x3072 := by decide
  reducesTo_S4x512x3072_S_d0_1_2 := by decide
  h_S_ := by decide
  bcast_S_S4x512x384 := by decide
  reducesTo_S4x512x384_S_d0_1_2 := by decide

/-- The tests of one array, element by element. -/
def tst (S : Shape) (h : S_.BroadcastsInDim S (![] : Fin 0 → Fin S.rank)) (a : FVec Ideal S .bf16) : IVec S 1 :=
  ori (cmpf .ole (Host.absf a) (broadcastInDim S ![] h (constant S_ .bf16 0x7F7F#16))) (cmpf .oeq (Host.absf a) (broadcastInDim S ![] h (constant S_ .bf16 0x7F80#16)))

theorem inf_eq : Ideal.ofBits .bf16 0x7F80#16 = ⊤ := by
  simp [Ideal.ofBits, Ideal.ieee]

theorem tst_at (S : Shape) (h : S_.BroadcastsInDim S (![] : Fin 0 → Fin S.rank)) (a : FVec Ideal S .bf16) (i : S.Idx) (e : tst S h a i = 1#1) : In (a i) := by
  have e' : BitVec.ofBool (decide (max (a i) (-(a i)) ≤ Ideal.ofBits .bf16 0x7F7F#16)) ||| BitVec.ofBool (decide (max (a i) (-(a i)) = Ideal.ofBits .bf16 0x7F80#16)) = 1#1 := e
  rw [inf_eq] at e'
  by_cases h1 : max (a i) (-(a i)) ≤ Ideal.ofBits .bf16 0x7F7F#16
  · exact .inl h1
  · by_cases h2 : max (a i) (-(a i)) = ⊤
    · exact .inr h2
    · simp [h1, h2] at e'

/-- All of them at once. -/
def all (S : Shape) (h : S_.BroadcastsInDim S (![] : Fin 0 → Fin S.rank)) (ax : List (Fin S.rank)) (r : S.ReducesTo ax S_) (a : FVec Ideal S .bf16) : IVec S_ 1 :=
  Host.reduce IntOp.andi (tst S h a) (constantI S_ 1 1#1) r Facts.h_S_

instance : Subsingleton S_.Idx := ⟨fun a b => funext fun i => i.elim0⟩

theorem all_at (S : Shape) (h : S_.BroadcastsInDim S (![] : Fin 0 → Fin S.rank)) (ax : List (Fin S.rank)) (r : S.ReducesTo ax S_) (a : FVec Ideal S .bf16) (j : S_.Idx)
    (e : all S h ax r a j = 1#1) (i : S.Idx) : In (a i) := tst_at S h a i (Host.reduce_andi_all _ _ _ _ j e i)

theorem fn_eq (a0 : FVec Ideal S4x512x3072 .bf16) (a1 a2 : FVec Ideal S4x512x384 .bf16) :
    fn a0 a1 a2 = andi (andi (all _ Facts.bcast_S_S4x512x3072 [0, 1, 2] Facts.reducesTo_S4x512x3072_S_d0_1_2 a0) (all _ Facts.bcast_S_S4x512x384 [0, 1, 2] Facts.reducesTo_S4x512x384_S_d0_1_2 a1))
      (all _ Facts.bcast_S_S4x512x384 [0, 1, 2] Facts.reducesTo_S4x512x384_S_d0_1_2 a2) := rfl

theorem and_one (x y : BitVec 1) (e : x &&& y = 1#1) : x = 1#1 ∧ y = 1#1 := by
  revert x y; decide

theorem fn_at (a0 : FVec Ideal S4x512x3072 .bf16) (a1 a2 : FVec Ideal S4x512x384 .bf16) (e : fn a0 a1 a2 = fun _ => 1#1) :
    (∀ i, In (a0 i)) ∧ (∀ i, In (a1 i)) ∧ (∀ i, In (a2 i)) := by
  rw [fn_eq] at e
  have e' := congrFun e (fun i => i.elim0)
  obtain ⟨h, h2⟩ := and_one _ _ e'
  obtain ⟨h0, h1⟩ := and_one _ _ h
  exact ⟨all_at _ _ _ _ _ _ h0, all_at _ _ _ _ _ _ h1, all_at _ _ _ _ _ _ h2⟩

end Cert.Pre_in_format.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.PDats
public import proofs.«01_k».proof.Proof.Same0
public import proofs.«01_k».proof.Proof.Pre
public import Idealize.ShloMosaic.Adequacy
public import Idealize.ShloMosaic.Init

@[expose] public section

noncomputable section

namespace Cert.Proof

open Idealize.ShloMosaic Idealize.SL.Sem
open Cert.KernelIdeal.Own (A0 A1 A2 same0 same1 same2 same3 same4 same5 same6)

/-- The kernel's seven results and the reference's are equal where the arguments' entries are numbers of their format. -/
theorem equal : Cert.algebraic_KernelIdeal_ReferenceIdeal_pre_in_format (hKernelIdeal := Cert.KernelIdeal.Gen.facts) (hReferenceIdeal := Cert.ReferenceIdeal.Gen.facts)
    (hPre_in_format := Cert.Pre_in_format.Own.facts) := by
  intro m g m' g' pre args
  have inp := fun c => Cert.Pre_in_format.Own.fn_at _ _ _ (pre c)
  refine ⟨fun c => Cert.ReferenceIdeal.Value.G3 (F := Ideal) (A0 m c) (A1 m c) (A2 m c), fun c => Cert.ReferenceIdeal.Value.G4 (F := Ideal) (A0 m c) (A1 m c) (A2 m c),
    fun c => Cert.ReferenceIdeal.Value.G5 (F := Ideal) (A0 m c) (A1 m c) (A2 m c), fun c => Cert.ReferenceIdeal.Value.G6 (F := Ideal) (A0 m c) (A1 m c) (A2 m c),
    fun c => Cert.ReferenceIdeal.Value.G7 (F := Ideal) (A0 m c) (A1 m c) (A2 m c), fun c => Cert.ReferenceIdeal.Value.G8 (F := Ideal) (A0 m c) (A1 m c) (A2 m c),
    fun c => Cert.ReferenceIdeal.Value.G9 (F := Ideal) (A0 m c) (A1 m c) (A2 m c), ?_, ?_⟩
  · refine (θ_run _ _ _).mono (fun r h c => ?_) (Cert.KernelIdeal.Own.results m g)
    obtain ⟨h0, h1, h2⟩ := inp c
    obtain ⟨e0, e1, e2, e3, e4, e5, e6, a⟩ := h c
    exact ⟨e0.trans (same0 m c h0 h1 h2), e1.trans (same1 m c h0), e2.trans (same2 m c h0), e3.trans (same3 m c h1), e4.trans (same4 m c h1),
      e5.trans (same5 m c h2), e6.trans (same6 m c h2), a⟩
  · refine (θ_run _ _ _).mono (fun r h c => ?_) (Cert.ReferenceIdeal.Value.run (F := Ideal) m' g')
    obtain ⟨x0, x1, x2⟩ := args c
    obtain ⟨e0, e1, e2, e3, e4, e5, e6, a⟩ := h c
    rw [x0, x1, x2] at e0 e1 e2 e3 e4 e5 e6
    exact ⟨e0, e1, e2, e3, e4, e5, e6, a⟩

theorem claim : Cert.Claim := ⟨Cert.Kernel.Gen.facts, Cert.KernelIdeal.Gen.facts, Cert.ReferenceIdeal.Gen.facts, Cert.Pre_in_format.Own.facts,
  fun m ρ _ => Cert.Kernel.Own.frame m ρ,
  fun m ρ _ => Cert.KernelIdeal.Own.frame m ρ,
  fun m ρ _ => Cert.KernelIdeal.Own.frame m ρ,
  fun m ρ _ => Cert.ReferenceIdeal.Gen.frame m ρ,
  fun m ρ _ => Cert.ReferenceIdeal.Gen.frame m ρ,
  IdealRules.named_const.statement Cert.KernelIdeal.κ "key_gain" .f32 0x3E38AA3B#32 (((Real.sqrt 64)⁻¹ * (Real.log 2)⁻¹ : ℝ) : EReal) rfl,
  equal⟩

end Cert.Proof

end
